-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_normal [hPre_weights_normal : Cert.Pre_weights_normal.Facts] (m : (ℓ : Loc Cert.KernelIdeal.nD Cert.KernelIdeal.τ Cert.KernelIdeal.sig) → Buf (Elt Ideal) ℓ) : Prop :=
  ∀ c : Dev Cert.KernelIdeal.nD,
    (Cert.Pre_weights_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_normal [hPre_weights_normal : Cert.Pre_weights_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_weights_normal [hKernelIdeal : Cert.KernelIdeal.Facts] [hPre_weights_normal : Cert.Pre_weights_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_weights_normal [hReferenceIdeal : Cert.ReferenceIdeal.Facts] [hPre_weights_normal : Cert.Pre_weights_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.BufferStatement Cert.KernelIdeal.S2x1792x2x128 Cert.KernelIdeal.S2x1792x1x128
  ∧ IdealRules.bf16_pair.PackStatement Cert.KernelIdeal.S8x128
  ∧ IdealRules.bf16_pair.Statement Cert.KernelIdeal.S1x8x2x128 Cert.KernelIdeal.S1x8x1x128
  ∧ IdealRules.bf16_pair.Statement Cert.KernelIdeal.S16x128 Cert.KernelIdeal.S8x128
  ∧ IdealRules.bf16_pair.Statement Cert.KernelIdeal.S1x64x2x128 Cert.KernelIdeal.S1x64x1x128
  ∧ IdealRules.bf16_pair.Statement Cert.KernelIdeal.S128x128 Cert.KernelIdeal.S64x128

def algebraic_KernelIdeal_ReferenceIdeal_pre_weights_normal [hKernelIdeal : Cert.KernelIdeal.Facts] [hReferenceIdeal : Cert.ReferenceIdeal.Facts] [hPre_weights_normal : Cert.Pre_weights_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_weights_normal : Cert.Pre_weights_normal.Facts),
    quiescent_Kernel (hKernel := hKernel)
    ∧ quiescent_KernelIdeal (hKernelIdeal := hKernelIdeal)
    ∧ quiescent_KernelIdeal_pre_weights_normal (hKernelIdeal := hKernelIdeal) (hPre_weights_normal := hPre_weights_normal)
    ∧ quiescent_ReferenceIdeal (hReferenceIdeal := hReferenceIdeal)
    ∧ quiescent_ReferenceIdeal_pre_weights_normal (hReferenceIdeal := hReferenceIdeal) (hPre_weights_normal := hPre_weights_normal)
    ∧ preserves_Kernel_KernelIdeal
    ∧ algebraic_KernelIdeal_ReferenceIdeal_pre_weights_normal (hKernelIdeal := hKernelIdeal) (hReferenceIdeal := hReferenceIdeal) (hPre_weights_normal := hPre_weights_normal)
-- ==== Pre_weights_normal.lean ====
abbrev S36864x7168 : Shape := ⟨2, ![36864, 7168]⟩
abbrev S7168 : Shape := ⟨1, ![7168]⟩
abbrev S_ : Shape := ⟨0, ![]⟩

class Facts : Prop where
  bcast_S_S36864x7168 : S_.BroadcastsInDim S36864x7168 (![] : Fin 0 → Fin S36864x7168.rank)
  reducesTo_S36864x7168_S_d0_1 : S36864x7168.ReducesTo [0, 1] S_
  h_S_ : 0 < S_.numel

variable [Facts]

def fn {F : FTy → Type} [FloatOps F] (main_arg0 : FVec F S36864x7168 .bf16) (main_arg1 : FVec F S7168 .f32) : IVec S_ 1 :=
  let main_v0 : FVec F S36864x7168 .bf16 := Host.absf main_arg0
  let main_cst : FVec F S_ .bf16 := constant S_ .bf16 0x0000#16
  let main_v1 : FVec F S36864x7168 .bf16 := broadcastInDim S36864x7168 ![] bcast_S_S36864x7168 main_cst
  let main_v2 : IVec S36864x7168 1 := cmpf .oeq main_v0 main_v1
  let main_cst_0 : FVec F S_ .bf16 := constant S_ .bf16 0x04E0#16
  let main_v3 : FVec F S36864x7168 .bf16 := broadcastInDim S36864x7168 ![] bcast_S_S36864x7168 main_cst_0
  let main_v4 : IVec S36864x7168 1 := cmpf .oge main_v0 main_v3
  let main_cst_1 : FVec F S_ .bf16 := constant S_ .bf16 0x7F7F#16
  let main_v5 : FVec F S36864x7168 .bf16 := broadcastInDim S36864x7168 ![] bcast_S_S36864x7168 main_cst_1
  let main_v6 : IVec S36864x7168 1 := cmpf .ole main_v0 main_v5
  let main_v7 : IVec S36864x7168 1 := andi main_v4 main_v6
  let main_v8 : IVec S36864x7168 1 := ori main_v2 main_v7
  let main_c : IVec S_ 1 := constantI S_ 1 1#1
  let main_v9 : IVec S_ 1 := (fun x v => Host.reduce IntOp.andi x v reducesTo_S36864x7168_S_d0_1 h_S_) main_v8 main_c
  main_v9
-- ==== Kernel.lean ====
abbrev S36864x7168 : Shape := ⟨2, ![36864, 7168]⟩
abbrev S7168 : Shape := ⟨1, ![7168]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S28x8x8x4 : Shape := ⟨4, ![28, 8, 8, 4]⟩
abbrev S28x8x4x8 : Shape := ⟨4, ![28, 8, 4, 8]⟩
abbrev S7168x1 : Shape := ⟨2, ![7168, 1]⟩
abbrev S7168x128 : Shape := ⟨2, ![7168, 128]⟩
abbrev S36864x3584 : Shape := ⟨2, ![36864, 3584]⟩
abbrev S36864x224 : Shape := ⟨2, ![36864, 224]⟩
abbrev S144x1x256 : Shape := ⟨3, ![144, 1, 256]⟩
abbrev S256x7168 : Shape := ⟨2, ![256, 7168]⟩
abbrev S256x3584 : Shape := ⟨2, ![256, 3584]⟩
abbrev S256x224 : Shape := ⟨2, ![256, 224]⟩
abbrev S1x1x256 : Shape := ⟨3, ![1, 1, 256]⟩
abbrev S2x1792x128 : Shape := ⟨3, ![2, 1792, 128]⟩
abbrev S16x128 : Shape := ⟨2, ![16, 128]⟩
abbrev S8x128 : Shape := ⟨2, ![8, 128]⟩
abbrev S1x8x128 : Shape := ⟨3, ![1, 8, 128]⟩
abbrev S128 : Shape := ⟨1, ![128]⟩
abbrev S1x128 : Shape := ⟨2, ![1, 128]⟩
abbrev S1x1x128 : Shape := ⟨3, ![1, 1, 128]⟩
abbrev S128x128 : Shape := ⟨2, ![128, 128]⟩
abbrev S1x64x128 : Shape := ⟨3, ![1, 64, 128]⟩
abbrev S64x128 : Shape := ⟨2, ![64, 128]⟩
abbrev S36864x1 : Shape := ⟨2, ![36864, 1]⟩

abbrev nBuf : Space → Nat
  | .hbm => 106
  | .vmem => 12
  | .smem => 0
  | _ => 0

abbrev bufTy : (tb : Table) → Fin (tcTables nBuf tb) → BufTy
  | .hbm, ⟨0, _⟩ => ⟨S36864x7168, .bf16⟩
  | .hbm, ⟨1, _⟩ => ⟨S7168, .f32⟩
  | .hbm, ⟨2, _⟩ => ⟨S256, .i32⟩
  | .hbm, ⟨3, _⟩ => ⟨S_, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S256, .i1⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S256, .i1⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i1⟩
  | .hbm, ⟨53, _⟩ => ⟨S_, .i32⟩
  | .hbm, ⟨54, _⟩ => ⟨S_, .i1⟩
  | .hbm, ⟨55, _⟩ => ⟨S256, .i1⟩
  | .hbm, ⟨56, _⟩ => ⟨S256, .i1⟩
  | .hbm, ⟨57, _⟩ => ⟨S256, .i1⟩
  | .hbm, ⟨58, _⟩ => ⟨S256, .i32⟩
  | .hbm, ⟨59, _⟩ => ⟨S256, .i32⟩
  | .hbm, ⟨60, _⟩ => ⟨S256, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S_, .i32⟩
  | .hbm, ⟨70, _⟩ => ⟨S256, .i32⟩
  | .hbm, ⟨71, _⟩ => ⟨S256, .i1⟩
  | .hbm, ⟨72, _⟩ => ⟨S_, .i32⟩
  | .hbm, ⟨73, _⟩ => ⟨S256, .i32⟩
  | .hbm, ⟨74, _⟩ => ⟨S256, .i1⟩
  | .hbm, ⟨75, _⟩ => ⟨S_, .i32⟩
  | .hbm, ⟨76, _⟩ => ⟨S_, .i1⟩
  | .hbm, ⟨77, _⟩ => ⟨S256, .i1⟩
  | .hbm, ⟨78, _⟩ => ⟨S256, .i1⟩
  | .hbm, ⟨79, _⟩ => ⟨S256, .i1⟩
  | .hbm, ⟨80, _⟩ => ⟨S256, .i32⟩
  | .hbm, ⟨81, _⟩ => ⟨S256, .i32⟩
  | .hbm, ⟨82, _⟩ => ⟨S256, .i32⟩
  | .hbm, ⟨83, _⟩ => ⟨S_, .i32⟩
  | .hbm, ⟨84, _⟩ => ⟨S256, .i32⟩
  | .hbm, ⟨85, _⟩ => ⟨S256, .i32⟩
  | .hbm, ⟨86, _⟩ => ⟨S_, .i32⟩
  | .hbm, ⟨87, _⟩ => ⟨S256, .i32⟩
  | .hbm, ⟨88, _⟩ => ⟨S256, .i32⟩
  | .hbm, ⟨89, _⟩ => ⟨S256, .i32⟩
  | .hbm, ⟨90, _⟩ => ⟨S256, .i32⟩
  | .hbm, ⟨91, _⟩ => ⟨S256x1, .i32⟩
  | .hbm, ⟨92, _⟩ => ⟨S256, .i32⟩
  | .hbm, ⟨93, _⟩ => ⟨S1x256, .i32⟩
  | .hbm, ⟨94, _⟩ => ⟨S256x256, .i32⟩
  | .hbm, ⟨95, _⟩ => ⟨S256x256, .i32⟩
  | .hbm, ⟨96, _⟩ => ⟨S256x256, .i1⟩
  | .hbm, ⟨97, _⟩ => ⟨S256x256, .bf16⟩
  | .hbm, ⟨98, _⟩ => ⟨S28x8x8x4, .f32⟩
  | .hbm, ⟨99, _⟩ => ⟨S28x8x4x8, .f32⟩
  | .hbm, ⟨100, _⟩ => ⟨S7168x1, .f32⟩
  | .hbm, ⟨101, _⟩ => ⟨S7168x128, .f32⟩
  | .hbm, ⟨102, _⟩ => ⟨S36864x3584, .fp8e4m3⟩
  | .hbm, ⟨103, _⟩ => ⟨S36864x224, .i32⟩
  | .hbm, ⟨104, _⟩ => ⟨S144x1x256, .f32⟩
  | .hbm, ⟨105, _⟩ => ⟨S36864x1, .f32⟩
  | .local _ .vmem, ⟨0, _⟩ => ⟨S256x7168, .bf16⟩
  | .local _ .vmem, ⟨1, _⟩ => ⟨S256x7168, .bf16⟩
  | .local _ .vmem, ⟨2, _⟩ => ⟨S256x256, .bf16⟩
  | .local _ .vmem, ⟨3, _⟩ => ⟨S7168x128, .f32⟩
  | .local _ .vmem, ⟨4, _⟩ => ⟨S256x3584, .fp8e4m3⟩
  | .local _ .vmem, ⟨5, _⟩ => ⟨S256x3584, .fp8e4m3⟩
  | .local _ .vmem, ⟨6, _⟩ => ⟨S256x224, .i32⟩
  | .local _ .vmem, ⟨7, _⟩ => ⟨S256x224, .i32⟩
  | .local _ .vmem, ⟨8, _⟩ => ⟨S1x1x256, .f32⟩
  | .local _ .vmem, ⟨9, _⟩ => ⟨S1x1x256, .f32⟩
  | .local _ .vmem, ⟨10, _⟩ => ⟨S2x1792x128, .i32⟩
  | .local _ .vmem, ⟨11, _⟩ => ⟨S256x256, .i32⟩
  | _, _ => ⟨S36864x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v2 : Ref sig .tc := ⟨.hbm, 38, rfl⟩
abbrev main_c_1 : Ref sig .tc := ⟨.hbm, 39, rfl⟩
abbrev main_call2_v0 : Ref sig .tc := ⟨.hbm, 40, rfl⟩
abbrev main_call2_c : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_c_1 : Ref sig .tc := ⟨.hbm, 47, rfl⟩
abbrev main_call2_v5 : Ref sig .tc := ⟨.hbm, 48, rfl⟩
abbrev main_call2_v6 : Ref sig .tc := ⟨.hbm, 49, rfl⟩
abbrev main_call2_c_2 : Ref sig .tc := ⟨.hbm, 50, rfl⟩
abbrev main_call2_v7 : Ref sig .tc := ⟨.hbm, 51, rfl⟩
abbrev main_call2_v8 : Ref sig .tc := ⟨.hbm, 52, rfl⟩
abbrev main_call2_c_3 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_v3 : Ref sig .tc := ⟨.hbm, 60, rfl⟩
abbrev main_c_2 : Ref sig .tc := ⟨.hbm, 61, rfl⟩
abbrev main_call3_v0 : Ref sig .tc := ⟨.hbm, 62, rfl⟩
abbrev main_call3_c : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_c_1 : Ref sig .tc := ⟨.hbm, 69, rfl⟩
abbrev main_call3_v5 : Ref sig .tc := ⟨.hbm, 70, rfl⟩
abbrev main_call3_v6 : Ref sig .tc := ⟨.hbm, 71, rfl⟩
abbrev main_call3_c_2 : Ref sig .tc := ⟨.hbm, 72, rfl⟩
abbrev main_call3_v7 : Ref sig .tc := ⟨.hbm, 73, rfl⟩
abbrev main_call3_v8 : Ref sig .tc := ⟨.hbm, 74, rfl⟩
abbrev main_call3_c_3 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_v4 : Ref sig .tc := ⟨.hbm, 82, rfl⟩
abbrev main_c_3 : Ref sig .tc := ⟨.hbm, 83, rfl⟩
abbrev main_v5 : Ref sig .tc := ⟨.hbm, 84, rfl⟩
abbrev main_v6 : Ref sig .tc := ⟨.hbm, 85, rfl⟩
abbrev main_c_4 : Ref sig .tc := ⟨.hbm, 86, rfl⟩
abbrev main_v7 : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_v22_0 : Ref sig .tc := ⟨.hbm, 102, rfl⟩
abbrev main_v22_1 : Ref sig .tc := ⟨.hbm, 103, rfl⟩
abbrev main_v22_2 : Ref sig .tc := ⟨.hbm, 104, rfl⟩
abbrev main_v23 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![144], ![false]⟩

@[reducible] def k0_t1_loop : Scf.Loop 32 :=
  let c0_i32 : BitVec 32 := 0#32
  let c28_i32 : BitVec 32 := 28#32
  let v4 : BitVec 32 := Scalar.addi c0_i32 c28_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v186 : BitVec 32 := Scalar.muli arg9 c256_i32
  v186
def k0_off1 (k0_t1 : Fin k0_t1_loop.trips) : Fin 2 → Nat :=
  let c0_63 : Index := 0#32
  let c0_i32 : BitVec 32 := 0#32
  let c1_i32 : BitVec 32 := 1#32
  let arg9 : BitVec 32 := Scf.iv c0_i32 c1_i32 k0_t1
  let c256_i32 : BitVec 32 := 256#32
  let v186 : BitVec 32 := Scalar.muli arg9 c256_i32
  let v187 : BitVec 32 := v186
  let v188 : Index := Scalar.indexCast v187
  ![0, v188.toNat]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_66 : BitVec 32 := 256#32
  let v196 : BitVec 32 := Scalar.muli arg9 c256_i32_66
  let c0_i32_67 : BitVec 32 := 0#32
  let v197 : BitVec 32 := Scalar.addi v196 c0_i32_67
  v197
def k0_off2 (k0_t1 : Fin k0_t1_loop.trips) (c0_i32_67 : BitVec 32) : Fin 2 → Nat :=
  let c0_i32 : BitVec 32 := 0#32
  let c1_i32 : BitVec 32 := 1#32
  let arg9 : BitVec 32 := Scf.iv c0_i32 c1_i32 k0_t1
  let c256_i32_66 : BitVec 32 := 256#32
  let v196 : BitVec 32 := Scalar.muli arg9 c256_i32_66
  let v197 : BitVec 32 := Scalar.addi v196 c0_i32_67
  let v198 : BitVec 32 := v197
  let v199 : Index := Scalar.indexCast v198
  let c0_68 : Index := 0#32
  ![v199.toNat, 0]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_69 : BitVec 32 := 256#32
  let v202 : BitVec 32 := Scalar.muli arg9 c256_i32_69
  let c8_i32_70 : BitVec 32 := 8#32
  let v203 : BitVec 32 := Scalar.addi v202 c8_i32_70
  v203
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_72 : BitVec 32 := 256#32
  let v208 : BitVec 32 := Scalar.muli arg9 c256_i32_72
  let c16_i32_73 : BitVec 32 := 16#32
  let v209 : BitVec 32 := Scalar.addi v208 c16_i32_73
  v209
def k0_mult5 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_75 : BitVec 32 := 256#32
  let v214 : BitVec 32 := Scalar.muli arg9 c256_i32_75
  let c24_i32 : BitVec 32 := 24#32
  let v215 : BitVec 32 := Scalar.addi v214 c24_i32
  v215
def k0_off3 (k0_t1 : Fin k0_t1_loop.trips) (c0_i32_80 : BitVec 32) : Fin 3 → Nat :=
  let c0_81 : Index := 0#32
  let c0_i32 : BitVec 32 := 0#32
  let c1_i32 : BitVec 32 := 1#32
  let arg9 : BitVec 32 := Scf.iv c0_i32 c1_i32 k0_t1
  let c64_i32_79 : BitVec 32 := 64#32
  let v255 : BitVec 32 := Scalar.muli arg9 c64_i32_79
  let v256 : BitVec 32 := Scalar.addi v255 c0_i32_80
  let v257 : Index := Scalar.indexCast v256
  let c0_82 : Index := 0#32
  ![0, v257.toNat, 0]
def k0_mult6 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_83 : BitVec 32 := 256#32
  let v268 : BitVec 32 := Scalar.muli arg9 c256_i32_83
  let c32_i32_84 : BitVec 32 := 32#32
  let v269 : BitVec 32 := Scalar.addi v268 c32_i32_84
  v269
def k0_mult7 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_86 : BitVec 32 := 256#32
  let v274 : BitVec 32 := Scalar.muli arg9 c256_i32_86
  let c40_i32 : BitVec 32 := 40#32
  let v275 : BitVec 32 := Scalar.addi v274 c40_i32
  v275
def k0_mult8 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_88 : BitVec 32 := 256#32
  let v280 : BitVec 32 := Scalar.muli arg9 c256_i32_88
  let c48_i32 : BitVec 32 := 48#32
  let v281 : BitVec 32 := Scalar.addi v280 c48_i32
  v281
def k0_mult9 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_90 : BitVec 32 := 256#32
  let v286 : BitVec 32 := Scalar.muli arg9 c256_i32_90
  let c56_i32 : BitVec 32 := 56#32
  let v287 : BitVec 32 := Scalar.addi v286 c56_i32
  v287
def k0_mult10 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_98 : BitVec 32 := 256#32
  let v340 : BitVec 32 := Scalar.muli arg9 c256_i32_98
  let c64_i32_99 : BitVec 32 := 64#32
  let v341 : BitVec 32 := Scalar.addi v340 c64_i32_99
  v341
def k0_mult11 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_101 : BitVec 32 := 256#32
  let v346 : BitVec 32 := Scalar.muli arg9 c256_i32_101
  let c72_i32 : BitVec 32 := 72#32
  let v347 : BitVec 32 := Scalar.addi v346 c72_i32
  v347
def k0_mult12 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_103 : BitVec 32 := 256#32
  let v352 : BitVec 32 := Scalar.muli arg9 c256_i32_103
  let c80_i32 : BitVec 32 := 80#32
  let v353 : BitVec 32 := Scalar.addi v352 c80_i32
  v353
def k0_mult13 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_105 : BitVec 32 := 256#32
  let v358 : BitVec 32 := Scalar.muli arg9 c256_i32_105
  let c88_i32 : BitVec 32 := 88#32
  let v359 : BitVec 32 := Scalar.addi v358 c88_i32
  v359
def k0_mult14 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_111 : BitVec 32 := 256#32
  let v412 : BitVec 32 := Scalar.muli arg9 c256_i32_111
  let c96_i32 : BitVec 32 := 96#32
  let v413 : BitVec 32 := Scalar.addi v412 c96_i32
  v413
def k0_mult15 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_113 : BitVec 32 := 256#32
  let v418 : BitVec 32 := Scalar.muli arg9 c256_i32_113
  let c104_i32 : BitVec 32 := 104#32
  let v419 : BitVec 32 := Scalar.addi v418 c104_i32
  v419
def k0_mult16 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_115 : BitVec 32 := 256#32
  let v424 : BitVec 32 := Scalar.muli arg9 c256_i32_115
  let c112_i32 : BitVec 32 := 112#32
  let v425 : BitVec 32 := Scalar.addi v424 c112_i32
  v425
def k0_mult17 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_117 : BitVec 32 := 256#32
  let v430 : BitVec 32 := Scalar.muli arg9 c256_i32_117
  let c120_i32 : BitVec 32 := 120#32
  let v431 : BitVec 32 := Scalar.addi v430 c120_i32
  v431
def k0_mult18 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_122 : BitVec 32 := 256#32
  let v484 : BitVec 32 := Scalar.muli arg9 c256_i32_122
  let c128_i32_123 : BitVec 32 := 128#32
  let v485 : BitVec 32 := Scalar.addi v484 c128_i32_123
  v485
def k0_mult19 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_125 : BitVec 32 := 256#32
  let v490 : BitVec 32 := Scalar.muli arg9 c256_i32_125
  let c136_i32 : BitVec 32 := 136#32
  let v491 : BitVec 32 := Scalar.addi v490 c136_i32
  v491
def k0_mult20 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_127 : BitVec 32 := 256#32
  let v496 : BitVec 32 := Scalar.muli arg9 c256_i32_127
  let c144_i32_128 : BitVec 32 := 144#32
  let v497 : BitVec 32 := Scalar.addi v496 c144_i32_128
  v497
def k0_mult21 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_130 : BitVec 32 := 256#32
  let v502 : BitVec 32 := Scalar.muli arg9 c256_i32_130
  let c152_i32 : BitVec 32 := 152#32
  let v503 : BitVec 32 := Scalar.addi v502 c152_i32
  v503
def k0_mult22 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_136 : BitVec 32 := 256#32
  let v556 : BitVec 32 := Scalar.muli arg9 c256_i32_136
  let c160_i32 : BitVec 32 := 160#32
  let v557 : BitVec 32 := Scalar.addi v556 c160_i32
  v557
def k0_mult23 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_138 : BitVec 32 := 256#32
  let v562 : BitVec 32 := Scalar.muli arg9 c256_i32_138
  let c168_i32 : BitVec 32 := 168#32
  let v563 : BitVec 32 := Scalar.addi v562 c168_i32
  v563
def k0_mult24 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_140 : BitVec 32 := 256#32
  let v568 : BitVec 32 := Scalar.muli arg9 c256_i32_140
  let c176_i32 : BitVec 32 := 176#32
  let v569 : BitVec 32 := Scalar.addi v568 c176_i32
  v569
def k0_mult25 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_142 : BitVec 32 := 256#32
  let v574 : BitVec 32 := Scalar.muli arg9 c256_i32_142
  let c184_i32 : BitVec 32 := 184#32
  let v575 : BitVec 32 := Scalar.addi v574 c184_i32
  v575
def k0_mult26 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_147 : BitVec 32 := 256#32
  let v628 : BitVec 32 := Scalar.muli arg9 c256_i32_147
  let c192_i32_148 : BitVec 32 := 192#32
  let v629 : BitVec 32 := Scalar.addi v628 c192_i32_148
  v629
def k0_mult27 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_150 : BitVec 32 := 256#32
  let v634 : BitVec 32 := Scalar.muli arg9 c256_i32_150
  let c200_i32 : BitVec 32 := 200#32
  let v635 : BitVec 32 := Scalar.addi v634 c200_i32
  v635
def k0_mult28 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_152 : BitVec 32 := 256#32
  let v640 : BitVec 32 := Scalar.muli arg9 c256_i32_152
  let c208_i32_153 : BitVec 32 := 208#32
  let v641 : BitVec 32 := Scalar.addi v640 c208_i32_153
  v641
def k0_mult29 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_155 : BitVec 32 := 256#32
  let v646 : BitVec 32 := Scalar.muli arg9 c256_i32_155
  let c216_i32 : BitVec 32 := 216#32
  let v647 : BitVec 32 := Scalar.addi v646 c216_i32
  v647
def k0_mult30 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_160 : BitVec 32 := 256#32
  let v700 : BitVec 32 := Scalar.muli arg9 c256_i32_160
  let c224_i32_161 : BitVec 32 := 224#32
  let v701 : BitVec 32 := Scalar.addi v700 c224_i32_161
  v701
def k0_mult31 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_163 : BitVec 32 := 256#32
  let v706 : BitVec 32 := Scalar.muli arg9 c256_i32_163
  let c232_i32 : BitVec 32 := 232#32
  let v707 : BitVec 32 := Scalar.addi v706 c232_i32
  v707
def k0_mult32 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_165 : BitVec 32 := 256#32
  let v712 : BitVec 32 := Scalar.muli arg9 c256_i32_165
  let c240_i32 : BitVec 32 := 240#32
  let v713 : BitVec 32 := Scalar.addi v712 c240_i32
  v713
def k0_mult33 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_167 : BitVec 32 := 256#32
  let v718 : BitVec 32 := Scalar.muli arg9 c256_i32_167
  let c248_i32 : BitVec 32 := 248#32
  let v719 : BitVec 32 := Scalar.addi v718 c248_i32
  v719
def k0_mult34 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_172 : BitVec 32 := 8#32
  let v768 : BitVec 32 := Scalar.muli arg9 c8_i32_172
  v768
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_172 : BitVec 32 := 8#32
  let v768 : BitVec 32 := Scalar.muli arg9 c8_i32_172
  let v769 : BitVec 32 := v768
  let v770 : Index := Scalar.indexCast v769
  let c0_173 : Index := 0#32
  ![v770.toNat, 0]
def k0_mult35 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_175 : BitVec 32 := 256#32
  let v779 : BitVec 32 := Scalar.muli arg9 c256_i32_175
  let c0_i32_176 : BitVec 32 := 0#32
  let v780 : BitVec 32 := Scalar.addi v779 c0_i32_176
  v780
def k0_mult36 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_178 : BitVec 32 := 256#32
  let v785 : BitVec 32 := Scalar.muli arg9 c256_i32_178
  let c8_i32_179 : BitVec 32 := 8#32
  let v786 : BitVec 32 := Scalar.addi v785 c8_i32_179
  v786
def k0_mult37 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_181 : BitVec 32 := 256#32
  let v791 : BitVec 32 := Scalar.muli arg9 c256_i32_181
  let c16_i32_182 : BitVec 32 := 16#32
  let v792 : BitVec 32 := Scalar.addi v791 c16_i32_182
  v792
def k0_mult38 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_184 : BitVec 32 := 256#32
  let v797 : BitVec 32 := Scalar.muli arg9 c256_i32_184
  let c24_i32_185 : BitVec 32 := 24#32
  let v798 : BitVec 32 := Scalar.addi v797 c24_i32_185
  v798
def k0_off5 (k0_t1 : Fin k0_t1_loop.trips) (c0_i32_194 : BitVec 32) : Fin 3 → Nat :=
  let c1 : Index := 1#32
  let c0_i32 : BitVec 32 := 0#32
  let c1_i32 : BitVec 32 := 1#32
  let arg9 : BitVec 32 := Scf.iv c0_i32 c1_i32 k0_t1
  let c64_i32_193 : BitVec 32 := 64#32
  let v838 : BitVec 32 := Scalar.muli arg9 c64_i32_193
  let v839 : BitVec 32 := Scalar.addi v838 c0_i32_194
  let v840 : Index := Scalar.indexCast v839
  let c0_195 : Index := 0#32
  ![1, v840.toNat, 0]
def k0_mult39 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_196 : BitVec 32 := 256#32
  let v851 : BitVec 32 := Scalar.muli arg9 c256_i32_196
  let c32_i32_197 : BitVec 32 := 32#32
  let v852 : BitVec 32 := Scalar.addi v851 c32_i32_197
  v852
def k0_mult40 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_199 : BitVec 32 := 256#32
  let v857 : BitVec 32 := Scalar.muli arg9 c256_i32_199
  let c40_i32_200 : BitVec 32 := 40#32
  let v858 : BitVec 32 := Scalar.addi v857 c40_i32_200
  v858
def k0_mult41 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_202 : BitVec 32 := 256#32
  let v863 : BitVec 32 := Scalar.muli arg9 c256_i32_202
  let c48_i32_203 : BitVec 32 := 48#32
  let v864 : BitVec 32 := Scalar.addi v863 c48_i32_203
  v864
def k0_mult42 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_205 : BitVec 32 := 256#32
  let v869 : BitVec 32 := Scalar.muli arg9 c256_i32_205
  let c56_i32_206 : BitVec 32 := 56#32
  let v870 : BitVec 32 := Scalar.addi v869 c56_i32_206
  v870
def k0_mult43 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_218 : BitVec 32 := 256#32
  let v923 : BitVec 32 := Scalar.muli arg9 c256_i32_218
  let c64_i32_219 : BitVec 32 := 64#32
  let v924 : BitVec 32 := Scalar.addi v923 c64_i32_219
  v924
def k0_mult44 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_221 : BitVec 32 := 256#32
  let v929 : BitVec 32 := Scalar.muli arg9 c256_i32_221
  let c72_i32_222 : BitVec 32 := 72#32
  let v930 : BitVec 32 := Scalar.addi v929 c72_i32_222
  v930
def k0_mult45 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_224 : BitVec 32 := 256#32
  let v935 : BitVec 32 := Scalar.muli arg9 c256_i32_224
  let c80_i32_225 : BitVec 32 := 80#32
  let v936 : BitVec 32 := Scalar.addi v935 c80_i32_225
  v936
def k0_mult46 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_227 : BitVec 32 := 256#32
  let v941 : BitVec 32 := Scalar.muli arg9 c256_i32_227
  let c88_i32_228 : BitVec 32 := 88#32
  let v942 : BitVec 32 := Scalar.addi v941 c88_i32_228
  v942
def k0_mult47 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_240 : BitVec 32 := 256#32
  let v995 : BitVec 32 := Scalar.muli arg9 c256_i32_240
  let c96_i32_241 : BitVec 32 := 96#32
  let v996 : BitVec 32 := Scalar.addi v995 c96_i32_241
  v996
def k0_mult48 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_243 : BitVec 32 := 256#32
  let v1001 : BitVec 32 := Scalar.muli arg9 c256_i32_243
  let c104_i32_244 : BitVec 32 := 104#32
  let v1002 : BitVec 32 := Scalar.addi v1001 c104_i32_244
  v1002
def k0_mult49 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_246 : BitVec 32 := 256#32
  let v1007 : BitVec 32 := Scalar.muli arg9 c256_i32_246
  let c112_i32_247 : BitVec 32 := 112#32
  let v1008 : BitVec 32 := Scalar.addi v1007 c112_i32_247
  v1008
def k0_mult50 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_249 : BitVec 32 := 256#32
  let v1013 : BitVec 32 := Scalar.muli arg9 c256_i32_249
  let c120_i32_250 : BitVec 32 := 120#32
  let v1014 : BitVec 32 := Scalar.addi v1013 c120_i32_250
  v1014
def k0_mult51 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_262 : BitVec 32 := 256#32
  let v1067 : BitVec 32 := Scalar.muli arg9 c256_i32_262
  let c128_i32_263 : BitVec 32 := 128#32
  let v1068 : BitVec 32 := Scalar.addi v1067 c128_i32_263
  v1068
def k0_mult52 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_265 : BitVec 32 := 256#32
  let v1073 : BitVec 32 := Scalar.muli arg9 c256_i32_265
  let c136_i32_266 : BitVec 32 := 136#32
  let v1074 : BitVec 32 := Scalar.addi v1073 c136_i32_266
  v1074
def k0_mult53 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_268 : BitVec 32 := 256#32
  let v1079 : BitVec 32 := Scalar.muli arg9 c256_i32_268
  let c144_i32_269 : BitVec 32 := 144#32
  let v1080 : BitVec 32 := Scalar.addi v1079 c144_i32_269
  v1080
def k0_mult54 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_271 : BitVec 32 := 256#32
  let v1085 : BitVec 32 := Scalar.muli arg9 c256_i32_271
  let c152_i32_272 : BitVec 32 := 152#32
  let v1086 : BitVec 32 := Scalar.addi v1085 c152_i32_272
  v1086
def k0_mult55 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_284 : BitVec 32 := 256#32
  let v1139 : BitVec 32 := Scalar.muli arg9 c256_i32_284
  let c160_i32_285 : BitVec 32 := 160#32
  let v1140 : BitVec 32 := Scalar.addi v1139 c160_i32_285
  v1140
def k0_mult56 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_287 : BitVec 32 := 256#32
  let v1145 : BitVec 32 := Scalar.muli arg9 c256_i32_287
  let c168_i32_288 : BitVec 32 := 168#32
  let v1146 : BitVec 32 := Scalar.addi v1145 c168_i32_288
  v1146
def k0_mult57 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_290 : BitVec 32 := 256#32
  let v1151 : BitVec 32 := Scalar.muli arg9 c256_i32_290
  let c176_i32_291 : BitVec 32 := 176#32
  let v1152 : BitVec 32 := Scalar.addi v1151 c176_i32_291
  v1152
def k0_mult58 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_293 : BitVec 32 := 256#32
  let v1157 : BitVec 32 := Scalar.muli arg9 c256_i32_293
  let c184_i32_294 : BitVec 32 := 184#32
  let v1158 : BitVec 32 := Scalar.addi v1157 c184_i32_294
  v1158
def k0_mult59 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_306 : BitVec 32 := 256#32
  let v1211 : BitVec 32 := Scalar.muli arg9 c256_i32_306
  let c192_i32_307 : BitVec 32 := 192#32
  let v1212 : BitVec 32 := Scalar.addi v1211 c192_i32_307
  v1212
def k0_mult60 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_309 : BitVec 32 := 256#32
  let v1217 : BitVec 32 := Scalar.muli arg9 c256_i32_309
  let c200_i32_310 : BitVec 32 := 200#32
  let v1218 : BitVec 32 := Scalar.addi v1217 c200_i32_310
  v1218
def k0_mult61 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_312 : BitVec 32 := 256#32
  let v1223 : BitVec 32 := Scalar.muli arg9 c256_i32_312
  let c208_i32_313 : BitVec 32 := 208#32
  let v1224 : BitVec 32 := Scalar.addi v1223 c208_i32_313
  v1224
def k0_mult62 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_315 : BitVec 32 := 256#32
  let v1229 : BitVec 32 := Scalar.muli arg9 c256_i32_315
  let c216_i32_316 : BitVec 32 := 216#32
  let v1230 : BitVec 32 := Scalar.addi v1229 c216_i32_316
  v1230
def k0_mult63 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_328 : BitVec 32 := 256#32
  let v1283 : BitVec 32 := Scalar.muli arg9 c256_i32_328
  let c224_i32_329 : BitVec 32 := 224#32
  let v1284 : BitVec 32 := Scalar.addi v1283 c224_i32_329
  v1284
def k0_mult64 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_331 : BitVec 32 := 256#32
  let v1289 : BitVec 32 := Scalar.muli arg9 c256_i32_331
  let c232_i32_332 : BitVec 32 := 232#32
  let v1290 : BitVec 32 := Scalar.addi v1289 c232_i32_332
  v1290
def k0_mult65 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_334 : BitVec 32 := 256#32
  let v1295 : BitVec 32 := Scalar.muli arg9 c256_i32_334
  let c240_i32_335 : BitVec 32 := 240#32
  let v1296 : BitVec 32 := Scalar.addi v1295 c240_i32_335
  v1296
def k0_mult66 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_337 : BitVec 32 := 256#32
  let v1301 : BitVec 32 := Scalar.muli arg9 c256_i32_337
  let c248_i32_338 : BitVec 32 := 248#32
  let v1302 : BitVec 32 := Scalar.addi v1301 c248_i32_338
  v1302
def k0_mult67 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_350 : BitVec 32 := 8#32
  let v1351 : BitVec 32 := Scalar.muli arg9 c8_i32_350
  v1351
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_350 : BitVec 32 := 8#32
  let v1351 : BitVec 32 := Scalar.muli arg9 c8_i32_350
  let v1352 : BitVec 32 := v1351
  let v1353 : Index := Scalar.indexCast v1352
  let c128_351 : Index := 128#32
  ![v1353.toNat, 128]
@[reducible] def k0_t2_loop : Scf.Loop 32 :=
  let c0_i32_22 : BitVec 32 := 0#32
  let c28_i32_23 : BitVec 32 := 28#32
  let v93 : BitVec 32 := Scalar.addi c0_i32_22 c28_i32_23
  let c1_i32_24 : BitVec 32 := 1#32
  ⟨c0_i32_22, v93, c1_i32_24⟩
def k0_mult68 (k0_t2 : Fin k0_t2_loop.trips) : BitVec 32 :=
  let c0_i32_22 : BitVec 32 := 0#32
  let c1_i32_24 : BitVec 32 := 1#32
  let arg9 : BitVec 32 := Scf.iv c0_i32_22 c1_i32_24 k0_t2
  let c64_i32_63 : BitVec 32 := 64#32
  let v186 : BitVec 32 := Scalar.muli arg9 c64_i32_63
  v186
def k0_off7 (k0_t2 : Fin k0_t2_loop.trips) : Fin 3 → Nat :=
  let c0_64 : Index := 0#32
  let c0_i32_22 : BitVec 32 := 0#32
  let c1_i32_24 : BitVec 32 := 1#32
  let arg9 : BitVec 32 := Scf.iv c0_i32_22 c1_i32_24 k0_t2
  let c64_i32_63 : BitVec 32 := 64#32
  let v186 : BitVec 32 := Scalar.muli arg9 c64_i32_63
  let v187 : BitVec 32 := v186
  let v188 : Index := Scalar.indexCast v187
  let c0_65 : Index := 0#32
  ![0, v188.toNat, 0]
def k0_mult69 (k0_t2 : Fin k0_t2_loop.trips) : BitVec 32 :=
  let c0_i32_22 : BitVec 32 := 0#32
  let c1_i32_24 : BitVec 32 := 1#32
  let arg9 : BitVec 32 := Scf.iv c0_i32_22 c1_i32_24 k0_t2
  let c128_i32_68 : BitVec 32 := 128#32
  let v199 : BitVec 32 := Scalar.muli arg9 c128_i32_68
  v199
def k0_off8 (k0_t2 : Fin k0_t2_loop.trips) : Fin 2 → Nat :=
  let c0_69 : Index := 0#32
  let c0_i32_22 : BitVec 32 := 0#32
  let c1_i32_24 : BitVec 32 := 1#32
  let arg9 : BitVec 32 := Scf.iv c0_i32_22 c1_i32_24 k0_t2
  let c128_i32_68 : BitVec 32 := 128#32
  let v199 : BitVec 32 := Scalar.muli arg9 c128_i32_68
  let v200 : BitVec 32 := v199
  let v201 : Index := Scalar.indexCast v200
  ![0, v201.toNat]
@[reducible] def k0_t3_loop : Scf.Loop 32 :=
  let c0_i32_55 : BitVec 32 := 0#32
  let c28_i32_56 : BitVec 32 := 28#32
  let v181 : BitVec 32 := Scalar.addi c0_i32_55 c28_i32_56
  let c1_i32_57 : BitVec 32 := 1#32
  ⟨c0_i32_55, v181, c1_i32_57⟩
def k0_mult70 (k0_t3 : Fin k0_t3_loop.trips) : BitVec 32 :=
  let c0_i32_55 : BitVec 32 := 0#32
  let c1_i32_57 : BitVec 32 := 1#32
  let arg9 : BitVec 32 := Scf.iv c0_i32_55 c1_i32_57 k0_t3
  let c64_i32_63 : BitVec 32 := 64#32
  let v186 : BitVec 32 := Scalar.muli arg9 c64_i32_63
  v186
def k0_off9 (k0_t3 : Fin k0_t3_loop.trips) : Fin 3 → Nat :=
  let c1 : Index := 1#32
  let c0_i32_55 : BitVec 32 := 0#32
  let c1_i32_57 : BitVec 32 := 1#32
  let arg9 : BitVec 32 := Scf.iv c0_i32_55 c1_i32_57 k0_t3
  let c64_i32_63 : BitVec 32 := 64#32
  let v186 : BitVec 32 := Scalar.muli arg9 c64_i32_63
  let v187 : BitVec 32 := v186
  let v188 : Index := Scalar.indexCast v187
  let c0_64 : Index := 0#32
  ![1, v188.toNat, 0]
def k0_mult71 (k0_t3 : Fin k0_t3_loop.trips) : BitVec 32 :=
  let c0_i32_55 : BitVec 32 := 0#32
  let c1_i32_57 : BitVec 32 := 1#32
  let arg9 : BitVec 32 := Scf.iv c0_i32_55 c1_i32_57 k0_t3
  let c128_i32_67 : BitVec 32 := 128#32
  let v199 : BitVec 32 := Scalar.muli arg9 c128_i32_67
  v199
def k0_off10 (k0_t3 : Fin k0_t3_loop.trips) : Fin 2 → Nat :=
  let c128_68 : Index := 128#32
  let c0_i32_55 : BitVec 32 := 0#32
  let c1_i32_57 : BitVec 32 := 1#32
  let arg9 : BitVec 32 := Scf.iv c0_i32_55 c1_i32_57 k0_t3
  let c128_i32_67 : BitVec 32 := 128#32
  let v199 : BitVec 32 := Scalar.muli arg9 c128_i32_67
  let v200 : BitVec 32 := v199
  let v201 : Index := Scalar.indexCast v200
  ![128, v201.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x224 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S36864x7168 : Shape := ⟨2, ![36864, 7168]⟩
abbrev S7168 : Shape := ⟨1, ![7168]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S28x8x8x4 : Shape := ⟨4, ![28, 8, 8, 4]⟩
abbrev S28x8x4x8 : Shape := ⟨4, ![28, 8, 4, 8]⟩
abbrev S7168x1 : Shape := ⟨2, ![7168, 1]⟩
abbrev S7168x128 : Shape := ⟨2, ![7168, 128]⟩
abbrev S36864x3584 : Shape := ⟨2, ![36864, 3584]⟩
abbrev S36864x224 : Shape := ⟨2, ![36864, 224]⟩
abbrev S144x1x256 : Shape := ⟨3, ![144, 1, 256]⟩
abbrev S256x7168 : Shape := ⟨2, ![256, 7168]⟩
abbrev S256x3584 : Shape := ⟨2, ![256, 3584]⟩
abbrev S256x224 : Shape := ⟨2, ![256, 224]⟩
abbrev S1x1x256 : Shape := ⟨3, ![1, 1, 256]⟩
abbrev S2x1792x128 : Shape := ⟨3, ![2, 1792, 128]⟩
abbrev S2x1792x2x128 : Shape := ⟨4, ![2, 1792, 2, 128]⟩
abbrev S2x1792x1x128 : Shape := ⟨4, ![2, 1792, 1, 128]⟩
abbrev S16x128 : Shape := ⟨2, ![16, 128]⟩
abbrev S8x128 : Shape := ⟨2, ![8, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S128 : Shape := ⟨1, ![128]⟩
abbrev S1x128 : Shape := ⟨2, ![1, 128]⟩
abbrev S1x1x128 : Shape := ⟨3, ![1, 1, 128]⟩
abbrev S128x128 : Shape := ⟨2, ![128, 128]⟩
abbrev S1x64x128 : Shape := ⟨3, ![1, 64, 128]⟩
abbrev S1x64x2x128 : Shape := ⟨4, ![1, 64, 2, 128]⟩
abbrev S1x64x1x128 : Shape := ⟨4, ![1, 64, 1, 128]⟩
abbrev S64x128 : Shape := ⟨2, ![64, 128]⟩
abbrev S36864x1 : Shape := ⟨2, ![36864, 1]⟩

abbrev nBuf : Space → Nat
  | .hbm => 106
  | .vmem => 12
  | .smem => 0
  | _ => 0

abbrev bufTy : (tb : Table) → Fin (tcTables nBuf tb) → BufTy
  | .hbm, ⟨0, _⟩ => ⟨S36864x7168, .bf16⟩
  | .hbm, ⟨1, _⟩ => ⟨S7168, .f32⟩
  | .hbm, ⟨2, _⟩ => ⟨S256, .i32⟩
  | .hbm, ⟨3, _⟩ => ⟨S_, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S256, .i1⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S256, .i1⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i1⟩
  | .hbm, ⟨53, _⟩ => ⟨S_, .i32⟩
  | .hbm, ⟨54, _⟩ => ⟨S_, .i1⟩
  | .hbm, ⟨55, _⟩ => ⟨S256, .i1⟩
  | .hbm, ⟨56, _⟩ => ⟨S256, .i1⟩
  | .hbm, ⟨57, _⟩ => ⟨S256, .i1⟩
  | .hbm, ⟨58, _⟩ => ⟨S256, .i32⟩
  | .hbm, ⟨59, _⟩ => ⟨S256, .i32⟩
  | .hbm, ⟨60, _⟩ => ⟨S256, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S_, .i32⟩
  | .hbm, ⟨70, _⟩ => ⟨S256, .i32⟩
  | .hbm, ⟨71, _⟩ => ⟨S256, .i1⟩
  | .hbm, ⟨72, _⟩ => ⟨S_, .i32⟩
  | .hbm, ⟨73, _⟩ => ⟨S256, .i32⟩
  | .hbm, ⟨74, _⟩ => ⟨S256, .i1⟩
  | .hbm, ⟨75, _⟩ => ⟨S_, .i32⟩
  | .hbm, ⟨76, _⟩ => ⟨S_, .i1⟩
  | .hbm, ⟨77, _⟩ => ⟨S256, .i1⟩
  | .hbm, ⟨78, _⟩ => ⟨S256, .i1⟩
  | .hbm, ⟨79, _⟩ => ⟨S256, .i1⟩
  | .hbm, ⟨80, _⟩ => ⟨S256, .i32⟩
  | .hbm, ⟨81, _⟩ => ⟨S256, .i32⟩
  | .hbm, ⟨82, _⟩ => ⟨S256, .i32⟩
  | .hbm, ⟨83, _⟩ => ⟨S_, .i32⟩
  | .hbm, ⟨84, _⟩ => ⟨S256, .i32⟩
  | .hbm, ⟨85, _⟩ => ⟨S256, .i32⟩
  | .hbm, ⟨86, _⟩ => ⟨S_, .i32⟩
  | .hbm, ⟨87, _⟩ => ⟨S256, .i32⟩
  | .hbm, ⟨88, _⟩ => ⟨S256, .i32⟩
  | .hbm, ⟨89, _⟩ => ⟨S256, .i32⟩
  | .hbm, ⟨90, _⟩ => ⟨S256, .i32⟩
  | .hbm, ⟨91, _⟩ => ⟨S256x1, .i32⟩
  | .hbm, ⟨92, _⟩ => ⟨S256, .i32⟩
  | .hbm, ⟨93, _⟩ => ⟨S1x256, .i32⟩
  | .hbm, ⟨94, _⟩ => ⟨S256x256, .i32⟩
  | .hbm, ⟨95, _⟩ => ⟨S256x256, .i32⟩
  | .hbm, ⟨96, _⟩ => ⟨S256x256, .i1⟩
  | .hbm, ⟨97, _⟩ => ⟨S256x256, .bf16⟩
  | .hbm, ⟨98, _⟩ => ⟨S28x8x8x4, .f32⟩
  | .hbm, ⟨99, _⟩ => ⟨S28x8x4x8, .f32⟩
  | .hbm, ⟨100, _⟩ => ⟨S7168x1, .f32⟩
  | .hbm, ⟨101, _⟩ => ⟨S7168x128, .f32⟩
  | .hbm, ⟨102, _⟩ => ⟨S36864x3584, .fp8e4m3⟩
  | .hbm, ⟨103, _⟩ => ⟨S36864x224, .i32⟩
  | .hbm, ⟨104, _⟩ => ⟨S144x1x256, .f32⟩
  | .hbm, ⟨105, _⟩ => ⟨S36864x1, .f32⟩
  | .local _ .vmem, ⟨0, _⟩ => ⟨S256x7168, .bf16⟩
  | .local _ .vmem, ⟨1, _⟩ => ⟨S256x7168, .bf16⟩
  | .local _ .vmem, ⟨2, _⟩ => ⟨S256x256, .bf16⟩
  | .local _ .vmem, ⟨3, _⟩ => ⟨S7168x128, .f32⟩
  | .local _ .vmem, ⟨4, _⟩ => ⟨S256x3584, .fp8e4m3⟩
  | .local _ .vmem, ⟨5, _⟩ => ⟨S256x3584, .fp8e4m3⟩
  | .local _ .vmem, ⟨6, _⟩ => ⟨S256x224, .i32⟩
  | .local _ .vmem, ⟨7, _⟩ => ⟨S256x224, .i32⟩
  | .local _ .vmem, ⟨8, _⟩ => ⟨S1x1x256, .f32⟩
  | .local _ .vmem, ⟨9, _⟩ => ⟨S1x1x256, .f32⟩
  | .local _ .vmem, ⟨10, _⟩ => ⟨S2x1792x2x128, .bf16⟩
  | .local _ .vmem, ⟨11, _⟩ => ⟨S256x256, .i32⟩
  | _, _ => ⟨S36864x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v2 : Ref sig .tc := ⟨.hbm, 38, rfl⟩
abbrev main_c_1 : Ref sig .tc := ⟨.hbm, 39, rfl⟩
abbrev main_call2_v0 : Ref sig .tc := ⟨.hbm, 40, rfl⟩
abbrev main_call2_c : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_c_1 : Ref sig .tc := ⟨.hbm, 47, rfl⟩
abbrev main_call2_v5 : Ref sig .tc := ⟨.hbm, 48, rfl⟩
abbrev main_call2_v6 : Ref sig .tc := ⟨.hbm, 49, rfl⟩
abbrev main_call2_c_2 : Ref sig .tc := ⟨.hbm, 50, rfl⟩
abbrev main_call2_v7 : Ref sig .tc := ⟨.hbm, 51, rfl⟩
abbrev main_call2_v8 : Ref sig .tc := ⟨.hbm, 52, rfl⟩
abbrev main_call2_c_3 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_v3 : Ref sig .tc := ⟨.hbm, 60, rfl⟩
abbrev main_c_2 : Ref sig .tc := ⟨.hbm, 61, rfl⟩
abbrev main_call3_v0 : Ref sig .tc := ⟨.hbm, 62, rfl⟩
abbrev main_call3_c : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_c_1 : Ref sig .tc := ⟨.hbm, 69, rfl⟩
abbrev main_call3_v5 : Ref sig .tc := ⟨.hbm, 70, rfl⟩
abbrev main_call3_v6 : Ref sig .tc := ⟨.hbm, 71, rfl⟩
abbrev main_call3_c_2 : Ref sig .tc := ⟨.hbm, 72, rfl⟩
abbrev main_call3_v7 : Ref sig .tc := ⟨.hbm, 73, rfl⟩
abbrev main_call3_v8 : Ref sig .tc := ⟨.hbm, 74, rfl⟩
abbrev main_call3_c_3 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_v4 : Ref sig .tc := ⟨.hbm, 82, rfl⟩
abbrev main_c_3 : Ref sig .tc := ⟨.hbm, 83, rfl⟩
abbrev main_v5 : Ref sig .tc := ⟨.hbm, 84, rfl⟩
abbrev main_v6 : Ref sig .tc := ⟨.hbm, 85, rfl⟩
abbrev main_c_4 : Ref sig .tc := ⟨.hbm, 86, rfl⟩
abbrev main_v7 : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_v22_0 : Ref sig .tc := ⟨.hbm, 102, rfl⟩
abbrev main_v22_1 : Ref sig .tc := ⟨.hbm, 103, rfl⟩
abbrev main_v22_2 : Ref sig .tc := ⟨.hbm, 104, rfl⟩
abbrev main_v23 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![144], ![false]⟩

@[reducible] def k0_t1_loop : Scf.Loop 32 :=
  let c0_i32 : BitVec 32 := 0#32
  let c28_i32 : BitVec 32 := 28#32
  let v4 : BitVec 32 := Scalar.addi c0_i32 c28_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v186 : BitVec 32 := Scalar.muli arg9 c256_i32
  v186
def k0_off1 (k0_t1 : Fin k0_t1_loop.trips) : Fin 2 → Nat :=
  let c0_63 : Index := 0#32
  let c0_i32 : BitVec 32 := 0#32
  let c1_i32 : BitVec 32 := 1#32
  let arg9 : BitVec 32 := Scf.iv c0_i32 c1_i32 k0_t1
  let c256_i32 : BitVec 32 := 256#32
  let v186 : BitVec 32 := Scalar.muli arg9 c256_i32
  let v187 : BitVec 32 := v186
  let v188 : Index := Scalar.indexCast v187
  ![0, v188.toNat]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_66 : BitVec 32 := 256#32
  let v196 : BitVec 32 := Scalar.muli arg9 c256_i32_66
  let c0_i32_67 : BitVec 32 := 0#32
  let v197 : BitVec 32 := Scalar.addi v196 c0_i32_67
  v197
def k0_off2 (k0_t1 : Fin k0_t1_loop.trips) (c0_i32_67 : BitVec 32) : Fin 2 → Nat :=
  let c0_i32 : BitVec 32 := 0#32
  let c1_i32 : BitVec 32 := 1#32
  let arg9 : BitVec 32 := Scf.iv c0_i32 c1_i32 k0_t1
  let c256_i32_66 : BitVec 32 := 256#32
  let v196 : BitVec 32 := Scalar.muli arg9 c256_i32_66
  let v197 : BitVec 32 := Scalar.addi v196 c0_i32_67
  let v198 : BitVec 32 := v197
  let v199 : Index := Scalar.indexCast v198
  let c0_68 : Index := 0#32
  ![v199.toNat, 0]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_69 : BitVec 32 := 256#32
  let v202 : BitVec 32 := Scalar.muli arg9 c256_i32_69
  let c8_i32_70 : BitVec 32 := 8#32
  let v203 : BitVec 32 := Scalar.addi v202 c8_i32_70
  v203
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_72 : BitVec 32 := 256#32
  let v208 : BitVec 32 := Scalar.muli arg9 c256_i32_72
  let c16_i32_73 : BitVec 32 := 16#32
  let v209 : BitVec 32 := Scalar.addi v208 c16_i32_73
  v209
def k0_mult5 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_75 : BitVec 32 := 256#32
  let v214 : BitVec 32 := Scalar.muli arg9 c256_i32_75
  let c24_i32 : BitVec 32 := 24#32
  let v215 : BitVec 32 := Scalar.addi v214 c24_i32
  v215
def k0_off3 (k0_t1 : Fin k0_t1_loop.trips) (c0_i32_80 : BitVec 32) : Fin 4 → Nat :=
  let c0_81 : Index := 0#32
  let c0_i32 : BitVec 32 := 0#32
  let c1_i32 : BitVec 32 := 1#32
  let arg9 : BitVec 32 := Scf.iv c0_i32 c1_i32 k0_t1
  let c64_i32_79 : BitVec 32 := 64#32
  let v255 : BitVec 32 := Scalar.muli arg9 c64_i32_79
  let v256 : BitVec 32 := Scalar.addi v255 c0_i32_80
  let v257 : Index := Scalar.indexCast v256
  let c0_82 : Index := 0#32
  ![0, v257.toNat, 0, 0]
def k0_mult6 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_83 : BitVec 32 := 256#32
  let v268 : BitVec 32 := Scalar.muli arg9 c256_i32_83
  let c32_i32_84 : BitVec 32 := 32#32
  let v269 : BitVec 32 := Scalar.addi v268 c32_i32_84
  v269
def k0_mult7 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_86 : BitVec 32 := 256#32
  let v274 : BitVec 32 := Scalar.muli arg9 c256_i32_86
  let c40_i32 : BitVec 32 := 40#32
  let v275 : BitVec 32 := Scalar.addi v274 c40_i32
  v275
def k0_mult8 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_88 : BitVec 32 := 256#32
  let v280 : BitVec 32 := Scalar.muli arg9 c256_i32_88
  let c48_i32 : BitVec 32 := 48#32
  let v281 : BitVec 32 := Scalar.addi v280 c48_i32
  v281
def k0_mult9 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_90 : BitVec 32 := 256#32
  let v286 : BitVec 32 := Scalar.muli arg9 c256_i32_90
  let c56_i32 : BitVec 32 := 56#32
  let v287 : BitVec 32 := Scalar.addi v286 c56_i32
  v287
def k0_mult10 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_98 : BitVec 32 := 256#32
  let v340 : BitVec 32 := Scalar.muli arg9 c256_i32_98
  let c64_i32_99 : BitVec 32 := 64#32
  let v341 : BitVec 32 := Scalar.addi v340 c64_i32_99
  v341
def k0_mult11 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_101 : BitVec 32 := 256#32
  let v346 : BitVec 32 := Scalar.muli arg9 c256_i32_101
  let c72_i32 : BitVec 32 := 72#32
  let v347 : BitVec 32 := Scalar.addi v346 c72_i32
  v347
def k0_mult12 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_103 : BitVec 32 := 256#32
  let v352 : BitVec 32 := Scalar.muli arg9 c256_i32_103
  let c80_i32 : BitVec 32 := 80#32
  let v353 : BitVec 32 := Scalar.addi v352 c80_i32
  v353
def k0_mult13 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_105 : BitVec 32 := 256#32
  let v358 : BitVec 32 := Scalar.muli arg9 c256_i32_105
  let c88_i32 : BitVec 32 := 88#32
  let v359 : BitVec 32 := Scalar.addi v358 c88_i32
  v359
def k0_mult14 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_111 : BitVec 32 := 256#32
  let v412 : BitVec 32 := Scalar.muli arg9 c256_i32_111
  let c96_i32 : BitVec 32 := 96#32
  let v413 : BitVec 32 := Scalar.addi v412 c96_i32
  v413
def k0_mult15 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_113 : BitVec 32 := 256#32
  let v418 : BitVec 32 := Scalar.muli arg9 c256_i32_113
  let c104_i32 : BitVec 32 := 104#32
  let v419 : BitVec 32 := Scalar.addi v418 c104_i32
  v419
def k0_mult16 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_115 : BitVec 32 := 256#32
  let v424 : BitVec 32 := Scalar.muli arg9 c256_i32_115
  let c112_i32 : BitVec 32 := 112#32
  let v425 : BitVec 32 := Scalar.addi v424 c112_i32
  v425
def k0_mult17 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_117 : BitVec 32 := 256#32
  let v430 : BitVec 32 := Scalar.muli arg9 c256_i32_117
  let c120_i32 : BitVec 32 := 120#32
  let v431 : BitVec 32 := Scalar.addi v430 c120_i32
  v431
def k0_mult18 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_122 : BitVec 32 := 256#32
  let v484 : BitVec 32 := Scalar.muli arg9 c256_i32_122
  let c128_i32_123 : BitVec 32 := 128#32
  let v485 : BitVec 32 := Scalar.addi v484 c128_i32_123
  v485
def k0_mult19 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_125 : BitVec 32 := 256#32
  let v490 : BitVec 32 := Scalar.muli arg9 c256_i32_125
  let c136_i32 : BitVec 32 := 136#32
  let v491 : BitVec 32 := Scalar.addi v490 c136_i32
  v491
def k0_mult20 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_127 : BitVec 32 := 256#32
  let v496 : BitVec 32 := Scalar.muli arg9 c256_i32_127
  let c144_i32_128 : BitVec 32 := 144#32
  let v497 : BitVec 32 := Scalar.addi v496 c144_i32_128
  v497
def k0_mult21 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_130 : BitVec 32 := 256#32
  let v502 : BitVec 32 := Scalar.muli arg9 c256_i32_130
  let c152_i32 : BitVec 32 := 152#32
  let v503 : BitVec 32 := Scalar.addi v502 c152_i32
  v503
def k0_mult22 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_136 : BitVec 32 := 256#32
  let v556 : BitVec 32 := Scalar.muli arg9 c256_i32_136
  let c160_i32 : BitVec 32 := 160#32
  let v557 : BitVec 32 := Scalar.addi v556 c160_i32
  v557
def k0_mult23 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_138 : BitVec 32 := 256#32
  let v562 : BitVec 32 := Scalar.muli arg9 c256_i32_138
  let c168_i32 : BitVec 32 := 168#32
  let v563 : BitVec 32 := Scalar.addi v562 c168_i32
  v563
def k0_mult24 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_140 : BitVec 32 := 256#32
  let v568 : BitVec 32 := Scalar.muli arg9 c256_i32_140
  let c176_i32 : BitVec 32 := 176#32
  let v569 : BitVec 32 := Scalar.addi v568 c176_i32
  v569
def k0_mult25 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_142 : BitVec 32 := 256#32
  let v574 : BitVec 32 := Scalar.muli arg9 c256_i32_142
  let c184_i32 : BitVec 32 := 184#32
  let v575 : BitVec 32 := Scalar.addi v574 c184_i32
  v575
def k0_mult26 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_147 : BitVec 32 := 256#32
  let v628 : BitVec 32 := Scalar.muli arg9 c256_i32_147
  let c192_i32_148 : BitVec 32 := 192#32
  let v629 : BitVec 32 := Scalar.addi v628 c192_i32_148
  v629
def k0_mult27 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_150 : BitVec 32 := 256#32
  let v634 : BitVec 32 := Scalar.muli arg9 c256_i32_150
  let c200_i32 : BitVec 32 := 200#32
  let v635 : BitVec 32 := Scalar.addi v634 c200_i32
  v635
def k0_mult28 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_152 : BitVec 32 := 256#32
  let v640 : BitVec 32 := Scalar.muli arg9 c256_i32_152
  let c208_i32_153 : BitVec 32 := 208#32
  let v641 : BitVec 32 := Scalar.addi v640 c208_i32_153
  v641
def k0_mult29 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_155 : BitVec 32 := 256#32
  let v646 : BitVec 32 := Scalar.muli arg9 c256_i32_155
  let c216_i32 : BitVec 32 := 216#32
  let v647 : BitVec 32 := Scalar.addi v646 c216_i32
  v647
def k0_mult30 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_160 : BitVec 32 := 256#32
  let v700 : BitVec 32 := Scalar.muli arg9 c256_i32_160
  let c224_i32_161 : BitVec 32 := 224#32
  let v701 : BitVec 32 := Scalar.addi v700 c224_i32_161
  v701
def k0_mult31 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_163 : BitVec 32 := 256#32
  let v706 : BitVec 32 := Scalar.muli arg9 c256_i32_163
  let c232_i32 : BitVec 32 := 232#32
  let v707 : BitVec 32 := Scalar.addi v706 c232_i32
  v707
def k0_mult32 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_165 : BitVec 32 := 256#32
  let v712 : BitVec 32 := Scalar.muli arg9 c256_i32_165
  let c240_i32 : BitVec 32 := 240#32
  let v713 : BitVec 32 := Scalar.addi v712 c240_i32
  v713
def k0_mult33 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_167 : BitVec 32 := 256#32
  let v718 : BitVec 32 := Scalar.muli arg9 c256_i32_167
  let c248_i32 : BitVec 32 := 248#32
  let v719 : BitVec 32 := Scalar.addi v718 c248_i32
  v719
def k0_mult34 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_172 : BitVec 32 := 8#32
  let v768 : BitVec 32 := Scalar.muli arg9 c8_i32_172
  v768
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_172 : BitVec 32 := 8#32
  let v768 : BitVec 32 := Scalar.muli arg9 c8_i32_172
  let v769 : BitVec 32 := v768
  let v770 : Index := Scalar.indexCast v769
  let c0_173 : Index := 0#32
  ![v770.toNat, 0]
def k0_mult35 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_175 : BitVec 32 := 256#32
  let v779 : BitVec 32 := Scalar.muli arg9 c256_i32_175
  let c0_i32_176 : BitVec 32 := 0#32
  let v780 : BitVec 32 := Scalar.addi v779 c0_i32_176
  v780
def k0_mult36 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_178 : BitVec 32 := 256#32
  let v785 : BitVec 32 := Scalar.muli arg9 c256_i32_178
  let c8_i32_179 : BitVec 32 := 8#32
  let v786 : BitVec 32 := Scalar.addi v785 c8_i32_179
  v786
def k0_mult37 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_181 : BitVec 32 := 256#32
  let v791 : BitVec 32 := Scalar.muli arg9 c256_i32_181
  let c16_i32_182 : BitVec 32 := 16#32
  let v792 : BitVec 32 := Scalar.addi v791 c16_i32_182
  v792
def k0_mult38 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_184 : BitVec 32 := 256#32
  let v797 : BitVec 32 := Scalar.muli arg9 c256_i32_184
  let c24_i32_185 : BitVec 32 := 24#32
  let v798 : BitVec 32 := Scalar.addi v797 c24_i32_185
  v798
def k0_off5 (k0_t1 : Fin k0_t1_loop.trips) (c0_i32_194 : BitVec 32) : Fin 4 → Nat :=
  let c1 : Index := 1#32
  let c0_i32 : BitVec 32 := 0#32
  let c1_i32 : BitVec 32 := 1#32
  let arg9 : BitVec 32 := Scf.iv c0_i32 c1_i32 k0_t1
  let c64_i32_193 : BitVec 32 := 64#32
  let v838 : BitVec 32 := Scalar.muli arg9 c64_i32_193
  let v839 : BitVec 32 := Scalar.addi v838 c0_i32_194
  let v840 : Index := Scalar.indexCast v839
  let c0_195 : Index := 0#32
  ![1, v840.toNat, 0, 0]
def k0_mult39 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_196 : BitVec 32 := 256#32
  let v851 : BitVec 32 := Scalar.muli arg9 c256_i32_196
  let c32_i32_197 : BitVec 32 := 32#32
  let v852 : BitVec 32 := Scalar.addi v851 c32_i32_197
  v852
def k0_mult40 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_199 : BitVec 32 := 256#32
  let v857 : BitVec 32 := Scalar.muli arg9 c256_i32_199
  let c40_i32_200 : BitVec 32 := 40#32
  let v858 : BitVec 32 := Scalar.addi v857 c40_i32_200
  v858
def k0_mult41 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_202 : BitVec 32 := 256#32
  let v863 : BitVec 32 := Scalar.muli arg9 c256_i32_202
  let c48_i32_203 : BitVec 32 := 48#32
  let v864 : BitVec 32 := Scalar.addi v863 c48_i32_203
  v864
def k0_mult42 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_205 : BitVec 32 := 256#32
  let v869 : BitVec 32 := Scalar.muli arg9 c256_i32_205
  let c56_i32_206 : BitVec 32 := 56#32
  let v870 : BitVec 32 := Scalar.addi v869 c56_i32_206
  v870
def k0_mult43 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_218 : BitVec 32 := 256#32
  let v923 : BitVec 32 := Scalar.muli arg9 c256_i32_218
  let c64_i32_219 : BitVec 32 := 64#32
  let v924 : BitVec 32 := Scalar.addi v923 c64_i32_219
  v924
def k0_mult44 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_221 : BitVec 32 := 256#32
  let v929 : BitVec 32 := Scalar.muli arg9 c256_i32_221
  let c72_i32_222 : BitVec 32 := 72#32
  let v930 : BitVec 32 := Scalar.addi v929 c72_i32_222
  v930
def k0_mult45 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_224 : BitVec 32 := 256#32
  let v935 : BitVec 32 := Scalar.muli arg9 c256_i32_224
  let c80_i32_225 : BitVec 32 := 80#32
  let v936 : BitVec 32 := Scalar.addi v935 c80_i32_225
  v936
def k0_mult46 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_227 : BitVec 32 := 256#32
  let v941 : BitVec 32 := Scalar.muli arg9 c256_i32_227
  let c88_i32_228 : BitVec 32 := 88#32
  let v942 : BitVec 32 := Scalar.addi v941 c88_i32_228
  v942
def k0_mult47 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_240 : BitVec 32 := 256#32
  let v995 : BitVec 32 := Scalar.muli arg9 c256_i32_240
  let c96_i32_241 : BitVec 32 := 96#32
  let v996 : BitVec 32 := Scalar.addi v995 c96_i32_241
  v996
def k0_mult48 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_243 : BitVec 32 := 256#32
  let v1001 : BitVec 32 := Scalar.muli arg9 c256_i32_243
  let c104_i32_244 : BitVec 32 := 104#32
  let v1002 : BitVec 32 := Scalar.addi v1001 c104_i32_244
  v1002
def k0_mult49 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_246 : BitVec 32 := 256#32
  let v1007 : BitVec 32 := Scalar.muli arg9 c256_i32_246
  let c112_i32_247 : BitVec 32 := 112#32
  let v1008 : BitVec 32 := Scalar.addi v1007 c112_i32_247
  v1008
def k0_mult50 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_249 : BitVec 32 := 256#32
  let v1013 : BitVec 32 := Scalar.muli arg9 c256_i32_249
  let c120_i32_250 : BitVec 32 := 120#32
  let v1014 : BitVec 32 := Scalar.addi v1013 c120_i32_250
  v1014
def k0_mult51 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_262 : BitVec 32 := 256#32
  let v1067 : BitVec 32 := Scalar.muli arg9 c256_i32_262
  let c128_i32_263 : BitVec 32 := 128#32
  let v1068 : BitVec 32 := Scalar.addi v1067 c128_i32_263
  v1068
def k0_mult52 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_265 : BitVec 32 := 256#32
  let v1073 : BitVec 32 := Scalar.muli arg9 c256_i32_265
  let c136_i32_266 : BitVec 32 := 136#32
  let v1074 : BitVec 32 := Scalar.addi v1073 c136_i32_266
  v1074
def k0_mult53 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_268 : BitVec 32 := 256#32
  let v1079 : BitVec 32 := Scalar.muli arg9 c256_i32_268
  let c144_i32_269 : BitVec 32 := 144#32
  let v1080 : BitVec 32 := Scalar.addi v1079 c144_i32_269
  v1080
def k0_mult54 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_271 : BitVec 32 := 256#32
  let v1085 : BitVec 32 := Scalar.muli arg9 c256_i32_271
  let c152_i32_272 : BitVec 32 := 152#32
  let v1086 : BitVec 32 := Scalar.addi v1085 c152_i32_272
  v1086
def k0_mult55 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_284 : BitVec 32 := 256#32
  let v1139 : BitVec 32 := Scalar.muli arg9 c256_i32_284
  let c160_i32_285 : BitVec 32 := 160#32
  let v1140 : BitVec 32 := Scalar.addi v1139 c160_i32_285
  v1140
def k0_mult56 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_287 : BitVec 32 := 256#32
  let v1145 : BitVec 32 := Scalar.muli arg9 c256_i32_287
  let c168_i32_288 : BitVec 32 := 168#32
  let v1146 : BitVec 32 := Scalar.addi v1145 c168_i32_288
  v1146
def k0_mult57 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_290 : BitVec 32 := 256#32
  let v1151 : BitVec 32 := Scalar.muli arg9 c256_i32_290
  let c176_i32_291 : BitVec 32 := 176#32
  let v1152 : BitVec 32 := Scalar.addi v1151 c176_i32_291
  v1152
def k0_mult58 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_293 : BitVec 32 := 256#32
  let v1157 : BitVec 32 := Scalar.muli arg9 c256_i32_293
  let c184_i32_294 : BitVec 32 := 184#32
  let v1158 : BitVec 32 := Scalar.addi v1157 c184_i32_294
  v1158
def k0_mult59 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_306 : BitVec 32 := 256#32
  let v1211 : BitVec 32 := Scalar.muli arg9 c256_i32_306
  let c192_i32_307 : BitVec 32 := 192#32
  let v1212 : BitVec 32 := Scalar.addi v1211 c192_i32_307
  v1212
def k0_mult60 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_309 : BitVec 32 := 256#32
  let v1217 : BitVec 32 := Scalar.muli arg9 c256_i32_309
  let c200_i32_310 : BitVec 32 := 200#32
  let v1218 : BitVec 32 := Scalar.addi v1217 c200_i32_310
  v1218
def k0_mult61 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_312 : BitVec 32 := 256#32
  let v1223 : BitVec 32 := Scalar.muli arg9 c256_i32_312
  let c208_i32_313 : BitVec 32 := 208#32
  let v1224 : BitVec 32 := Scalar.addi v1223 c208_i32_313
  v1224
def k0_mult62 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_315 : BitVec 32 := 256#32
  let v1229 : BitVec 32 := Scalar.muli arg9 c256_i32_315
  let c216_i32_316 : BitVec 32 := 216#32
  let v1230 : BitVec 32 := Scalar.addi v1229 c216_i32_316
  v1230
def k0_mult63 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_328 : BitVec 32 := 256#32
  let v1283 : BitVec 32 := Scalar.muli arg9 c256_i32_328
  let c224_i32_329 : BitVec 32 := 224#32
  let v1284 : BitVec 32 := Scalar.addi v1283 c224_i32_329
  v1284
def k0_mult64 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_331 : BitVec 32 := 256#32
  let v1289 : BitVec 32 := Scalar.muli arg9 c256_i32_331
  let c232_i32_332 : BitVec 32 := 232#32
  let v1290 : BitVec 32 := Scalar.addi v1289 c232_i32_332
  v1290
def k0_mult65 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_334 : BitVec 32 := 256#32
  let v1295 : BitVec 32 := Scalar.muli arg9 c256_i32_334
  let c240_i32_335 : BitVec 32 := 240#32
  let v1296 : BitVec 32 := Scalar.addi v1295 c240_i32_335
  v1296
def k0_mult66 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_337 : BitVec 32 := 256#32
  let v1301 : BitVec 32 := Scalar.muli arg9 c256_i32_337
  let c248_i32_338 : BitVec 32 := 248#32
  let v1302 : BitVec 32 := Scalar.addi v1301 c248_i32_338
  v1302
def k0_mult67 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_350 : BitVec 32 := 8#32
  let v1351 : BitVec 32 := Scalar.muli arg9 c8_i32_350
  v1351
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_350 : BitVec 32 := 8#32
  let v1351 : BitVec 32 := Scalar.muli arg9 c8_i32_350
  let v1352 : BitVec 32 := v1351
  let v1353 : Index := Scalar.indexCast v1352
  let c128_351 : Index := 128#32
  ![v1353.toNat, 128]
@[reducible] def k0_t2_loop : Scf.Loop 32 :=
  let c0_i32_22 : BitVec 32 := 0#32
  let c28_i32_23 : BitVec 32 := 28#32
  let v93 : BitVec 32 := Scalar.addi c0_i32_22 c28_i32_23
  let c1_i32_24 : BitVec 32 := 1#32
  ⟨c0_i32_22, v93, c1_i32_24⟩
def k0_mult68 (k0_t2 : Fin k0_t2_loop.trips) : BitVec 32 :=
  let c0_i32_22 : BitVec 32 := 0#32
  let c1_i32_24 : BitVec 32 := 1#32
  let arg9 : BitVec 32 := Scf.iv c0_i32_22 c1_i32_24 k0_t2
  let c64_i32_63 : BitVec 32 := 64#32
  let v186 : BitVec 32 := Scalar.muli arg9 c64_i32_63
  v186
def k0_off7 (k0_t2 : Fin k0_t2_loop.trips) : Fin 4 → Nat :=
  let c0_64 : Index := 0#32
  let c0_i32_22 : BitVec 32 := 0#32
  let c1_i32_24 : BitVec 32 := 1#32
  let arg9 : BitVec 32 := Scf.iv c0_i32_22 c1_i32_24 k0_t2
  let c64_i32_63 : BitVec 32 := 64#32
  let v186 : BitVec 32 := Scalar.muli arg9 c64_i32_63
  let v187 : BitVec 32 := v186
  let v188 : Index := Scalar.indexCast v187
  let c0_65 : Index := 0#32
  ![0, v188.toNat, 0, 0]
def k0_mult69 (k0_t2 : Fin k0_t2_loop.trips) : BitVec 32 :=
  let c0_i32_22 : BitVec 32 := 0#32
  let c1_i32_24 : BitVec 32 := 1#32
  let arg9 : BitVec 32 := Scf.iv c0_i32_22 c1_i32_24 k0_t2
  let c128_i32_68 : BitVec 32 := 128#32
  let v199 : BitVec 32 := Scalar.muli arg9 c128_i32_68
  v199
def k0_off8 (k0_t2 : Fin k0_t2_loop.trips) : Fin 2 → Nat :=
  let c0_69 : Index := 0#32
  let c0_i32_22 : BitVec 32 := 0#32
  let c1_i32_24 : BitVec 32 := 1#32
  let arg9 : BitVec 32 := Scf.iv c0_i32_22 c1_i32_24 k0_t2
  let c128_i32_68 : BitVec 32 := 128#32
  let v199 : BitVec 32 := Scalar.muli arg9 c128_i32_68
  let v200 : BitVec 32 := v199
  let v201 : Index := Scalar.indexCast v200
  ![0, v201.toNat]
@[reducible] def k0_t3_loop : Scf.Loop 32 :=
  let c0_i32_55 : BitVec 32 := 0#32
  let c28_i32_56 : BitVec 32 := 28#32
  let v181 : BitVec 32 := Scalar.addi c0_i32_55 c28_i32_56
  let c1_i32_57 : BitVec 32 := 1#32
  ⟨c0_i32_55, v181, c1_i32_57⟩
def k0_mult70 (k0_t3 : Fin k0_t3_loop.trips) : BitVec 32 :=
  let c0_i32_55 : BitVec 32 := 0#32
  let c1_i32_57 : BitVec 32 := 1#32
  let arg9 : BitVec 32 := Scf.iv c0_i32_55 c1_i32_57 k0_t3
  let c64_i32_63 : BitVec 32 := 64#32
  let v186 : BitVec 32 := Scalar.muli arg9 c64_i32_63
  v186
def k0_off9 (k0_t3 : Fin k0_t3_loop.trips) : Fin 4 → Nat :=
  let c1 : Index := 1#32
  let c0_i32_55 : BitVec 32 := 0#32
  let c1_i32_57 : BitVec 32 := 1#32
  let arg9 : BitVec 32 := Scf.iv c0_i32_55 c1_i32_57 k0_t3
  let c64_i32_63 : BitVec 32 := 64#32
  let v186 : BitVec 32 := Scalar.muli arg9 c64_i32_63
  let v187 : BitVec 32 := v186
  let v188 : Index := Scalar.indexCast v187
  let c0_64 : Index := 0#32
  ![1, v188.toNat, 0, 0]
def k0_mult71 (k0_t3 : Fin k0_t3_loop.trips) : BitVec 32 :=
  let c0_i32_55 : BitVec 32 := 0#32
  let c1_i32_57 : BitVec 32 := 1#32
  let arg9 : BitVec 32 := Scf.iv c0_i32_55 c1_i32_57 k0_t3
  let c128_i32_67 : BitVec 32 := 128#32
  let v199 : BitVec 32 := Scalar.muli arg9 c128_i32_67
  v199
def k0_off10 (k0_t3 : Fin k0_t3_loop.trips) : Fin 2 → Nat :=
  let c128_68 : Index := 128#32
  let c0_i32_55 : BitVec 32 := 0#32
  let c1_i32_57 : BitVec 32 := 1#32
  let arg9 : BitVec 32 := Scf.iv c0_i32_55 c1_i32_57 k0_t3
  let c128_i32_67 : BitVec 32 := 128#32
  let v199 : BitVec 32 := Scalar.muli arg9 c128_i32_67
  let v200 : BitVec 32 := v199
  let v201 : Index := Scalar.indexCast v200
  ![128, v201.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x224 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S36864x7168 : Shape := ⟨2, ![36864, 7168]⟩
abbrev S7168 : Shape := ⟨1, ![7168]⟩
abbrev S36864x1792x4 : Shape := ⟨3, ![36864, 1792, 4]⟩
abbrev S1792x4 : Shape := ⟨2, ![1792, 4]⟩
abbrev S36864x1792x1 : Shape := ⟨3, ![36864, 1792, 1]⟩
abbrev S36864x1792 : Shape := ⟨2, ![36864, 1792]⟩
abbrev S1792x1 : Shape := ⟨2, ![1792, 1]⟩
abbrev S1792 : Shape := ⟨1, ![1792]⟩
abbrev S1x1792 : Shape := ⟨2, ![1, 1792]⟩
abbrev S_ : Shape := ⟨0, ![]⟩
abbrev S36864x1792x2 : Shape := ⟨3, ![36864, 1792, 2]⟩
abbrev S36864x3584 : Shape := ⟨2, ![36864, 3584]⟩
abbrev S36864x224x8 : Shape := ⟨3, ![36864, 224, 8]⟩
abbrev S36864x224 : Shape := ⟨2, ![36864, 224]⟩
abbrev S36864x224x1 : Shape := ⟨3, ![36864, 224, 1]⟩
abbrev S36864 : Shape := ⟨1, ![36864]⟩
abbrev S36864x1 : Shape := ⟨2, ![36864, 1]⟩

abbrev nBuf : Space → Nat
  | .hbm => 249
  | .vmem => 0
  | .smem => 0
  | _ => 0

abbrev hbmTy0_0 (i : Nat) : BufTy := match i % 128 with
  | 0 => ⟨S36864x7168, .bf16⟩
  | 1 => ⟨S7168, .f32⟩
  | 2 => ⟨S36864x1792x4, .bf16⟩
  | 3 => ⟨S1792x4, .f32⟩
  | 4 => ⟨S36864x1792x1, .bf16⟩
  | 5 => ⟨S36864x1792, .bf16⟩
  | 6 => ⟨S36864x1792x1, .bf16⟩
  | 7 => ⟨S36864x1792, .bf16⟩
  | 8 => ⟨S36864x1792x1, .bf16⟩
  | 9 => ⟨S36864x1792, .bf16⟩
  | 10 => ⟨S36864x1792x1, .bf16⟩
  | 11 => ⟨S36864x1792, .bf16⟩
  | 12 => ⟨S36864x1792, .bf16⟩
  | 13 => ⟨S36864x1792, .f32⟩
  | 14 => ⟨S1792x1, .f32⟩
  | 15 => ⟨S1792, .f32⟩
  | 16 => ⟨S1x1792, .f32⟩
  | 17 => ⟨S36864x1792, .f32⟩
  | 18 => ⟨S36864x1792, .f32⟩
  | 19 => ⟨S36864x1792, .bf16⟩
  | 20 => ⟨S36864x1792, .f32⟩
  | 21 => ⟨S1792x1, .f32⟩
  | 22 => ⟨S1792, .f32⟩
  | 23 => ⟨S1x1792, .f32⟩
  | 24 => ⟨S36864x1792, .f32⟩
  | 25 => ⟨S36864x1792, .f32⟩
  | 26 => ⟨S36864x1792, .bf16⟩
  | 27 => ⟨S36864x1792, .f32⟩
  | 28 => ⟨S1792x1, .f32⟩
  | 29 => ⟨S1792, .f32⟩
  | 30 => ⟨S1x1792, .f32⟩
  | 31 => ⟨S36864x1792, .f32⟩
  | 32 => ⟨S36864x1792, .f32⟩
  | 33 => ⟨S36864x1792, .bf16⟩
  | 34 => ⟨S36864x1792, .f32⟩
  | 35 => ⟨S1792x1, .f32⟩
  | 36 => ⟨S1792, .f32⟩
  | 37 => ⟨S1x1792, .f32⟩
  | 38 => ⟨S36864x1792, .f32⟩
  | 39 => ⟨S36864x1792, .f32⟩
  | 40 => ⟨S_, .i32⟩
  | 41 => ⟨S36864x1792, .i32⟩
  | 42 => ⟨S36864x1792, .i1⟩
  | 43 => ⟨S36864x1792, .i32⟩
  | 44 => ⟨S36864x1792, .i32⟩
  | 45 => ⟨S36864x1792, .i1⟩
  | 46 => ⟨S36864x1792, .i32⟩
  | 47 => ⟨S36864x1792, .i32⟩
  | 48 => ⟨S36864x1792, .i1⟩
  | 49 => ⟨S36864x1792, .i32⟩
  | 50 => ⟨S36864x1792, .i32⟩
  | 51 => ⟨S_, .i32⟩
  | 52 => ⟨S36864x1792, .i32⟩
  | 53 => ⟨S36864x1792, .i1⟩
  | 54 => ⟨S_, .i32⟩
  | 55 => ⟨S36864x1792, .i32⟩
  | 56 => ⟨S36864x1792, .i1⟩
  | 57 => ⟨S36864x1792, .i32⟩
  | 58 => ⟨S36864x1792, .i32⟩
  | 59 => ⟨S36864x1792, .i1⟩
  | 60 => ⟨S36864x1792, .i32⟩
  | 61 => ⟨S36864x1792, .i32⟩
  | 62 => ⟨S36864x1792, .i1⟩
  | 63 => ⟨S36864x1792, .i32⟩
  | 64 => ⟨S36864x1792, .i32⟩
  | 65 => ⟨S_, .i32⟩
  | 66 => ⟨S36864x1792, .i32⟩
  | 67 => ⟨S36864x1792, .i1⟩
  | 68 => ⟨S_, .i32⟩
  | 69 => ⟨S36864x1792, .i32⟩
  | 70 => ⟨S36864x1792, .i1⟩
  | 71 => ⟨S36864x1792, .i32⟩
  | 72 => ⟨S36864x1792, .i32⟩
  | 73 => ⟨S36864x1792, .i1⟩
  | 74 => ⟨S36864x1792, .i32⟩
  | 75 => ⟨S36864x1792, .i32⟩
  | 76 => ⟨S36864x1792, .i1⟩
  | 77 => ⟨S36864x1792, .i32⟩
  | 78 => ⟨S36864x1792, .i32⟩
  | 79 => ⟨S_, .i32⟩
  | 80 => ⟨S36864x1792, .i32⟩
  | 81 => ⟨S36864x1792, .i1⟩
  | 82 => ⟨S_, .i32⟩
  | 83 => ⟨S36864x1792, .i32⟩
  | 84 => ⟨S36864x1792, .i1⟩
  | 85 => ⟨S36864x1792, .i32⟩
  | 86 => ⟨S36864x1792, .i32⟩
  | 87 => ⟨S36864x1792, .i1⟩
  | 88 => ⟨S36864x1792, .i32⟩
  | 89 => ⟨S36864x1792, .i32⟩
  | 90 => ⟨S36864x1792, .i1⟩
  | 91 => ⟨S36864x1792, .i32⟩
  | 92 => ⟨S36864x1792, .i32⟩
  | 93 => ⟨S_, .i32⟩
  | 94 => ⟨S36864x1792, .i32⟩
  | 95 => ⟨S36864x1792, .i1⟩
  | 96 => ⟨S_, .i32⟩
  | 97 => ⟨S_, .i32⟩
  | 98 => ⟨S36864x1792, .i32⟩
  | 99 => ⟨S36864x1792, .i32⟩
  | 100 => ⟨S36864x1792, .i32⟩
  | 101 => ⟨S_, .i32⟩
  | 102 => ⟨S36864x1792, .i32⟩
  | 103 => ⟨S36864x1792, .i32⟩
  | 104 => ⟨S_, .i32⟩
  | 105 => ⟨S36864x1792, .i32⟩
  | 106 => ⟨S36864x1792, .i32⟩
  | 107 => ⟨S_, .i32⟩
  | 108 => ⟨S36864x1792, .i32⟩
  | 109 => ⟨S36864x1792, .i32⟩
  | 110 => ⟨S_, .i32⟩
  | 111 => ⟨S_, .i32⟩
  | 112 => ⟨S36864x1792, .i32⟩
  | 113 => ⟨S36864x1792, .i32⟩
  | 114 => ⟨S36864x1792, .i32⟩
  | 115 => ⟨S_, .i32⟩
  | 116 => ⟨S36864x1792, .i32⟩
  | 117 => ⟨S36864x1792, .i32⟩
  | 118 => ⟨S_, .i32⟩
  | 119 => ⟨S36864x1792, .i32⟩
  | 120 => ⟨S36864x1792, .i32⟩
  | 121 => ⟨S_, .i32⟩
  | 122 => ⟨S36864x1792, .i32⟩
  | 123 => ⟨S36864x1792, .i32⟩
  | 124 => ⟨S_, .i32⟩
  | 125 => ⟨S36864x1792, .i32⟩
  | 126 => ⟨S36864x1792, .i1⟩
  | 127 => ⟨S_, .i32⟩
  | _ => ⟨S36864x7168, .bf16⟩

abbrev hbmTy0_1 (i : Nat) : BufTy := match i % 128 with
  | 0 => ⟨S36864x1792, .i32⟩
  | 1 => ⟨S36864x1792, .i1⟩
  | 2 => ⟨S_, .i32⟩
  | 3 => ⟨S36864x1792, .i32⟩
  | 4 => ⟨S36864x1792, .i1⟩
  | 5 => ⟨S36864x1792, .bf16⟩
  | 6 => ⟨S36864x1792, .bf16⟩
  | 7 => ⟨S36864x1792, .bf16⟩
  | 8 => ⟨S_, .i32⟩
  | 9 => ⟨S36864x1792, .i32⟩
  | 10 => ⟨S36864x1792, .i1⟩
  | 11 => ⟨S_, .i32⟩
  | 12 => ⟨S36864x1792, .i32⟩
  | 13 => ⟨S36864x1792, .i1⟩
  | 14 => ⟨S_, .i32⟩
  | 15 => ⟨S36864x1792, .i32⟩
  | 16 => ⟨S36864x1792, .i1⟩
  | 17 => ⟨S36864x1792, .bf16⟩
  | 18 => ⟨S36864x1792, .bf16⟩
  | 19 => ⟨S36864x1792, .bf16⟩
  | 20 => ⟨S36864x1792x1, .bf16⟩
  | 21 => ⟨S36864x1792x1, .bf16⟩
  | 22 => ⟨S36864x1792x2, .bf16⟩
  | 23 => ⟨S36864x3584, .bf16⟩
  | 24 => ⟨S_, .i32⟩
  | 25 => ⟨S36864x1792, .i32⟩
  | 26 => ⟨S36864x1792, .i32⟩
  | 27 => ⟨S36864x1792, .i32⟩
  | 28 => ⟨S36864x1792, .i32⟩
  | 29 => ⟨S36864x224x8, .i32⟩
  | 30 => ⟨S_, .i32⟩
  | 31 => ⟨S36864x224, .i32⟩
  | 32 => ⟨S36864x224x1, .i32⟩
  | 33 => ⟨S36864x224, .i32⟩
  | 34 => ⟨S_, .i32⟩
  | 35 => ⟨S36864x224, .i32⟩
  | 36 => ⟨S36864x224, .i32⟩
  | 37 => ⟨S36864x224, .i32⟩
  | 38 => ⟨S36864x224x1, .i32⟩
  | 39 => ⟨S36864x224, .i32⟩
  | 40 => ⟨S_, .i32⟩
  | 41 => ⟨S36864x224, .i32⟩
  | 42 => ⟨S36864x224, .i32⟩
  | 43 => ⟨S36864x224, .i32⟩
  | 44 => ⟨S36864x224x1, .i32⟩
  | 45 => ⟨S36864x224, .i32⟩
  | 46 => ⟨S_, .i32⟩
  | 47 => ⟨S36864x224, .i32⟩
  | 48 => ⟨S36864x224, .i32⟩
  | 49 => ⟨S36864x224, .i32⟩
  | 50 => ⟨S36864x224x1, .i32⟩
  | 51 => ⟨S36864x224, .i32⟩
  | 52 => ⟨S_, .i32⟩
  | 53 => ⟨S36864x224, .i32⟩
  | 54 => ⟨S36864x224, .i32⟩
  | 55 => ⟨S36864x224, .i32⟩
  | 56 => ⟨S36864x224x1, .i32⟩
  | 57 => ⟨S36864x224, .i32⟩
  | 58 => ⟨S_, .i32⟩
  | 59 => ⟨S36864x224, .i32⟩
  | 60 => ⟨S36864x224, .i32⟩
  | 61 => ⟨S36864x224, .i32⟩
  | 62 => ⟨S36864x224x1, .i32⟩
  | 63 => ⟨S36864x224, .i32⟩
  | 64 => ⟨S_, .i32⟩
  | 65 => ⟨S36864x224, .i32⟩
  | 66 => ⟨S36864x224, .i32⟩
  | 67 => ⟨S36864x224, .i32⟩
  | 68 => ⟨S36864x224x1, .i32⟩
  | 69 => ⟨S36864x224, .i32⟩
  | 70 => ⟨S_, .i32⟩
  | 71 => ⟨S36864x224, .i32⟩
  | 72 => ⟨S36864x224, .i32⟩
  | 73 => ⟨S36864x224, .i32⟩
  | 74 => ⟨S36864x224x1, .i32⟩
  | 75 => ⟨S36864x224, .i32⟩
  | 76 => ⟨S_, .i32⟩
  | 77 => ⟨S36864x224, .i32⟩
  | 78 => ⟨S36864x224, .i32⟩
  | 79 => ⟨S36864x224, .i32⟩
  | 80 => ⟨S36864x224, .i32⟩
  | 81 => ⟨S36864x3584, .f32⟩
  | 82 => ⟨S36864x3584, .f32⟩
  | 83 => ⟨S_, .f32⟩
  | 84 => ⟨S36864, .f32⟩
  | 85 => ⟨S36864x1, .f32⟩
  | 86 => ⟨S_, .f32⟩
  | 87 => ⟨S36864x1, .f32⟩
  | 88 => ⟨S36864x1, .f32⟩
  | 89 => ⟨S36864x1, .f32⟩
  | 90 => ⟨S_, .f32⟩
  | 91 => ⟨S36864x1, .f32⟩
  | 92 => ⟨S36864x1, .f32⟩
  | 93 => ⟨S36864x1, .f32⟩
  | 94 => ⟨S36864x1, .f32⟩
  | 95 => ⟨S_, .f32⟩
  | 96 => ⟨S36864x1, .f32⟩
  | 97 => ⟨S36864x1, .f32⟩
  | 98 => ⟨S_, .f32⟩
  | 99 => ⟨S36864x1, .f32⟩
  | 100 => ⟨S36864x1, .i1⟩
  | 101 => ⟨S_, .f32⟩
  | 102 => ⟨S_, .f32⟩
  | 103 => ⟨S36864x1, .f32⟩
  | 104 => ⟨S36864x1, .f32⟩
  | 105 => ⟨S_, .f32⟩
  | 106 => ⟨S36864x1, .f32⟩
  | 107 => ⟨S36864x1, .f32⟩
  | 108 => ⟨S36864x1, .f32⟩
  | 109 => ⟨S36864x1, .f32⟩
  | 110 => ⟨S36864x3584, .f32⟩
  | 111 => ⟨S36864x3584, .f32⟩
  | 112 => ⟨S_, .f32⟩
  | 113 => ⟨S_, .f32⟩
  | 114 => ⟨S_, .f32⟩
  | 115 => ⟨S36864x3584, .f32⟩
  | 116 => ⟨S36864x3584, .f32⟩
  | 117 => ⟨S_, .f32⟩
  | 118 => ⟨S36864x3584, .f32⟩
  | 119 => ⟨S36864x3584, .f32⟩
  | 120 => ⟨S36864x3584, .fp8e4m3⟩
  | _ => ⟨S36864x7168, .bf16⟩

abbrev hbmTy (i : Nat) : BufTy := match i / 128 with
  | 0 => hbmTy0_0 i
  | 1 => hbmTy0_1 i
  | _ => ⟨S36864x7168, .bf16⟩

abbrev bufTy : (tb : Table) → Fin (tcTables nBuf tb) → BufTy
  | .hbm, ⟨i, _⟩ => hbmTy i
  | _, _ => ⟨S36864x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_c : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_c_0 : Ref sig .tc := ⟨.hbm, 51, rfl⟩
abbrev main_v48 : Ref sig .tc := ⟨.hbm, 52, rfl⟩
abbrev main_v49 : Ref sig .tc := ⟨.hbm, 53, rfl⟩
abbrev main_c_1 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_c_2 : Ref sig .tc := ⟨.hbm, 65, rfl⟩
abbrev main_v60 : Ref sig .tc := ⟨.hbm, 66, rfl⟩
abbrev main_v61 : Ref sig .tc := ⟨.hbm, 67, rfl⟩
abbrev main_c_3 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_c_4 : Ref sig .tc := ⟨.hbm, 79, rfl⟩
abbrev main_v72 : Ref sig .tc := ⟨.hbm, 80, rfl⟩
abbrev main_v73 : Ref sig .tc := ⟨.hbm, 81, rfl⟩
abbrev main_c_5 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_c_6 : Ref sig .tc := ⟨.hbm, 93, rfl⟩
abbrev main_v84 : Ref sig .tc := ⟨.hbm, 94, rfl⟩
abbrev main_v85 : Ref sig .tc := ⟨.hbm, 95, rfl⟩
abbrev main_c_7 : Ref sig .tc := ⟨.hbm, 96, rfl⟩
abbrev main_c_8 : Ref sig .tc := ⟨.hbm, 97, rfl⟩
abbrev main_call0_v0 : Ref sig .tc := ⟨.hbm, 98, rfl⟩
abbrev main_call0_v1 : Ref sig .tc := ⟨.hbm, 99, rfl⟩
abbrev main_v86 : Ref sig .tc := ⟨.hbm, 100, rfl⟩
abbrev main_c_9 : Ref sig .tc := ⟨.hbm, 101, rfl⟩
abbrev main_call1_v0 : Ref sig .tc := ⟨.hbm, 102, rfl⟩
abbrev main_v87 : Ref sig .tc := ⟨.hbm, 103, rfl⟩
abbrev main_c_10 : Ref sig .tc := ⟨.hbm, 104, rfl⟩
abbrev main_call2_v0 : Ref sig .tc := ⟨.hbm, 105, rfl⟩
abbrev main_v88 : Ref sig .tc := ⟨.hbm, 106, rfl⟩
abbrev main_c_11 : Ref sig .tc := ⟨.hbm, 107, rfl⟩
abbrev main_call3_v0 : Ref sig .tc := ⟨.hbm, 108, rfl⟩
abbrev main_v89 : Ref sig .tc := ⟨.hbm, 109, rfl⟩
abbrev main_c_12 : Ref sig .tc := ⟨.hbm, 110, rfl⟩
abbrev main_c_13 : Ref sig .tc := ⟨.hbm, 111, rfl⟩
abbrev main_call4_v0 : Ref sig .tc := ⟨.hbm, 112, rfl⟩
abbrev main_call4_v1 : Ref sig .tc := ⟨.hbm, 113, rfl⟩
abbrev main_v90 : Ref sig .tc := ⟨.hbm, 114, rfl⟩
abbrev main_c_14 : Ref sig .tc := ⟨.hbm, 115, rfl⟩
abbrev main_call5_v0 : Ref sig .tc := ⟨.hbm, 116, rfl⟩
abbrev main_v91 : Ref sig .tc := ⟨.hbm, 117, rfl⟩
abbrev main_c_15 : Ref sig .tc := ⟨.hbm, 118, rfl⟩
abbrev main_call6_v0 : Ref sig .tc := ⟨.hbm, 119, rfl⟩
abbrev main_v92 : Ref sig .tc := ⟨.hbm, 120, rfl⟩
abbrev main_c_16 : Ref sig .tc := ⟨.hbm, 121, rfl⟩
abbrev main_call7_v0 : Ref sig .tc := ⟨.hbm, 122, rfl⟩
abbrev main_v93 : Ref sig .tc := ⟨.hbm, 123, rfl⟩
abbrev main_c_17 : Ref sig .tc := ⟨.hbm, 124, rfl⟩
abbrev main_v94 : Ref sig .tc := ⟨.hbm, 125, rfl⟩
abbrev main_v95 : Ref sig .tc := ⟨.hbm, 126, rfl⟩
abbrev main_c_18 : Ref sig .tc := ⟨.hbm, 127, rfl⟩
abbrev main_v96 : Ref sig .tc := ⟨.hbm, 128, rfl⟩
abbrev main_v97 : Ref sig .tc := ⟨.hbm, 129, rfl⟩
abbrev main_c_19 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_20 : Ref sig .tc := ⟨.hbm, 136, rfl⟩
abbrev main_v103 : Ref sig .tc := ⟨.hbm, 137, rfl⟩
abbrev main_v104 : Ref sig .tc := ⟨.hbm, 138, rfl⟩
abbrev main_c_21 : Ref sig .tc := ⟨.hbm, 139, rfl⟩
abbrev main_v105 : Ref sig .tc := ⟨.hbm, 140, rfl⟩
abbrev main_v106 : Ref sig .tc := ⟨.hbm, 141, rfl⟩
abbrev main_c_22 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_c_23 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_c_24 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_25 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_c_26 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_c_27 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_c_28 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_c_29 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_c_30 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_c_31 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_c_32 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst : Ref sig .tc := ⟨.hbm, 211, rfl⟩
abbrev main_v165 : Ref sig .tc := ⟨.hbm, 212, rfl⟩
abbrev main_v166 : Ref sig .tc := ⟨.hbm, 213, rfl⟩
abbrev main_cst_33 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_34 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_35 : Ref sig .tc := ⟨.hbm, 223, rfl⟩
abbrev main_v174 : Ref sig .tc := ⟨.hbm, 224, rfl⟩
abbrev main_v175 : Ref sig .tc := ⟨.hbm, 225, rfl⟩
abbrev main_cst_36 : Ref sig .tc := ⟨.hbm, 226, rfl⟩
abbrev main_v176 : Ref sig .tc := ⟨.hbm, 227, rfl⟩
abbrev main_v177 : Ref sig .tc := ⟨.hbm, 228, rfl⟩
abbrev main_cst_37 : Ref sig .tc := ⟨.hbm, 229, rfl⟩
abbrev main_call14_v0 : Ref sig .tc := ⟨.hbm, 230, rfl⟩
abbrev main_call14_v1 : Ref sig .tc := ⟨.hbm, 231, rfl⟩
abbrev main_v178 : Ref sig .tc := ⟨.hbm, 232, rfl⟩
abbrev main_cst_38 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_39 : Ref sig .tc := ⟨.hbm, 240, rfl⟩
abbrev main_cst_40 : Ref sig .tc := ⟨.hbm, 241, rfl⟩
abbrev main_call15_v0 : Ref sig .tc := ⟨.hbm, 242, rfl⟩
abbrev main_call15_v1 : Ref sig .tc := ⟨.hbm, 243, rfl⟩
abbrev main_call15_v2 : Ref sig .tc := ⟨.hbm, 244, rfl⟩
abbrev main_call15_v3 : Ref sig .tc := ⟨.hbm, 245, rfl⟩
abbrev main_call15_v4 : Ref sig .tc := ⟨.hbm, 246, rfl⟩
abbrev main_v185 : Ref sig .tc := ⟨.hbm, 247, rfl⟩
abbrev main_v186 : Ref sig .tc := ⟨.hbm, 248, rfl⟩

abbrev nD : Nat := 1
abbrev τ : Topo := Topo.v7x

variable {F : FTy → Type} [FloatOps F]
-- ==== Proof.KernelLoop.lean ====
/- The chunk loop of the kernel as printed, for its frame. -/
module

public import proofs.«01_k».proof.Proof.Gen.Kernel.Skeleton
public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

local notation "𝕄G" => MT nD τ sig Unit (Elt F) ℕ (UR sig nD τ) ℕ

set_option warn.classDefReducibility false in
/-- The chunk loop of the kernel: a trip reads the weight block and the norms and leaves the two scratch buffers at
some contents. -/
@[sl_loop] def loopInv_k0_t1 (𝒱 : Variants) (c : Dev nD) (bd : Option 𝒱.V) (E : Set ℕ) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x128 .i32) (harg7 : arg7.IsWhole) (arg8 : Memref sig .tc .vmem S256x256 .i32) (harg8 : arg8.IsWhole) (v0 : Vec F S256x256 .bf16) (init : FVec F S16x128 .bf16 × FVec F S16x128 .bf16) (X_arg1 : BufTy.Contents (Elt F) arg1.view.ty) (X_arg3 : BufTy.Contents (Elt F) arg3.view.ty) :
    LoopInvTy_k0_t1 (F := F) Unit ℕ (UR sig nD τ) ℕ 𝒱 c bd E i arg1 harg1 arg2 harg2 arg3 harg3 arg4 harg4 arg5 harg5 arg6 harg6 arg7 harg7 arg8 harg8 v0 init where
  inv _ _ := iprop((arg1.view.loc (c : Thread nD τ) ↦[arg1.view.set]{fullShare} X_arg1) ∗ (arg3.view.loc (c : Thread nD τ) ↦[arg3.view.set]{fullShare} X_arg3) ∗ (∃ f, (arg7.view.loc (c : Thread nD τ) ↦[arg7.view.set]{fullShare} f)) ∗ (∃ f, (arg8.view.loc (c : Thread nD τ) ↦[arg8.view.set]{fullShare} f)))
  step k acc := by
    have hk : k.val < 28 := Nat.lt_of_lt_of_le k.isLt k0_t1_abs.2.1
    unfold k0_t1_body
    iintro ⟨HR_arg1, HR_arg3, ⟨%f_arg7, HW_arg7⟩, ⟨%f_arg8, HW_arg8⟩⟩
    sl_exec
    sl_step
    isplitl [HR_arg1]; · iexact HR_arg1
    isplitl [HR_arg3]; · iexact HR_arg3
    isplitl [HW_arg7]; · iexists _; iexact HW_arg7
    iexists _; iexact HW_arg8

end Cert.Kernel.Hand

end
-- ==== Proof.KernelFrame.lean ====
/- The frame of the kernel as printed: the body runs at every grid point, whatever it leaves in its outputs. -/
module

public import proofs.«01_k».proof.Proof.Gen.Kernel.Launch
public import proofs.«01_k».proof.Proof.Gen.Kernel.Frame
public import proofs.«01_k».proof.Proof.Gen.Kernel.Points
public import proofs.«01_k».proof.Proof.KernelLoop
public import Idealize.ShloMosaic.Lib.Claim
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v23}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePostR.arr_in h c 0 rfl).trans ((hA c 0).trans (V_main_arg0 m c)),
      ((h c).2 main_arg1 (Finset.mem_sdiff.mpr ⟨Pipeline.mem_restRefs_of main_arg1 (by decide) (by decide), by decide⟩)).trans (V_main_arg1 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3584 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x224 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x1792x128 .i32 := Memref.whole cc0_scratch0
abbrev scM0_1 : Memref sig .tc .vmem S256x256 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 1000000 in
/-- The body's triple: on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x128 .i32) (harg7 : arg7.IsWhole) (arg8 : Memref sig .tc .vmem S256x256 .i32) (harg8 : arg8.IsWhole)
    (x0 : Vec F S256x7168 .bf16) (x1 : Vec F S256x256 .bf16) (x2 : Vec F S7168x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_sparse24 i arg1 harg1 arg2 harg2 arg3 harg3 arg4 harg4 arg5 harg5 arg6 harg6 arg7 harg7 arg8 harg8) K := by
    intro E K
    simp only [cc0_sparse24_eq_skeleton]; unfold cc0_sparse24_skel
    simp only [k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Hand

end
-- ==== Proof.ChunkLoop.lean ====
/- The chunk loop of the idealized kernel: what one trip writes and what the trips before a given one have written. -/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- One trip's resources: what the region reads (arg1, arg3) at its contents, what it writes (arg7,
   arg8) at any. -/
abbrev Trip_k0_t1 (c : Dev nD) (arg1 : Memref sig .tc .vmem S256x7168 .bf16) (arg3 : Memref sig .tc .vmem S7168x128 .f32) (arg7 : Memref sig .tc .vmem S2x1792x2x128 .bf16) (arg8 : Memref sig .tc .vmem S256x256 .i32) (X_arg1 : BufTy.Contents (Elt F) arg1.view.ty) (X_arg3 : BufTy.Contents (Elt F) arg3.view.ty) (f_arg7 : BufTy.Contents (Elt F) arg7.view.ty) (f_arg8 : BufTy.Contents (Elt F) arg8.view.ty) : sProp 𝕄G :=
  iprop((arg1.view.loc (c : Thread nD τ) ↦[arg1.view.set]{fullShare} X_arg1) ∗ (arg3.view.loc (c : Thread nD τ) ↦[arg3.view.set]{fullShare} X_arg3) ∗ (arg7.view.loc (c : Thread nD τ) ↦[arg7.view.set]{fullShare} f_arg7) ∗ (arg8.view.loc (c : Thread nD τ) ↦[arg8.view.set]{fullShare} f_arg8))

/-- ONE TRIP of `k0_t1_loop` at a symbolic `k` and carried value `acc`, run by `sl_exec` (its
   rectangles' offsets closed forms of `k`, their geometry linear arithmetic): what it yields and
   the pieces it writes into arg7, arg8 are the run's own finds — the witnesses `sl_close` assigns
   handing the buffers to the continuation, as functions of the carried value. `@[irreducible]`:
   cited, never unfolded. -/
@[irreducible] def trip_k0_t1 (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (k : Fin k0_t1_loop.trips) :
    Σ' (R_k0_t1 : ((FVec F S16x128 .bf16 × FVec F S16x128 .bf16) → FVec F S16x128 .bf16 × FVec F S16x128 .bf16)) (L_arg7 : ((FVec F S16x128 .bf16 × FVec F S16x128 .bf16) → List (View.Piece (Elt F) S2x1792x2x128 .bf16))) , { L_arg8 : ((FVec F S16x128 .bf16 × FVec F S16x128 .bf16) → List (View.Piece (Elt F) S256x256 .i32)) // ∀ (E : Set ℕ) (acc : FVec F S16x128 .bf16 × FVec F S16x128 .bf16) (f_arg7 : BufTy.Contents (Elt F) arg7.view.ty) (f_arg8 : BufTy.Contents (Elt F) arg8.view.ty),
      Trip_k0_t1 (F := F) c arg1 arg3 arg7 arg8 X_arg1 X_arg3 f_arg7 f_arg8
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 v0 k acc)
          (fun yld => iprop(⌜yld = R_k0_t1 acc⌝ ∗ Trip_k0_t1 (F := F) c arg1 arg3 arg7 arg8 X_arg1 X_arg3 (arg7.view.writes (Elt F) f_arg7 (L_arg7 acc)) (arg8.view.writes (Elt F) f_arg8 (L_arg8 acc)))) } := by
  have hk : k.val < 28 := Nat.lt_of_lt_of_le k.isLt k0_t1_abs.2.1
  refine ⟨?_, ?_, ?_, fun E acc f_arg7 f_arg8 => ?run⟩
  case run =>
    unfold k0_t1_body
    iintro ⟨HR_arg1, HR_arg3, HW_arg7, HW_arg8⟩
    sl_exec
    sl_step
    sl_close

/-- The trip's result (a plain projection of `trip_…`, for the recursion below to cite without its
   proof). -/
abbrev tripR_k0_t1 (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (k : Fin k0_t1_loop.trips) (acc : FVec F S16x128 .bf16 × FVec F S16x128 .bf16) : FVec F S16x128 .bf16 × FVec F S16x128 .bf16 :=
  (trip_k0_t1 (F := F) 𝒱 c bd i arg1 harg1 arg2 harg2 arg3 harg3 arg4 harg4 arg5 harg5 arg6 harg6 arg7 harg7 arg8 harg8 v0 X_arg1 X_arg3 k).1 acc

/-- The trip's piece lists (plain projections of `trip_…`, for the recursion below to cite without
   its proof), at the carried value. -/
abbrev tripL_k0_t1 (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (k : Fin k0_t1_loop.trips) (acc : FVec F S16x128 .bf16 × FVec F S16x128 .bf16) : List (View.Piece (Elt F) S2x1792x2x128 .bf16) × List (View.Piece (Elt F) S256x256 .i32) :=
  ((trip_k0_t1 (F := F) 𝒱 c bd i arg1 harg1 arg2 harg2 arg3 harg3 arg4 harg4 arg5 harg5 arg6 harg6 arg7 harg7 arg8 harg8 v0 X_arg1 X_arg3 k).2.1 acc, (trip_k0_t1 (F := F) 𝒱 c bd i arg1 harg1 arg2 harg2 arg3 harg3 arg4 harg4 arg5 harg5 arg6 harg6 arg7 harg7 arg8 harg8 v0 X_arg1 X_arg3 k).2.2.1 acc)

/-- Trip `k`'s contribution to the state the recursion `st_k0_t1` below carries (`prev`): its result
   as the new carried value and its pieces in front, per written memref; past the last trip, `prev`
   itself. -/
@[irreducible] def st_k0_t1Step (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (init : FVec F S16x128 .bf16 × FVec F S16x128 .bf16) (k : ℕ) (prev : (FVec F S16x128 .bf16 × FVec F S16x128 .bf16) × List (View.Piece (Elt F) S2x1792x2x128 .bf16) × List (View.Piece (Elt F) S256x256 .i32)) : (FVec F S16x128 .bf16 × FVec F S16x128 .bf16) × List (View.Piece (Elt F) S2x1792x2x128 .bf16) × List (View.Piece (Elt F) S256x256 .i32) :=
  if h : k < k0_t1_loop.trips then
    (tripR_k0_t1 (F := F) 𝒱 c bd i arg1 harg1 arg2 harg2 arg3 harg3 arg4 harg4 arg5 harg5 arg6 harg6 arg7 harg7 arg8 harg8 v0 X_arg1 X_arg3 ⟨k, h⟩ prev.1, (tripL_k0_t1 (F := F) 𝒱 c bd i arg1 harg1 arg2 harg2 arg3 harg3 arg4 harg4 arg5 harg5 arg6 harg6 arg7 harg7 arg8 harg8 v0 X_arg1 X_arg3 ⟨k, h⟩ prev.1).1 ++ prev.2.1, (tripL_k0_t1 (F := F) 𝒱 c bd i arg1 harg1 arg2 harg2 arg3 harg3 arg4 harg4 arg5 harg5 arg6 harg6 arg7 harg7 arg8 harg8 v0 X_arg1 X_arg3 ⟨k, h⟩ prev.1).2 ++ prev.2.2)
  else prev

/-- The STATE before trip `k`: the carried value and, per written memref, the pieces of the trips
   before (last first), from the loop's initial value `init`. -/
def st_k0_t1 (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (init : FVec F S16x128 .bf16 × FVec F S16x128 .bf16) : ℕ → (FVec F S16x128 .bf16 × FVec F S16x128 .bf16) × List (View.Piece (Elt F) S2x1792x2x128 .bf16) × List (View.Piece (Elt F) S256x256 .i32)
  | 0 => (init, [], [])
  | k + 1 => st_k0_t1Step 𝒱 c bd i arg1 harg1 arg2 harg2 arg3 harg3 arg4 harg4 arg5 harg5 arg6 harg6 arg7 harg7 arg8 harg8 v0 X_arg1 X_arg3 init k (st_k0_t1 𝒱 c bd i arg1 harg1 arg2 harg2 arg3 harg3 arg4 harg4 arg5 harg5 arg6 harg6 arg7 harg7 arg8 harg8 v0 X_arg1 X_arg3 init k)

theorem st_k0_t1_succ (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (init : FVec F S16x128 .bf16 × FVec F S16x128 .bf16) (k : Fin k0_t1_loop.trips) :
    st_k0_t1 (F := F) 𝒱 c bd i arg1 harg1 arg2 harg2 arg3 harg3 arg4 harg4 arg5 harg5 arg6 harg6 arg7 harg7 arg8 harg8 v0 X_arg1 X_arg3 init (k.val + 1)
      = ((tripR_k0_t1 (F := F) 𝒱 c bd i arg1 harg1 arg2 harg2 arg3 harg3 arg4 harg4 arg5 harg5 arg6 harg6 arg7 harg7 arg8 harg8 v0 X_arg1 X_arg3 k (st_k0_t1 (F := F) 𝒱 c bd i arg1 harg1 arg2 harg2 arg3 harg3 arg4 harg4 arg5 harg5 arg6 harg6 arg7 harg7 arg8 harg8 v0 X_arg1 X_arg3 init k.val).1), (tripL_k0_t1 (F := F) 𝒱 c bd i arg1 harg1 arg2 harg2 arg3 harg3 arg4 harg4 arg5 harg5 arg6 harg6 arg7 harg7 arg8 harg8 v0 X_arg1 X_arg3 k (st_k0_t1 (F := F) 𝒱 c bd i arg1 harg1 arg2 harg2 arg3 harg3 arg4 harg4 arg5 harg5 arg6 harg6 arg7 harg7 arg8 harg8 v0 X_arg1 X_arg3 init k.val).1).1 ++ (st_k0_t1 (F := F) 𝒱 c bd i arg1 harg1 arg2 harg2 arg3 harg3 arg4 harg4 arg5 harg5 arg6 harg6 arg7 harg7 arg8 harg8 v0 X_arg1 X_arg3 init k.val).2.1, (tripL_k0_t1 (F := F) 𝒱 c bd i arg1 harg1 arg2 harg2 arg3 harg3 arg4 harg4 arg5 harg5 arg6 harg6 arg7 harg7 arg8 harg8 v0 X_arg1 X_arg3 k (st_k0_t1 (F := F) 𝒱 c bd i arg1 harg1 arg2 harg2 arg3 harg3 arg4 harg4 arg5 harg5 arg6 harg6 arg7 harg7 arg8 harg8 v0 X_arg1 X_arg3 init k.val).1).2 ++ (st_k0_t1 (F := F) 𝒱 c bd i arg1 harg1 arg2 harg2 arg3 harg3 arg4 harg4 arg5 harg5 arg6 harg6 arg7 harg7 arg8 harg8 v0 X_arg1 X_arg3 init k.val).2.2) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (init : FVec F S16x128 .bf16 × FVec F S16x128 .bf16) :
    (st_k0_t1 (F := F) 𝒱 c bd i arg1 harg1 arg2 harg2 arg3 harg3 arg4 harg4 arg5 harg5 arg6 harg6 arg7 harg7 arg8 harg8 v0 X_arg1 X_arg3 init 0).1 = init := rfl

/-- THE INVARIANT before trip `k`: arg1, arg3 read at `X_·`; arg7, arg8 holding the pieces of the
   trips before `k` written over the contents at loop entry `G_·` (stated `∃ f, … ∗ ⌜f = …⌝`, so
   that a hypothesis of any contents matches and the equation is what is proved); and `acc` equal to
   the state's carried value (an equation the run substitutes after the loop). -/
abbrev inv_k0_t1 (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (G_arg7 : BufTy.Contents (Elt F) arg7.view.ty) (G_arg8 : BufTy.Contents (Elt F) arg8.view.ty) (init : FVec F S16x128 .bf16 × FVec F S16x128 .bf16) (k : ℕ) (acc : FVec F S16x128 .bf16 × FVec F S16x128 .bf16) : sProp 𝕄G :=
  iprop((arg1.view.loc (c : Thread nD τ) ↦[arg1.view.set]{fullShare} X_arg1) ∗ (arg3.view.loc (c : Thread nD τ) ↦[arg3.view.set]{fullShare} X_arg3) ∗ (∃ f, (arg7.view.loc (c : Thread nD τ) ↦[arg7.view.set]{fullShare} f) ∗ ⌜f = arg7.view.writes (Elt F) G_arg7 (st_k0_t1 (F := F) 𝒱 c bd i arg1 harg1 arg2 harg2 arg3 harg3 arg4 harg4 arg5 harg5 arg6 harg6 arg7 harg7 arg8 harg8 v0 X_arg1 X_arg3 init k).2.1⌝) ∗ (∃ f, (arg8.view.loc (c : Thread nD τ) ↦[arg8.view.set]{fullShare} f) ∗ ⌜f = arg8.view.writes (Elt F) G_arg8 (st_k0_t1 (F := F) 𝒱 c bd i arg1 harg1 arg2 harg2 arg3 harg3 arg4 harg4 arg5 harg5 arg6 harg6 arg7 harg7 arg8 harg8 v0 X_arg1 X_arg3 init k).2.2⌝) ∗ ⌜acc = (st_k0_t1 (F := F) 𝒱 c bd i arg1 harg1 arg2 harg2 arg3 harg3 arg4 harg4 arg5 harg5 arg6 harg6 arg7 harg7 arg8 harg8 v0 X_arg1 X_arg3 init k).1⌝)

set_option warn.classDefReducibility false in
/-- THE LOOP BY ITS INVARIANT — generated (`@[sl_loop]`: `sl_exec` finds it meeting `k0_t1_loop`,
   fixing `X_· G_·` and `init` against the context; after the loop each written memref holds `writes
   G (st … trips).2` and what it yields is `(st … trips).1`). -/
@[sl_loop] def loopInv_k0_t1 (𝒱 : Variants) (c : Dev nD) (bd : Option 𝒱.V) (E : Set ℕ) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (G_arg7 : BufTy.Contents (Elt F) arg7.view.ty) (G_arg8 : BufTy.Contents (Elt F) arg8.view.ty) (init : FVec F S16x128 .bf16 × FVec F S16x128 .bf16) :
    LoopInvTy_k0_t1 (F := F) Unit ℕ (UR sig nD τ) ℕ 𝒱 c bd E i arg1 harg1 arg2 harg2 arg3 harg3 arg4 harg4 arg5 harg5 arg6 harg6 arg7 harg7 arg8 harg8 v0 init where
  inv := inv_k0_t1 (F := F) 𝒱 c bd i arg1 harg1 arg2 harg2 arg3 harg3 arg4 harg4 arg5 harg5 arg6 harg6 arg7 harg7 arg8 harg8 v0 X_arg1 X_arg3 G_arg7 G_arg8 init
  step k acc := by
    iintro ⟨HR_arg1, HR_arg3, ⟨%f_arg7, HW_arg7, %h_arg7⟩, ⟨%f_arg8, HW_arg8, %h_arg8⟩, %h_acc⟩
    subst h_acc
    iapply (wp_wand_r Idealize.ShloMosaic.frame (wpE (defs₀ (F := F)) 𝒱 (c : Thread nD τ) bd) E)
    isplitl [HR_arg1 HR_arg3 HW_arg7 HW_arg8]
    · iapply ((trip_k0_t1 (F := F) 𝒱 c bd i arg1 harg1 arg2 harg2 arg3 harg3 arg4 harg4 arg5 harg5 arg6 harg6 arg7 harg7 arg8 harg8 v0 X_arg1 X_arg3 k).2.2.2 E (st_k0_t1 (F := F) 𝒱 c bd i arg1 harg1 arg2 harg2 arg3 harg3 arg4 harg4 arg5 harg5 arg6 harg6 arg7 harg7 arg8 harg8 v0 X_arg1 X_arg3 init k).1 f_arg7 f_arg8)
      isplitl [HR_arg1]; · iexact HR_arg1
      isplitl [HR_arg3]; · iexact HR_arg3
      isplitl [HW_arg7]; · iexact HW_arg7
      iexact HW_arg8
    · iintro %yld ⟨%h_res, HR_arg1, HR_arg3, HW_arg7, HW_arg8⟩
      isplitl [HR_arg1]; · iexact HR_arg1
      isplitl [HR_arg3]; · iexact HR_arg3
      simp only [st_k0_t1_succ]
      isplitl [HW_arg7]
      · iexists _; isplitl [HW_arg7]; · iexact HW_arg7
        ipureintro; rw [h_arg7, ← View.writes_append]
      isplitl [HW_arg8]
      · iexists _; isplitl [HW_arg8]; · iexact HW_arg8
        ipureintro; rw [h_arg8, ← View.writes_append]
      ipureintro; rw [h_res]

end Cert.KernelIdeal.Hand

end
-- ==== Proof.KernelIdealRun.lean ====
/- One run of the idealized kernel's body, and the pieces it writes into its three outputs. -/
module

public import proofs.«01_k».proof.Proof.Gen.KernelIdeal.Launch
public import proofs.«01_k».proof.Proof.Gen.KernelIdeal.Frame
public import proofs.«01_k».proof.Proof.Gen.KernelIdeal.Points
public import proofs.«01_k».proof.Proof.ChunkLoop
public import Idealize.ShloMosaic.Lib.Claim
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3584 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x224 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x1792x2x128 .bf16 := Memref.whole cc0_scratch0
abbrev scM0_1 : Memref sig .tc .vmem S256x256 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 4000000 in
/-- The body run once: from the inputs at their contents and everything else at any contents, to the outputs with
    some pieces written over what they held. The pieces are what the run finds. -/
@[irreducible] def kernelRun (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole)
    (x0 : Vec F S256x7168 .bf16) (x1 : Vec F S256x256 .bf16) (x2 : Vec F S7168x128 .f32)
    (f4 : BufTy.Contents (Elt F) arg4.view.ty) (f5 : BufTy.Contents (Elt F) arg5.view.ty) (f6 : BufTy.Contents (Elt F) arg6.view.ty)
    (f7 : BufTy.Contents (Elt F) arg7.view.ty) (f8 : BufTy.Contents (Elt F) arg8.view.ty) :
    Σ' (L4 : BufTy.Contents (Elt F) arg4.view.ty) (L5 : BufTy.Contents (Elt F) arg5.view.ty) (L6 : BufTy.Contents (Elt F) arg6.view.ty) (L7 : BufTy.Contents (Elt F) arg7.view.ty),
    { L8 : BufTy.Contents (Elt F) arg8.view.ty // ∀ (E : Set ℕ) (K : PUnit → sProp 𝕄),
        iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2)
          ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
          ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2)
          ∗ (arg4.view.loc (c : Thread nD τ) ↦[arg4.view.set]{fullShare} L4) ∗ (arg5.view.loc (c : Thread nD τ) ↦[arg5.view.set]{fullShare} L5) ∗ (arg6.view.loc (c : Thread nD τ) ↦[arg6.view.set]{fullShare} L6) ∗ (arg7.view.loc (c : Thread nD τ) ↦[arg7.view.set]{fullShare} L7) ∗ (arg8.view.loc (c : Thread nD τ) ↦[arg8.view.set]{fullShare} L8)) -∗ K ⟨⟩))
          ⊢ wp frame (wpE (defs₀ (F := F)) Variants.none c none) E (cc0_sparse24 i arg1 harg1 arg2 harg2 arg3 harg3 arg4 harg4 arg5 harg5 arg6 harg6 arg7 harg7 arg8 harg8) K } := by
  refine ⟨?_, ?_, ?_, ?_, ?_, fun E K => ?run⟩
  case run =>
    simp only [cc0_sparse24_eq_skeleton]; unfold cc0_sparse24_skel
    simp only [k0_part28_eq_skeleton, k0_part29_eq_skeleton, k0_part30_eq_skeleton, k0_part31_eq_skeleton]
    iintro ⟨H0, H1, H2, H3, H4, H5, HS0, HS1, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [HS0]; · iexact HS0
    iexact HS1

end Cert.KernelIdeal.Hand

end
-- ==== Proof.KernelIdealFrame.lean ====
/- The frame of the idealized kernel: the body runs at every grid point, whatever it leaves in its outputs. -/
module

public import proofs.«01_k».proof.Proof.Gen.KernelIdeal.Launch
public import proofs.«01_k».proof.Proof.Gen.KernelIdeal.Frame
public import proofs.«01_k».proof.Proof.Gen.KernelIdeal.Points
public import proofs.«01_k».proof.Proof.KernelIdealRun
public import Idealize.ShloMosaic.Lib.Claim
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v23}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePostR.arr_in h c 0 rfl).trans ((hA c 0).trans (V_main_arg0 m c)),
      ((h c).2 main_arg1 (Finset.mem_sdiff.mpr ⟨Pipeline.mem_restRefs_of main_arg1 (by decide) (by decide), by decide⟩)).trans (V_main_arg1 m c)⟩) h

/-! ## The kernel body on any staging memrefs: a subtype the run finds -/

-- (the run's proof term is large: checking it walks past the default budget)
set_option maxHeartbeats 1000000 in
/-- The body's triple: on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole)
    (x0 : Vec F S256x7168 .bf16) (x1 : Vec F S256x256 .bf16) (x2 : Vec F S7168x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_sparse24 i arg1 harg1 arg2 harg2 arg3 harg3 arg4 harg4 arg5 harg5 arg6 harg6 arg7 harg7 arg8 harg8) K := by
    intro E K
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    iapply ((kernelRun (F := F) c i arg1 harg1 arg2 harg2 arg3 harg3 arg4 harg4 arg5 harg5 arg6 harg6 arg7 harg7 arg8 harg8 x0 x1 x2 f3 f4 f5 fs0 fs1).2.2.2.2.2 E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_forget m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand

end
-- ==== Proof.Trip.lean ====
/- What one trip of the chunk loop writes, group by group: each store of the trip as one group's kept pair, code word
   and running maximum, the same few vector operations at every group. -/
module

public import proofs.«01_k».proof.Proof.ChunkLoop

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA
open Cert.KernelIdeal.Gen

variable {F : FTy → Type} [FloatOps F]

/-- Eight rows by 128 lanes of the plane matrix, at row `o` and lane `p`. -/
theorem slab_slices {o p : ℕ} (h : o + 8 ≤ 256 ∧ p + 128 ≤ 256) : S256x256.Slices ![o, p] S8x128 :=
  ⟨rfl, by intro a; fin_cases a; exacts [h.1, h.2]⟩

/-- The plane `q` of the groups `(t, j)`: one candidate of every group. -/
def px (P : FVec F S256x256 .f32) (t : Fin 2) (j : Fin 8) (q : Fin 4) : FVec F S8x128 .f32 :=
  extractStridedSlice S8x128 ![32 * j.val + 8 * q.val, 128 * t.val] P (slab_slices (by omega))

/-- The norms the plane `q` of the groups `j` of chunk `k` is weighted by. -/
def ps (arg3 : Memref sig .tc .vmem S7168x128 .f32) (X_arg3 : BufTy.Contents (Elt F) arg3.view.ty)
    (k : Fin k0_t1_loop.trips) (j : Fin 8) (q : Fin 4) : Vec F S8x128 .f32 :=
  View.readAt (Elt F) arg3.view (Rect.unit (s := S7168x128) (k0_off2 k (BitVec.ofNat 32 (8 * (4 * j.val + q.val))))
    S8x128.size (k0_off2_inb k ⟨4 * j.val + q.val, by omega⟩)).toLoadRect X_arg3

/-- The key of a candidate: its magnitude weighted. -/
def pn (x : FVec F S8x128 .f32) (s : Vec F S8x128 .f32) : FVec F S8x128 .f32 :=
  mulf (absf x) (shapeCast S8x128 s shapeCasts_S8x128_S8x128)

/-- Both of the first two kept. -/
def both01 (n : Fin 4 → FVec F S8x128 .f32) : IVec S8x128 1 :=
  cmpf .oge (minimumf (n 0) (n 1)) (maximumf (n 2) (n 3))

/-- Both of the last two kept. -/
def both23 (n : Fin 4 → FVec F S8x128 .f32) : IVec S8x128 1 :=
  cmpf .ogt (minimumf (n 2) (n 3)) (maximumf (n 0) (n 1))

/-- The first kept candidate of every group. -/
def loV (x n : Fin 4 → FVec F S8x128 .f32) : FVec F S8x128 .bf16 :=
  truncf .bf16 (select (both01 n) (x 0) (select (both23 n) (x 2) (select (cmpf .oge (n 0) (n 1)) (x 0) (x 1))))

/-- The second kept candidate of every group. -/
def hiV (x n : Fin 4 → FVec F S8x128 .f32) : FVec F S8x128 .bf16 :=
  truncf .bf16 (select (both01 n) (x 1) (select (both23 n) (x 3) (select (cmpf .oge (n 2) (n 3)) (x 2) (x 3))))

/-- The four code bits of every group, at place `j` of the word. -/
def codeV (j : Fin 8) (n : Fin 4 → FVec F S8x128 .f32) : IVec S8x128 32 :=
  select (both01 n) (broadcast S8x128 (BitVec.ofNat 32 (4 * 16 ^ j.val)))
    (select (both23 n) (broadcast S8x128 (BitVec.ofNat 32 (14 * 16 ^ j.val)))
      (select (cmpf .oge (n 2) (n 3))
        (select (cmpf .oge (n 0) (n 1)) (broadcast S8x128 (BitVec.ofNat 32 (8 * 16 ^ j.val)))
          (broadcast S8x128 (BitVec.ofNat 32 (9 * 16 ^ j.val))))
        (select (cmpf .oge (n 0) (n 1)) (broadcast S8x128 (BitVec.ofNat 32 (12 * 16 ^ j.val)))
          (broadcast S8x128 (BitVec.ofNat 32 (13 * 16 ^ j.val))))))

/-- The kept pairs as the scratch holds them. -/
def pairV (lo hi : FVec F S8x128 .bf16) : Vec F S1x8x2x128 .bf16 :=
  interleaveRows S1x8x2x128
    (shapeCast S1x8x1x128 (shapeCast S1x8x128 lo shapeCasts_S8x128_S1x8x128) shapeCasts_S1x8x128_S1x8x1x128)
    (shapeCast S1x8x1x128 (shapeCast S1x8x128 hi shapeCasts_S8x128_S1x8x128) shapeCasts_S1x8x128_S1x8x1x128)
    bitcasts_S1x8x2x128_w16_S1x8x1x128_w32

/-- The running maximum with one group's pair taken in. -/
def accV (a : FVec F S16x128 .bf16) (lo hi : FVec F S8x128 .bf16) : FVec F S16x128 .bf16 :=
  maximumf a (absf (interleaveRows S16x128 lo hi bitcasts_S16x128_w16_S8x128_w32))

/-- The plane matrix of chunk `k`. -/
def planes (arg1 : Memref sig .tc .vmem S256x7168 .bf16) (v0 : Vec F S256x256 .bf16)
    (X_arg1 : BufTy.Contents (Elt F) arg1.view.ty) (k : Fin k0_t1_loop.trips) : FVec F S256x256 .f32 :=
  k0_pay4 (k0_pay312 v0) (View.readAt (Elt F) arg1.view
    (Rect.unit (s := S256x7168) (k0_off1 k) S256x256.size (k0_off1_inb k)).toLoadRect X_arg1)

section
variable (arg1 : Memref sig .tc .vmem S256x7168 .bf16) (arg3 : Memref sig .tc .vmem S7168x128 .f32)
  (v0 : Vec F S256x256 .bf16) (X_arg1 : BufTy.Contents (Elt F) arg1.view.ty)
  (X_arg3 : BufTy.Contents (Elt F) arg3.view.ty) (k : Fin k0_t1_loop.trips)

/-- The candidates of the groups `(t, j)` of chunk `k`. -/
def gx (t : Fin 2) (j : Fin 8) (q : Fin 4) : FVec F S8x128 .f32 := px (planes arg1 v0 X_arg1 k) t j q

/-- Their keys. -/
def gn (t : Fin 2) (j : Fin 8) (q : Fin 4) : FVec F S8x128 .f32 :=
  pn (gx arg1 v0 X_arg1 k t j q) (ps arg3 X_arg3 k j q)

/-- The first kept of the groups `(t, j)`. -/
def glo (t : Fin 2) (j : Fin 8) : FVec F S8x128 .bf16 :=
  loV (gx arg1 v0 X_arg1 k t j) (gn arg1 arg3 v0 X_arg1 X_arg3 k t j)

/-- The second kept of the groups `(t, j)`. -/
def ghi (t : Fin 2) (j : Fin 8) : FVec F S8x128 .bf16 :=
  hiV (gx arg1 v0 X_arg1 k t j) (gn arg1 arg3 v0 X_arg1 X_arg3 k t j)

/-- The words of lane tile `t`, through place `j`. -/
def gword (t : Fin 2) : (j : ℕ) → j ≤ 8 → IVec S8x128 32
  | 0, _ => broadcast S8x128 0#32
  | j + 1, h => ori (gword t j (by omega)) (codeV ⟨j, h⟩ (gn arg1 arg3 v0 X_arg1 X_arg3 k t ⟨j, h⟩))

/-- The running maximum of lane tile `t`, through place `j`. -/
def gacc (t : Fin 2) (a : FVec F S16x128 .bf16) : (j : ℕ) → j ≤ 8 → FVec F S16x128 .bf16
  | 0, _ => a
  | j + 1, h => accV (gacc t a j (by omega)) (glo arg1 arg3 v0 X_arg1 X_arg3 k t ⟨j, h⟩)
      (ghi arg1 arg3 v0 X_arg1 X_arg3 k t ⟨j, h⟩)

/-- One store of pairs. -/
def pairPiece (t : Fin 2) (j : Fin 8) : View.Piece (Elt F) S2x1792x2x128 .bf16 :=
  match t with
  | 0 => ⟨⟨⟨k0_off3 k (BitVec.ofNat 32 j.val), S1x8x2x128.size, ![1, 8, 1, 1], k0_off3_inb k j⟩, spos_1_8_1_1⟩,
      pairV (glo arg1 arg3 v0 X_arg1 X_arg3 k 0 j) (ghi arg1 arg3 v0 X_arg1 X_arg3 k 0 j)⟩
  | 1 => ⟨⟨⟨k0_off5 k (BitVec.ofNat 32 j.val), S1x8x2x128.size, ![1, 8, 1, 1], k0_off5_inb k j⟩, spos_1_8_1_1⟩,
      pairV (glo arg1 arg3 v0 X_arg1 X_arg3 k 1 j) (ghi arg1 arg3 v0 X_arg1 X_arg3 k 1 j)⟩

/-- The two stores of words. -/
def wordPieces : List (View.Piece (Elt F) S256x256 .i32) :=
  [⟨Rect.unit (s := S256x256) (k0_off6 k) S8x128.size (k0_off6_inb k),
      shapeCast S8x128 (gword arg1 arg3 v0 X_arg1 X_arg3 k 1 8 le_rfl) shapeCasts_S8x128_S8x128⟩,
   ⟨Rect.unit (s := S256x256) (k0_off4 k) S8x128.size (k0_off4_inb k),
      shapeCast S8x128 (gword arg1 arg3 v0 X_arg1 X_arg3 k 0 8 le_rfl) shapeCasts_S8x128_S8x128⟩]
end

set_option maxHeartbeats 40000000 in
theorem trip_words (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (k : Fin k0_t1_loop.trips) (acc : FVec F S16x128 .bf16 × FVec F S16x128 .bf16) :
    (trip_k0_t1 (F := F) 𝒱 c bd i arg1 harg1 arg2 harg2 arg3 harg3 arg4 harg4 arg5 harg5 arg6 harg6 arg7 harg7 arg8 harg8 v0 X_arg1 X_arg3 k).2.2.1 acc = wordPieces arg1 arg3 v0 X_arg1 X_arg3 k := by
  unfold trip_k0_t1; rfl

set_option maxHeartbeats 40000000 in
theorem trip_acc (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (k : Fin k0_t1_loop.trips) (acc : FVec F S16x128 .bf16 × FVec F S16x128 .bf16) :
    (trip_k0_t1 (F := F) 𝒱 c bd i arg1 harg1 arg2 harg2 arg3 harg3 arg4 harg4 arg5 harg5 arg6 harg6 arg7 harg7 arg8 harg8 v0 X_arg1 X_arg3 k).1 acc = (gacc arg1 arg3 v0 X_arg1 X_arg3 k 0 acc.1 8 le_rfl, gacc arg1 arg3 v0 X_arg1 X_arg3 k 1 acc.2 8 le_rfl) := by
  unfold trip_k0_t1; rfl

set_option maxHeartbeats 40000000 in
theorem trip_pairs (𝒱 : Variants) (c : Dev nD) (bd : Option 𝒱.V) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole) (v0 : Vec F S256x256 .bf16) (X_arg1 : BufTy.Contents (Elt F) arg1.view.ty) (X_arg3 : BufTy.Contents (Elt F) arg3.view.ty) (k : Fin k0_t1_loop.trips) (acc : FVec F S16x128 .bf16 × FVec F S16x128 .bf16) :
    (trip_k0_t1 (F := F) 𝒱 c bd i arg1 harg1 arg2 harg2 arg3 harg3 arg4 harg4 arg5 harg5 arg6 harg6 arg7 harg7 arg8 harg8 v0 X_arg1 X_arg3 k).2.1 acc =
    [pairPiece arg1 arg3 v0 X_arg1 X_arg3 k 1 7,
     pairPiece arg1 arg3 v0 X_arg1 X_arg3 k 1 6,
     pairPiece arg1 arg3 v0 X_arg1 X_arg3 k 1 5,
     pairPiece arg1 arg3 v0 X_arg1 X_arg3 k 1 4,
     pairPiece arg1 arg3 v0 X_arg1 X_arg3 k 1 3,
     pairPiece arg1 arg3 v0 X_arg1 X_arg3 k 1 2,
     pairPiece arg1 arg3 v0 X_arg1 X_arg3 k 1 1,
     pairPiece arg1 arg3 v0 X_arg1 X_arg3 k 1 0,
     pairPiece arg1 arg3 v0 X_arg1 X_arg3 k 0 7,
     pairPiece arg1 arg3 v0 X_arg1 X_arg3 k 0 6,
     pairPiece arg1 arg3 v0 X_arg1 X_arg3 k 0 5,
     pairPiece arg1 arg3 v0 X_arg1 X_arg3 k 0 4,
     pairPiece arg1 arg3 v0 X_arg1 X_arg3 k 0 3,
     pairPiece arg1 arg3 v0 X_arg1 X_arg3 k 0 2,
     pairPiece arg1 arg3 v0 X_arg1 X_arg3 k 0 1,
     pairPiece arg1 arg3 v0 X_arg1 X_arg3 k 0 0] := by
  unfold trip_k0_t1; rfl

end Cert.KernelIdeal.Hand

end
-- ==== Proof.Spec.lean ====
/- The 2:4 compression of one row, over the extended reals: which two of four weights are kept, the code of the choice,
   the words the codes pack into, and the largest kept magnitude. -/
module

public import Idealize.ShloMosaic.Lib.Pointwise

@[expose] public section

noncomputable section

namespace Cert.Spec

open scoped Classical

/-- Both of the first two kept. -/
def Both01 (n : Fin 4 → EReal) : Prop := max (n 2) (n 3) ≤ min (n 0) (n 1)

/-- Both of the last two kept. -/
def Both23 (n : Fin 4 → EReal) : Prop := max (n 0) (n 1) < min (n 2) (n 3)

/-- The first kept of four, by their keys. -/
def keepLo (x n : Fin 4 → EReal) : EReal :=
  if Both01 n then x 0 else if Both23 n then x 2 else if n 1 ≤ n 0 then x 0 else x 1

/-- The second kept of four, by their keys. -/
def keepHi (x n : Fin 4 → EReal) : EReal :=
  if Both01 n then x 1 else if Both23 n then x 3 else if n 3 ≤ n 2 then x 2 else x 3

/-- The four bits that name the two kept: the first's place, and four times the second's. -/
def code (n : Fin 4 → EReal) : ℕ :=
  if Both01 n then 4 else if Both23 n then 14 else if n 3 ≤ n 2 then (if n 1 ≤ n 0 then 8 else 9)
    else if n 1 ≤ n 0 then 12 else 13

/-- The magnitude. -/
def mag (x : EReal) : EReal := max x (-x)

/-- The candidates of group `g` of a row. -/
def cand (w : ℕ → EReal) (g : ℕ) (q : Fin 4) : EReal := w (4 * g + q.val)

/-- Their keys: magnitudes weighted by the norms. -/
def keys (w a : ℕ → EReal) (g : ℕ) (q : Fin 4) : EReal := mag (w (4 * g + q.val)) * a (4 * g + q.val)

/-- One of the two kept of group `g`. -/
def pick (w a : ℕ → EReal) (g : ℕ) (p : ℕ) : EReal :=
  if p = 0 then keepLo (cand w g) (keys w a g) else keepHi (cand w g) (keys w a g)

/-- The kept weight at column `c`. -/
def kept (w a : ℕ → EReal) (c : ℕ) : EReal := pick w a (c / 2) (c % 2)

/-- The metadata word `n`, through place `j`. -/
def wordTo (w a : ℕ → EReal) (n : ℕ) : ℕ → BitVec 32
  | 0 => 0#32
  | j + 1 => wordTo w a n j ||| BitVec.ofNat 32 (code (keys w a (8 * n + j)) * 16 ^ j)

/-- The metadata word `n`. -/
def word (w a : ℕ → EReal) (n : ℕ) : BitVec 32 := wordTo w a n 8

/-- The largest kept magnitude of a row. -/
def amax (w a : ℕ → EReal) : EReal := ⨆ c : Fin 3584, mag (kept w a c.val)

end Cert.Spec

end
-- ==== Proof.Group.lean ====
/- The groups of one trip at an index, over the extended reals: with the permutation the one-hot plane order and the norms
   in plane order, what the trip keeps is what the row's compression keeps. -/
module

public import proofs.«01_k».proof.Proof.Trip
public import proofs.«01_k».proof.Proof.Spec

@[expose] public section

set_option maxRecDepth 16384
set_option maxHeartbeats 1000000

noncomputable section

namespace Cert.KernelIdeal.Hand

open Idealize.ShloMosaic Idealize.ShloMosaic.TcCoe
open Idealize.SL Idealize.SL.RA
open Cert.KernelIdeal.Gen Cert.Spec
open scoped Classical

theorem trips28 : k0_t1_loop.trips = 28 := by decide

/-- The column the plane row `m` of a chunk carries. -/
def ord (m : ℕ) : ℕ := 32 * (m % 8) + 4 * (m / 32) + m / 8 % 4

theorem lo_apply (x n : Fin 4 → FVec Ideal S8x128 .f32) (i : S8x128.Idx) :
    loV x n i = keepLo (fun q => x q i) (fun q => n q i) := by
  unfold loV both01 both23 keepLo Both01 Both23
  pointwise

theorem hi_apply (x n : Fin 4 → FVec Ideal S8x128 .f32) (i : S8x128.Idx) :
    hiV x n i = keepHi (fun q => x q i) (fun q => n q i) := by
  unfold hiV both01 both23 keepHi Both01 Both23
  pointwise

theorem code_apply (j : Fin 8) (n : Fin 4 → FVec Ideal S8x128 .f32) (i : S8x128.Idx) :
    codeV j n i = BitVec.ofNat 32 (code (fun q => n q i) * 16 ^ j.val) := by
  unfold codeV both01 both23 code Both01 Both23
  pointwise
  split_ifs <;> rfl

theorem pair_apply (lo hi : FVec Ideal S8x128 .bf16) (a : Fin 8) (p : Fin 2) (l : Fin 128) :
    pairV lo hi (ix4 0 a p l) = if p.val = 0 then lo (ix2 a l) else hi (ix2 a l) := by
  unfold pairV
  pointwise
  have : p.val % 2 = p.val := by omega
  rw [this]

theorem acc_apply (A : FVec Ideal S16x128 .bf16) (lo hi : FVec Ideal S8x128 .bf16) (b : Fin 16) (l : Fin 128) :
    accV A lo hi (ix2 b l) = max (A (ix2 b l)) (mag (if b.val % 2 = 0 then lo (ix2 ⟨b.val / 2, by omega⟩ l)
      else hi (ix2 ⟨b.val / 2, by omega⟩ l))) := by
  unfold accV
  pointwise
  rfl

/-- What the trip reads: the permutation one-hot in plane order, the rows' weights, the norms in plane order. -/
structure BlockIn (arg1 : Memref sig .tc .vmem S256x7168 .bf16) (arg3 : Memref sig .tc .vmem S7168x128 .f32)
    (v0 : Vec Ideal S256x256 .bf16) (X_arg1 : BufTy.Contents (Elt Ideal) arg1.view.ty)
    (X_arg3 : BufTy.Contents (Elt Ideal) arg3.view.ty) (W : ℕ → ℕ → EReal) (A : ℕ → EReal) : Prop where
  perm : ∀ m u : Fin 256, v0 (ix2 m u) = if u.val = ord m.val then (1 : EReal) else 0
  wts : ∀ (r : Fin 256) (c : Fin 7168), View.read (Elt Ideal) arg1.view X_arg1 (ix2 r c) = W r.val c.val
  nrm : ∀ (m : Fin 7168) (l : Fin 128),
    View.read (Elt Ideal) arg3.view X_arg3 (ix2 m l) = A (256 * (m.val / 256) + ord (m.val % 256))

section
variable {arg1 : Memref sig .tc .vmem S256x7168 .bf16} {arg3 : Memref sig .tc .vmem S7168x128 .f32}
  {v0 : Vec Ideal S256x256 .bf16} {X_arg1 : BufTy.Contents (Elt Ideal) arg1.view.ty}
  {X_arg3 : BufTy.Contents (Elt Ideal) arg3.view.ty} {W : ℕ → ℕ → EReal} {A : ℕ → EReal}
  (H : BlockIn arg1 arg3 v0 X_arg1 X_arg3 W A) (k : Fin k0_t1_loop.trips)
include H

theorem gx_apply (t : Fin 2) (j : Fin 8) (q : Fin 4) (a : Fin 8) (l : Fin 128) :
    gx arg1 v0 X_arg1 k t j q (ix2 a l) = cand (W (128 * t.val + l.val)) (64 * k.val + 8 * a.val + j.val) q := by
  have hk : k.val < 28 := lt_of_lt_of_eq k.isLt trips28
  have ho : ord (32 * j.val + 8 * q.val + a.val) = 32 * a.val + 4 * j.val + q.val := by unfold ord; omega
  unfold gx px planes k0_pay4 k0_pay312
  pointwise
  rw [Finset.sum_eq_single (⟨32 * a.val + 4 * j.val + q.val, by omega⟩ : Fin 256)]
  · rw [H.perm, if_pos (by simp only [ho]), one_mul, View.readAt_apply]
    have e0 : k0_off1 k 0 = 0 := by rw [k0_off1_eq k]; rfl
    have e1 : k0_off1 k 1 = 256 * k.val := by rw [k0_off1_eq k]; rfl
    pointwise
    rw [H.wts]
    unfold cand
    simp only [e0, e1]
    congr 1 <;> omega
  · intro u _ hu
    rw [H.perm, if_neg, zero_mul]
    intro h
    apply hu
    apply Fin.ext
    simp only [h, ho]
  · intro h; exact absurd (Finset.mem_univ _) h

theorem ps_apply (j : Fin 8) (q : Fin 4) (a : Fin 8) (l : Fin 128) :
    ps arg3 X_arg3 k j q (ix2 a l) = A (4 * (64 * k.val + 8 * a.val + j.val) + q.val) := by
  have hk : k.val < 28 := lt_of_lt_of_eq k.isLt trips28
  have e := k0_off2_eq k ⟨4 * j.val + q.val, by omega⟩
  have e0 : k0_off2 k (BitVec.ofNat 32 (8 * (4 * j.val + q.val))) 0 = 256 * k.val + 8 * (4 * j.val + q.val) := by rw [e]; rfl
  have e1 : k0_off2 k (BitVec.ofNat 32 (8 * (4 * j.val + q.val))) 1 = 0 := by rw [e]; rfl
  unfold ps
  rw [View.readAt_apply]
  pointwise
  rw [H.nrm]
  simp only [e0]
  unfold ord
  congr 1
  omega

theorem gn_apply (t : Fin 2) (j : Fin 8) (q : Fin 4) (a : Fin 8) (l : Fin 128) :
    gn arg1 arg3 v0 X_arg1 X_arg3 k t j q (ix2 a l)
      = keys (W (128 * t.val + l.val)) A (64 * k.val + 8 * a.val + j.val) q := by
  unfold gn pn
  pointwise
  rw [gx_apply H, ps_apply H]
  rfl

theorem glo_apply (t : Fin 2) (j : Fin 8) (a : Fin 8) (l : Fin 128) :
    glo arg1 arg3 v0 X_arg1 X_arg3 k t j (ix2 a l)
      = pick (W (128 * t.val + l.val)) A (64 * k.val + 8 * a.val + j.val) 0 := by
  unfold glo pick
  rw [lo_apply, if_pos rfl]
  simp only [gx_apply H, gn_apply H]

theorem ghi_apply (t : Fin 2) (j : Fin 8) (a : Fin 8) (l : Fin 128) :
    ghi arg1 arg3 v0 X_arg1 X_arg3 k t j (ix2 a l)
      = pick (W (128 * t.val + l.val)) A (64 * k.val + 8 * a.val + j.val) 1 := by
  unfold ghi pick
  rw [hi_apply, if_neg one_ne_zero]
  simp only [gx_apply H, gn_apply H]

theorem gword_apply (t : Fin 2) (a : Fin 8) (l : Fin 128) (j : ℕ) (hj : j ≤ 8) :
    gword arg1 arg3 v0 X_arg1 X_arg3 k t j hj (ix2 a l)
      = wordTo (W (128 * t.val + l.val)) A (8 * k.val + a.val) j := by
  induction j with
  | zero => rfl
  | succ j ih =>
    have e : 8 * (8 * k.val + a.val) + j = 64 * k.val + 8 * a.val + j := by omega
    unfold gword wordTo
    pointwise
    rw [ih, code_apply, e]
    simp only [gn_apply H]
    rfl

theorem gacc_le (t : Fin 2) (A0 : FVec Ideal S16x128 .bf16) (b : Fin 16) (l : Fin 128) (z : EReal) (j : ℕ) (hj : j ≤ 8) :
    gacc arg1 arg3 v0 X_arg1 X_arg3 k t A0 j hj (ix2 b l) ≤ z ↔ A0 (ix2 b l) ≤ z ∧ ∀ j' < j,
      mag (pick (W (128 * t.val + l.val)) A (64 * k.val + 8 * (b.val / 2) + j') (b.val % 2)) ≤ z := by
  induction j with
  | zero => simp [gacc]
  | succ j ih =>
    unfold gacc
    rw [acc_apply, max_le_iff, ih, glo_apply H, ghi_apply H]
    have e : (if b.val % 2 = 0 then pick (W (128 * t.val + l.val)) A (64 * k.val + 8 * (b.val / 2) + j) 0
        else pick (W (128 * t.val + l.val)) A (64 * k.val + 8 * (b.val / 2) + j) 1)
        = pick (W (128 * t.val + l.val)) A (64 * k.val + 8 * (b.val / 2) + j) (b.val % 2) := by
      rcases Nat.mod_two_eq_zero_or_one b.val with h | h <;> simp [h]
    simp only [e]
    constructor
    · rintro ⟨⟨h0, h1⟩, h2⟩
      refine ⟨h0, fun j' hj' => ?_⟩
      rcases Nat.lt_succ_iff_lt_or_eq.mp hj' with h | h
      · exact h1 j' h
      · rw [h]; exact h2
    · rintro ⟨h0, h1⟩
      exact ⟨⟨h0, fun j' hj' => h1 j' (by omega)⟩, h1 j (by omega)⟩
end

end Cert.KernelIdeal.Hand

end
-- ==== Proof.Chunks.lean ====
/- After the chunks before `k`: every store of pairs and of words agrees with the row's compression, and together they
   cover the rows up to `k`; the running maximum is the largest magnitude kept so far. -/
module

public import proofs.«01_k».proof.Proof.Group
public import Idealize.ShloMosaic.Lib.Writes

@[expose] public section

set_option maxRecDepth 16384
set_option maxHeartbeats 1000000

noncomputable section

namespace Cert.KernelIdeal.Hand

open Idealize.ShloMosaic Idealize.ShloMosaic.TcCoe
open Idealize.SL Idealize.SL.RA
open Cert.KernelIdeal.Gen Cert.Spec

/-- What the pair scratch holds: lane tile, group, which of the two, lane. -/
def pairG (W : ℕ → ℕ → EReal) (A : ℕ → EReal) (y : S2x1792x2x128.Idx) : Elt Ideal .bf16 :=
  pick (W (128 * (y 0).val + (y 3).val)) A (y 1).val (y 2).val

/-- What the word scratch holds: word, row. -/
def wordG (W : ℕ → ℕ → EReal) (A : ℕ → EReal) (y : S256x256.Idx) : Elt Ideal .i32 :=
  word (W (y 1).val) A (y 0).val

/-- Where a store of pairs at row `g` puts its element `(a, p, l)`. -/
theorem pairRect_emb {o : Fin 4 → ℕ} {t g : ℕ} (ho : o = ![t, g, 0, 0])
    (inb : ∀ a, S1x8x2x128.size a = 0 ∨ o a + (![1, 8, 1, 1] : Fin 4 → Nat) a * (S1x8x2x128.size a - 1) < S2x1792x2x128.size a)
    (a : Fin 8) (p : Fin 2) (l : Fin 128) (ht : t < 2) (hg : g + 8 * a.val < 1792) :
    ((⟨⟨o, S1x8x2x128.size, ![1, 8, 1, 1], inb⟩, spos_1_8_1_1⟩ : Rect S2x1792x2x128).emb
      (ix4 0 a p l : S1x8x2x128.Idx)) = (ix4 ⟨t, ht⟩ ⟨g + 8 * a.val, hg⟩ p l : S2x1792x2x128.Idx) := by
  subst ho
  funext d
  apply Fin.ext
  fin_cases d
  · show t + 1 * 0 = t; omega
  · show g + 8 * a.val = _; rfl
  · show 0 + 1 * p.val = p.val; omega
  · show 0 + 1 * l.val = l.val; omega

section
variable {arg1 : Memref sig .tc .vmem S256x7168 .bf16} {arg3 : Memref sig .tc .vmem S7168x128 .f32}
  {v0 : Vec Ideal S256x256 .bf16} {X_arg1 : BufTy.Contents (Elt Ideal) arg1.view.ty}
  {X_arg3 : BufTy.Contents (Elt Ideal) arg3.view.ty} {W : ℕ → ℕ → EReal} {A : ℕ → EReal}
  (H : BlockIn arg1 arg3 v0 X_arg1 X_arg3 W A) (k : Fin k0_t1_loop.trips)

include H in
theorem pairPiece_agrees (t : Fin 2) (j : Fin 8) (x : (pairPiece arg1 arg3 v0 X_arg1 X_arg3 k t j).1.shape.Idx) :
    (pairPiece arg1 arg3 v0 X_arg1 X_arg3 k t j).2 x = pairG W A ((pairPiece arg1 arg3 v0 X_arg1 X_arg3 k t j).1.emb x) := by
  have hk : k.val < 28 := lt_of_lt_of_eq k.isLt trips28
  have h3 := k0_off3_eq k j
  have h5 := k0_off5_eq k j
  fin_cases t
  · obtain ⟨z, a, p, l, rfl⟩ : ∃ (z : Fin 1) (a : Fin 8) (p : Fin 2) (l : Fin 128), x = ix4 z a p l :=
      ⟨x 0, x 1, x 2, x 3, eq_ix4 x⟩
    obtain rfl : z = 0 := Subsingleton.elim _ _
    refine (pair_apply _ _ a p l).trans ?_
    rw [glo_apply H, ghi_apply H]
    refine Eq.trans ?_ (congrArg (pairG W A) (pairRect_emb h3 (k0_off3_inb k j) a p l (by omega) (by omega)).symm)
    unfold pairG
    show _ = pick (W (128 * 0 + l.val)) A (64 * k.val + j.val + 8 * a.val) p.val
    have e : 64 * k.val + j.val + 8 * a.val = 64 * k.val + 8 * a.val + j.val := by omega
    rw [e]
    fin_cases p <;> rfl
  · obtain ⟨z, a, p, l, rfl⟩ : ∃ (z : Fin 1) (a : Fin 8) (p : Fin 2) (l : Fin 128), x = ix4 z a p l :=
      ⟨x 0, x 1, x 2, x 3, eq_ix4 x⟩
    obtain rfl : z = 0 := Subsingleton.elim _ _
    refine (pair_apply _ _ a p l).trans ?_
    rw [glo_apply H, ghi_apply H]
    refine Eq.trans ?_ (congrArg (pairG W A) (pairRect_emb h5 (k0_off5_inb k j) a p l (by omega) (by omega)).symm)
    unfold pairG
    show _ = pick (W (128 * 1 + l.val)) A (64 * k.val + j.val + 8 * a.val) p.val
    have e : 64 * k.val + j.val + 8 * a.val = 64 * k.val + 8 * a.val + j.val := by omega
    rw [e]
    fin_cases p <;> rfl

theorem pairPiece_mem (t : Fin 2) (j : Fin 8) (a : Fin 8) (p : Fin 2) (l : Fin 128) (g : Fin 1792)
    (hg : g.val = 64 * k.val + j.val + 8 * a.val) :
    (ix4 t g p l : S2x1792x2x128.Idx) ∈ (pairPiece (F := Ideal) arg1 arg3 v0 X_arg1 X_arg3 k t j).1.set := by
  have hk : k.val < 28 := lt_of_lt_of_eq k.isLt trips28
  have h3 := k0_off3_eq k j
  have h5 := k0_off5_eq k j
  have hge : g = ⟨64 * k.val + j.val + 8 * a.val, by omega⟩ := Fin.ext hg
  rw [hge]
  fin_cases t
  · exact (pairRect_emb h3 (k0_off3_inb k j) a p l (by omega) (by omega)) ▸ LoadRect.idx_mem _ _
  · exact (pairRect_emb h5 (k0_off5_inb k j) a p l (by omega) (by omega)) ▸ LoadRect.idx_mem _ _

/-- Where a store of words puts its element. -/
theorem wordRect_emb {o : Fin 2 → ℕ} {n r : ℕ} (ho : o = ![n, r]) (inb : ∀ a, o a + S8x128.size a ≤ S256x256.size a)
    (a : Fin 8) (l : Fin 128) (hn : n + a.val < 256) (hr : r + l.val < 256) :
    ((Rect.unit (s := S256x256) o S8x128.size inb).emb (ix2 a l : S8x128.Idx))
      = (ix2 ⟨n + a.val, hn⟩ ⟨r + l.val, hr⟩ : S256x256.Idx) := by
  subst ho
  funext d
  apply Fin.ext
  fin_cases d
  · show n + 1 * a.val = n + a.val; omega
  · show r + 1 * l.val = r + l.val; omega

include H in
theorem wordPieces_agree : ∀ p ∈ wordPieces arg1 arg3 v0 X_arg1 X_arg3 k, ∀ x : p.1.shape.Idx, p.2 x = wordG W A (p.1.emb x) := by
  have hk : k.val < 28 := lt_of_lt_of_eq k.isLt trips28
  have h4 := k0_off4_eq k
  have h6 := k0_off6_eq k
  intro p hp x
  unfold wordPieces at hp
  simp only [List.mem_cons, List.not_mem_nil, or_false] at hp
  rcases hp with rfl | rfl
  · obtain ⟨a, l, rfl⟩ : ∃ (a : Fin 8) (l : Fin 128), x = ix2 a l := ⟨x 0, x 1, eq_ix2 x⟩
    refine Eq.trans ?_ (congrArg (wordG W A) (wordRect_emb h6 (k0_off6_inb k) a l (by omega) (by omega)).symm)
    dsimp only
    pointwise
    rw [gword_apply H]
    unfold wordG word
    dsimp only
    norm_num
  · obtain ⟨a, l, rfl⟩ : ∃ (a : Fin 8) (l : Fin 128), x = ix2 a l := ⟨x 0, x 1, eq_ix2 x⟩
    refine Eq.trans ?_ (congrArg (wordG W A) (wordRect_emb h4 (k0_off4_inb k) a l (by omega) (by omega)).symm)
    dsimp only
    pointwise
    rw [gword_apply H]
    unfold wordG word
    dsimp only
    norm_num

theorem wordPieces_mem (n : Fin 256) (r : Fin 256) (hn : n.val / 8 = k.val) :
    ∃ p ∈ wordPieces (F := Ideal) arg1 arg3 v0 X_arg1 X_arg3 k, (ix2 n r : S256x256.Idx) ∈ p.1.set := by
  have hk : k.val < 28 := lt_of_lt_of_eq k.isLt trips28
  have h4 := k0_off4_eq k
  have h6 := k0_off6_eq k
  unfold wordPieces
  by_cases hr : r.val < 128
  · refine ⟨_, List.mem_cons_of_mem _ List.mem_cons_self, ?_⟩
    have := (wordRect_emb h4 (k0_off4_inb k) ⟨n.val % 8, by omega⟩ ⟨r.val, hr⟩ (by dsimp only; omega) (by dsimp only; omega))
    have e : (ix2 n r : S256x256.Idx) = ix2 ⟨8 * k.val + n.val % 8, by omega⟩ ⟨0 + r.val, by omega⟩ := by
      congr 1 <;> apply Fin.ext <;> dsimp only <;> omega
    rw [e]
    exact this ▸ LoadRect.idx_mem _ _
  · refine ⟨_, List.mem_cons_self, ?_⟩
    have := (wordRect_emb h6 (k0_off6_inb k) ⟨n.val % 8, by omega⟩ ⟨r.val - 128, by omega⟩ (by dsimp only; omega) (by dsimp only; omega))
    have e : (ix2 n r : S256x256.Idx) = ix2 ⟨8 * k.val + n.val % 8, by omega⟩ ⟨128 + (r.val - 128), by omega⟩ := by
      congr 1 <;> apply Fin.ext <;> dsimp only <;> omega
    rw [e]
    exact this ▸ LoadRect.idx_mem _ _

variable (𝒱 : Variants) (c : Dev nD) (bd : Option 𝒱.V) (i : grid0.Coords) (harg1 : arg1.IsWhole) (arg2 : Memref sig .tc .vmem S256x256 .bf16) (harg2 : arg2.IsWhole) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole)
  (init : FVec Ideal S16x128 .bf16 × FVec Ideal S16x128 .bf16)

/-- The state before trip `k` as the stores so far and the maximum so far. -/
theorem state (k : ℕ) (hk : k ≤ 28) :
    (∀ p ∈ (st_k0_t1 (F := Ideal) 𝒱 c bd i arg1 harg1 arg2 harg2 arg3 harg3 arg4 harg4 arg5 harg5 arg6 harg6 arg7 harg7 arg8 harg8 v0 X_arg1 X_arg3 init k).2.1,
        (H' : BlockIn arg1 arg3 v0 X_arg1 X_arg3 W A) → ∀ x : p.1.shape.Idx, p.2 x = pairG W A (p.1.emb x))
    ∧ (∀ (t : Fin 2) (g : Fin 1792) (p : Fin 2) (l : Fin 128), g.val < 64 * k →
        ∃ q ∈ (st_k0_t1 (F := Ideal) 𝒱 c bd i arg1 harg1 arg2 harg2 arg3 harg3 arg4 harg4 arg5 harg5 arg6 harg6 arg7 harg7 arg8 harg8 v0 X_arg1 X_arg3 init k).2.1, (ix4 t g p l : S2x1792x2x128.Idx) ∈ q.1.set)
    ∧ (∀ p ∈ (st_k0_t1 (F := Ideal) 𝒱 c bd i arg1 harg1 arg2 harg2 arg3 harg3 arg4 harg4 arg5 harg5 arg6 harg6 arg7 harg7 arg8 harg8 v0 X_arg1 X_arg3 init k).2.2,
        (H' : BlockIn arg1 arg3 v0 X_arg1 X_arg3 W A) → ∀ x : p.1.shape.Idx, p.2 x = wordG W A (p.1.emb x))
    ∧ (∀ (n r : Fin 256), n.val < 8 * k →
        ∃ q ∈ (st_k0_t1 (F := Ideal) 𝒱 c bd i arg1 harg1 arg2 harg2 arg3 harg3 arg4 harg4 arg5 harg5 arg6 harg6 arg7 harg7 arg8 harg8 v0 X_arg1 X_arg3 init k).2.2, (ix2 n r : S256x256.Idx) ∈ q.1.set)
    ∧ ((H' : BlockIn arg1 arg3 v0 X_arg1 X_arg3 W A) → ∀ (b : Fin 16) (l : Fin 128) (z : EReal),
        ((st_k0_t1 (F := Ideal) 𝒱 c bd i arg1 harg1 arg2 harg2 arg3 harg3 arg4 harg4 arg5 harg5 arg6 harg6 arg7 harg7 arg8 harg8 v0 X_arg1 X_arg3 init k).1.1 (ix2 b l) ≤ z ↔ init.1 (ix2 b l) ≤ z ∧ ∀ c' < k, ∀ j < 8,
          mag (pick (W l.val) A (64 * c' + 8 * (b.val / 2) + j) (b.val % 2)) ≤ z)
        ∧ ((st_k0_t1 (F := Ideal) 𝒱 c bd i arg1 harg1 arg2 harg2 arg3 harg3 arg4 harg4 arg5 harg5 arg6 harg6 arg7 harg7 arg8 harg8 v0 X_arg1 X_arg3 init k).1.2 (ix2 b l) ≤ z ↔ init.2 (ix2 b l) ≤ z ∧ ∀ c' < k, ∀ j < 8,
          mag (pick (W (128 + l.val)) A (64 * c' + 8 * (b.val / 2) + j) (b.val % 2)) ≤ z)) := by
  induction k with
  | zero =>
    refine ⟨fun p hp => absurd hp List.not_mem_nil, fun _ _ _ _ h => absurd h (by omega),
      fun p hp => absurd hp List.not_mem_nil, fun _ _ h => absurd h (by omega), fun H' b l z => ⟨?_, ?_⟩⟩
    · exact ⟨fun h => ⟨h, fun c' hc => absurd hc (by omega)⟩, fun h => h.1⟩
    · exact ⟨fun h => ⟨h, fun c' hc => absurd hc (by omega)⟩, fun h => h.1⟩
  | succ k ih =>
    have hk' : k < k0_t1_loop.trips := lt_of_lt_of_eq (by omega : k < 28) trips28.symm
    obtain ⟨i1, i2, i3, i4, i5⟩ := ih (by omega)
    have e := st_k0_t1_succ (F := Ideal) 𝒱 c bd i arg1 harg1 arg2 harg2 arg3 harg3 arg4 harg4 arg5 harg5 arg6 harg6 arg7 harg7 arg8 harg8 v0 X_arg1 X_arg3 init ⟨k, hk'⟩
    dsimp only [tripR_k0_t1, tripL_k0_t1] at e
    generalize st_k0_t1 (F := Ideal) 𝒱 c bd i arg1 harg1 arg2 harg2 arg3 harg3 arg4 harg4 arg5 harg5 arg6 harg6 arg7 harg7 arg8 harg8 v0 X_arg1 X_arg3 init (k + 1) = S1 at e ⊢
    generalize st_k0_t1 (F := Ideal) 𝒱 c bd i arg1 harg1 arg2 harg2 arg3 harg3 arg4 harg4 arg5 harg5 arg6 harg6 arg7 harg7 arg8 harg8 v0 X_arg1 X_arg3 init k = S0 at e i1 i2 i3 i4 i5
    rw [trip_pairs, trip_words, trip_acc] at e
    subst e
    refine ⟨?_, ?_, ?_, ?_, ?_⟩
    · intro p hp H'
      rcases List.mem_append.mp hp with h | h
      · simp only [List.mem_cons, List.not_mem_nil, or_false] at h
        rcases h with rfl | rfl | rfl | rfl | rfl | rfl | rfl | rfl | rfl | rfl | rfl | rfl | rfl | rfl | rfl | rfl <;>
          exact pairPiece_agrees H' _ _ _
      · exact i1 p h H'
    · intro t g p l hg
      by_cases h : g.val < 64 * k
      · obtain ⟨q, hq, hm⟩ := i2 t g p l h
        exact ⟨q, List.mem_append_right _ hq, hm⟩
      · refine ⟨pairPiece arg1 arg3 v0 X_arg1 X_arg3 ⟨k, hk'⟩ t ⟨g.val % 8, by omega⟩, List.mem_append_left _ ?_,
          pairPiece_mem ⟨k, hk'⟩ t ⟨g.val % 8, by omega⟩ ⟨(g.val % 64) / 8, by omega⟩ p l g (by dsimp only; omega)⟩
        generalize (⟨g.val % 8, by omega⟩ : Fin 8) = j
        fin_cases t <;> fin_cases j <;> simp only [List.mem_cons] <;> simp
    · intro p hp H'
      rcases List.mem_append.mp hp with h | h
      · exact wordPieces_agree H' _ p h
      · exact i3 p h H'
    · intro n r hn
      by_cases h : n.val < 8 * k
      · obtain ⟨q, hq, hm⟩ := i4 n r h
        exact ⟨q, List.mem_append_right _ hq, hm⟩
      · obtain ⟨q, hq, hm⟩ := wordPieces_mem (arg1 := arg1) (arg3 := arg3) (v0 := v0) (X_arg1 := X_arg1) (X_arg3 := X_arg3)
          ⟨k, hk'⟩ n r (by dsimp only; omega)
        exact ⟨q, List.mem_append_left _ hq, hm⟩
    · intro H' b l z
      obtain ⟨a1, a2⟩ := i5 H' b l z
      have step : ∀ (P : ℕ → ℕ → Prop) (Q : Prop), ((Q ∧ ∀ c' < k, ∀ j < 8, P c' j) ∧ ∀ j < 8, P k j)
          ↔ (Q ∧ ∀ c' < k + 1, ∀ j < 8, P c' j) := by
        intro P Q
        constructor
        · rintro ⟨⟨h0, h1⟩, h2⟩
          refine ⟨h0, fun c' hc => ?_⟩
          rcases Nat.lt_succ_iff_lt_or_eq.mp hc with h | h
          · exact h1 c' h
          · rw [h]; exact h2
        · rintro ⟨h0, h1⟩
          exact ⟨⟨h0, fun c' hc => h1 c' (by omega)⟩, h1 k (by omega)⟩
      constructor
      · refine (gacc_le H' ⟨k, hk'⟩ 0 _ b l z 8 le_rfl).trans ?_
        rw [a1]
        have e0 : 128 * (0 : Fin 2).val + l.val = l.val := by simp
        rw [e0]
        exact step (fun c' j => mag (pick (W l.val) A (64 * c' + 8 * (b.val / 2) + j) (b.val % 2)) ≤ z) _
      · refine (gacc_le H' ⟨k, hk'⟩ 1 _ b l z 8 le_rfl).trans ?_
        rw [a2]
        have e0 : 128 * (1 : Fin 2).val + l.val = 128 + l.val := by simp
        rw [e0]
        exact step (fun c' j => mag (pick (W (128 + l.val)) A (64 * c' + 8 * (b.val / 2) + j) (b.val % 2)) ≤ z) _
end

end Cert.KernelIdeal.Hand

end
-- ==== Proof.Scale.lean ====
/- The kernel's quantisation step, read at one row: the maximum of the kept magnitudes, the binary
search for its biased exponent, the scale and its inverse, and the scaled, clipped values. -/
module

public import proofs.«01_k».proof.Proof.Chunks

@[expose] public section

set_option maxRecDepth 16384
set_option maxHeartbeats 1000000

noncomputable section

namespace Cert.KernelIdeal.Hand

open Idealize.ShloMosaic Idealize.ShloMosaic.TcCoe
open Idealize.SL Idealize.SL.RA
open Cert.KernelIdeal.Gen Cert.Spec

/-- One step of the search: take the bit when the power of two it denotes is not above the number. -/
def stepB (bit : BitVec 32) (y : EReal) (e : BitVec 32) : BitVec 32 :=
  if Ideal.ofBits .f32 (IntOp.shli .vector (IntOp.addi e bit) 23#32) ≤ y then IntOp.addi e bit else e

/-- The first three steps of the search. -/
def search3 (y : EReal) : BitVec 32 := stepB 32#32 y (stepB 64#32 y (stepB 128#32 y 0#32))

/-- The first four steps of the search. -/
def search4 (y : EReal) : BitVec 32 := stepB 16#32 y (search3 y)

/-- The last four steps of the search. -/
def searchRest (y : EReal) (e : BitVec 32) : BitVec 32 :=
  stepB 1#32 y (stepB 2#32 y (stepB 4#32 y (stepB 8#32 y e)))

/-- The biased exponent found by the search. -/
def kexp (y : EReal) : BitVec 32 := searchRest y (search4 y)

/-- The exponent of the scale of a biased exponent. -/
def expOf (e : BitVec 32) : BitVec 32 := if e = 0#32 ∨ e = 255#32 then 0#32 else IntOp.subi e 126#32

/-- The exponent of the scale. -/
def kE (y : EReal) : BitVec 32 := expOf (kexp y)

/-- Two to an exponent, written as bits. -/
def kscaleOf (e : BitVec 32) : EReal := Ideal.ofBits .f32 (IntOp.shli .vector (IntOp.addi e 127#32) 23#32)

/-- Two to the opposite of an exponent, written as bits. -/
def kinvOf (e : BitVec 32) : EReal := Ideal.ofBits .f32 (IntOp.shli .vector (IntOp.subi 127#32 e) 23#32)

/-- The factor that brings the largest magnitude to the range of the format. -/
def c448 : EReal := Ideal.ofBits .f32 0x3B124925#32

/-- The largest entry of a column of the accumulator. -/
def colMax (v : FVec Ideal S16x128 .bf16) (l : Fin 128) : EReal :=
  Finset.fold max (Ideal.ofBits FTy.f32 0xFF800000#32) (fun x => v (ix2 x l)) Finset.univ

theorem colMax_le (v : FVec Ideal S16x128 .bf16) (l : Fin 128) (z : EReal) :
    colMax v l ≤ z ↔ ∀ b : Fin 16, (v (ix2 b l) : EReal) ≤ z := by
  unfold colMax
  rw [Finset.fold_max_le]
  have e : Ideal.ofBits FTy.f32 0xFF800000#32 = ⊥ := by simp [Ideal.ofBits, Ideal.ieee]
  rw [e]
  simp

theorem pay318_apply (v : FVec Ideal S16x128 .bf16) (l : Fin 128) :
    k0_pay318 v (ix2 0 l) = colMax v l * c448 := by
  unfold k0_pay318
  pointwise
  rfl

theorem pay324_apply (v : FVec Ideal S16x128 .bf16) (l : Fin 128) :
    k0_pay324 v (ix2 0 l) = colMax v l * c448 := by
  unfold k0_pay324
  pointwise
  rfl

theorem pay319_apply (v : FVec Ideal S16x128 .bf16) (l : Fin 128) :
    k0_pay319 v (ix2 0 l) = search4 (k0_pay318 v (ix2 0 l)) := by
  unfold k0_pay319
  generalize k0_pay318 v = y
  pointwise
  rfl

/-- One step of the search on the whole vector. -/
def stepV (bit : BitVec 32) (y : FVec Ideal S1x128 .f32) (e : IVec S1x128 32) : IVec S1x128 32 :=
  select (cmpf .oge y (bitcastToFloat .f32 (shli (addi e (broadcast S1x128 bit)) (broadcast S1x128 23#32))))
    (addi e (broadcast S1x128 bit)) e

theorem stepV_apply (bit : BitVec 32) (y : FVec Ideal S1x128 .f32) (e : IVec S1x128 32) (l : Fin 128) :
    stepV bit y e (ix2 0 l) = stepB bit (y (ix2 0 l)) (e (ix2 0 l)) := by
  unfold stepV
  pointwise
  rfl

/-- The exponent of a biased exponent on the whole vector. -/
def expV (e : IVec S1x128 32) : IVec S1x128 32 :=
  select (ori (cmpi .eq e (broadcast S1x128 0#32)) (cmpi .eq e (broadcast S1x128 255#32)))
    (broadcast S1x128 0#32) (subi e (broadcast S1x128 126#32))

theorem expV_apply (e : IVec S1x128 32) (l : Fin 128) : expV e (ix2 0 l) = expOf (e (ix2 0 l)) := by
  unfold expV expOf
  pointwise
  generalize e (ix2 0 l) = u
  by_cases h0 : u = 0#32
  · subst h0; rfl
  by_cases h1 : u = 255#32
  · subst h1; rfl
  have b0 : (u == 0#32) = false := by simpa using h0
  have b1 : (u == 255#32) = false := by simpa using h1
  simp [h0, h1, Scalar.select, IntOp.ori, IntOp.cmpi, b0, b1]

theorem pay320_apply (y : FVec Ideal S1x128 .f32) (e : IVec S1x128 32) (l : Fin 128) :
    k0_pay320 y e (ix2 0 l) = expOf (searchRest (y (ix2 0 l)) (e (ix2 0 l))) := by
  have h : k0_pay320 y e = expV (stepV 1#32 y (stepV 2#32 y (stepV 4#32 y (stepV 8#32 y e)))) := rfl
  rw [h, expV_apply, stepV_apply, stepV_apply, stepV_apply, stepV_apply]
  rfl

theorem pay321_apply (y : FVec Ideal S1x128 .f32) (e : IVec S1x128 32) (l : Fin 128) :
    k0_pay321 y e (ix2 0 l) = kscaleOf (k0_pay320 y e (ix2 0 l)) := by
  unfold k0_pay321
  generalize k0_pay320 y e = w
  pointwise
  rfl

theorem pay325_apply (v : FVec Ideal S16x128 .bf16) (l : Fin 128) :
    k0_pay325 v (ix2 0 l) = search3 (k0_pay324 v (ix2 0 l)) := by
  unfold k0_pay325
  generalize k0_pay324 v = y
  pointwise
  rfl

/-- The fifth step of the search, as the second tile prints it. -/
def step5 (y : FVec Ideal S1x128 .f32) (e e' n : IVec S1x128 32) : IVec S1x128 32 :=
  select (cmpf .oge y (bitcastToFloat .f32 (shli e' n))) e' e

theorem step5_apply (v : FVec Ideal S16x128 .bf16) (y : FVec Ideal S1x128 .f32) (l : Fin 128) :
    step5 y (k0_pay325 v) (k0_pay326 v) k0_pay327 (ix2 0 l)
      = stepB 16#32 (y (ix2 0 l)) (k0_pay325 v (ix2 0 l)) := by
  unfold step5 k0_pay326 k0_pay327
  generalize k0_pay325 v = e
  pointwise
  rfl

theorem pay328_apply (v : FVec Ideal S16x128 .bf16) (y : FVec Ideal S1x128 .f32) (l : Fin 128) :
    k0_pay328 y (k0_pay325 v) (k0_pay326 v) k0_pay327 (ix2 0 l)
      = expOf (searchRest (y (ix2 0 l)) (stepB 16#32 (y (ix2 0 l)) (k0_pay325 v (ix2 0 l)))) := by
  rw [← step5_apply v y l, ← pay320_apply]
  rfl

theorem pay329_apply (a : FVec Ideal S1x128 .f32) (b d f : IVec S1x128 32) (l : Fin 128) :
    k0_pay329 a b d f (ix2 0 l) = kscaleOf (k0_pay328 a b d f (ix2 0 l)) := by
  unfold k0_pay329
  generalize k0_pay328 a b d f = w
  pointwise
  rfl

/-- The scaled and clipped value. -/
def clip (v s : EReal) : EReal :=
  min (Ideal.ofBits .bf16 0x43E0#16) (max (Ideal.ofBits .bf16 0xC3E0#16) (v * s))

theorem pay323_apply (v : Vec Ideal S1x64x2x128 .bf16) (w : IVec S1x128 32) (r l : Fin 128) :
    k0_pay323 w v (ix2 r l)
      = clip (v (ix4 0 ⟨l.val / 2, by omega⟩ ⟨l.val % 2, by omega⟩ r)) (kinvOf (w (ix2 0 r))) := by
  unfold k0_pay323
  pointwise
  have h : ∀ (q : Fin 2), (q.val = l.val % 2) →
     (if l.val % 2 = 0 then v (ix4 0 ⟨l.val / 2, by omega⟩ 0 r) else v (ix4 0 ⟨l.val / 2, by omega⟩ 1 r))
      = v (ix4 0 ⟨l.val / 2, by omega⟩ q r) := by
    intro q hq
    split
    · obtain rfl : q = 0 := Fin.ext (by show q.val = 0; omega)
      rfl
    · obtain rfl : q = 1 := Fin.ext (by show q.val = 1; omega)
      rfl
  rw [h ⟨l.val % 2, by omega⟩ rfl]
  rfl

theorem pay2_apply (v : Vec Ideal S1x64x2x128 .bf16) (w : IVec S1x128 32) (r l : Fin 128) :
    k0_pay2 w v (ix2 r l)
      = clip (v (ix4 0 ⟨l.val / 2, by omega⟩ ⟨l.val % 2, by omega⟩ r)) (kinvOf (w (ix2 0 r))) :=
  pay323_apply v w r l

theorem pay1_apply (y : FVec Ideal S1x128 .f32) (l : Fin 128) :
    k0_pay1 y (ix3 0 0 l) = y (ix2 0 l) := by
  unfold k0_pay1
  pointwise

theorem pay322_apply (y : FVec Ideal S1x128 .f32) (l : Fin 128) :
    k0_pay322 y (ix3 0 0 l) = y (ix2 0 l) := by
  unfold k0_pay322
  pointwise

theorem pay3_apply (v : IVec S256x256 32) (r : Fin 256) (n : Fin 224) :
    k0_pay3 (F := Ideal) v (ix2 r n) = v (ix2 ⟨n.val, by omega⟩ r) := by
  unfold k0_pay3
  pointwise

theorem pay313_apply (b : Fin 16) (l : Fin 128) : (k0_pay313 (F := Ideal)) (ix2 b l) = (0 : EReal) := by
  unfold k0_pay313
  pointwise

theorem pay314_apply (b : Fin 16) (l : Fin 128) : (k0_pay314 (F := Ideal)) (ix2 b l) = (0 : EReal) := by
  unfold k0_pay314
  pointwise

/-- The accumulator's characterisation says its column maximum is the row's largest kept magnitude. -/
theorem colMax_eq (v : FVec Ideal S16x128 .bf16) (w a : ℕ → EReal) (l : Fin 128)
    (h : ∀ (b : Fin 16) (z : EReal), ((v (ix2 b l) : EReal) ≤ z ↔ (0 : EReal) ≤ z ∧
      ∀ c' < 28, ∀ j < 8, mag (pick w a (64 * c' + 8 * (b.val / 2) + j) (b.val % 2)) ≤ z)) :
    colMax v l = amax w a := by
  have key : ∀ z, colMax v l ≤ z ↔ amax w a ≤ z := by
    intro z
    rw [colMax_le]
    unfold amax
    rw [iSup_le_iff]
    constructor
    · intro hb c
      have hc := c.isLt
      have hq := ((h ⟨2 * (c.val / 2 % 64 / 8) + c.val % 2, by omega⟩ z).1 (hb _)).2
        (c.val / 2 / 64) (by omega) (c.val / 2 % 8) (by omega)
      unfold kept
      have e1 : 64 * (c.val / 2 / 64) + 8 * ((2 * (c.val / 2 % 64 / 8) + c.val % 2) / 2) + c.val / 2 % 8
          = c.val / 2 := by omega
      have e2 : (2 * (c.val / 2 % 64 / 8) + c.val % 2) % 2 = c.val % 2 := by omega
      simp only [e1, e2] at hq
      exact hq
    · intro hc b
      have hb := b.isLt
      refine (h b z).2 ⟨?_, ?_⟩
      · refine le_trans ?_ (hc 0)
        unfold mag
        rcases le_total 0 (kept w a (0 : Fin 3584)) with h0 | h0
        · exact le_trans h0 (le_max_left _ _)
        · exact le_trans (by simpa using EReal.neg_le_neg_iff.2 h0) (le_max_right _ _)
      · intro c' hc' j hj
        have hq := hc ⟨2 * (64 * c' + 8 * (b.val / 2) + j) + b.val % 2, by omega⟩
        unfold kept at hq
        have e1 : (2 * (64 * c' + 8 * (b.val / 2) + j) + b.val % 2) / 2 = 64 * c' + 8 * (b.val / 2) + j := by omega
        have e2 : (2 * (64 * c' + 8 * (b.val / 2) + j) + b.val % 2) % 2 = b.val % 2 := by omega
        simp only [e1, e2] at hq
        exact hq
  exact le_antisymm ((key _).2 le_rfl) ((key _).1 le_rfl)

end Cert.KernelIdeal.Hand
end
-- ==== Proof.Out.lean ====
/- What one run of the body leaves in its three outputs, read at an index: the clipped and scaled kept values, the
metadata words, and the scales of the block's rows. -/
module

public import proofs.«01_k».proof.Proof.Scale
public import proofs.«01_k».proof.Proof.KernelIdealRun
public import Idealize.ShloMosaic.Lib.WholeRead

@[expose] public section

set_option maxRecDepth 16384
set_option maxHeartbeats 1000000

noncomputable section

namespace Cert.KernelIdeal.Hand

open Idealize.ShloMosaic Idealize.ShloMosaic.TcCoe
open Idealize.SL Idealize.SL.RA
open Cert.KernelIdeal.Gen Cert.Spec

/-- The exponent of a row's scale. -/
def rowE (W : ℕ → ℕ → EReal) (A : ℕ → EReal) (r : ℕ) : BitVec 32 := kE (amax (W r) A * c448)

/-- The values of the block: rows, columns. -/
def valG (W : ℕ → ℕ → EReal) (A : ℕ → EReal) (y : S256x3584.Idx) : Elt Ideal .fp8e4m3 :=
  clip (kept (W (y 0).val) A (y 1).val) (kinvOf (rowE W A (y 0).val))

/-- The metadata of the block: rows, words. -/
def metaG (W : ℕ → ℕ → EReal) (A : ℕ → EReal) (y : S256x224.Idx) : Elt Ideal .i32 :=
  word (W (y 0).val) A (y 1).val

/-- The scales of the block's rows. -/
def scaleG (W : ℕ → ℕ → EReal) (A : ℕ → EReal) (y : S1x1x256.Idx) : Elt Ideal .f32 :=
  kscaleOf (rowE W A (y 2).val)

theorem trips28_2 : k0_t2_loop.trips = 28 := by decide
theorem trips28_3 : k0_t3_loop.trips = 28 := by decide

/-- Where a store of values puts its element. -/
theorem valRect_emb {o : Fin 2 → ℕ} {n r : ℕ} (ho : o = ![n, r]) (inb : ∀ a, o a + S128x128.size a ≤ S256x3584.size a)
    (a l : Fin 128) (hn : n + a.val < 256) (hr : r + l.val < 3584) :
    ((Rect.unit (s := S256x3584) o S128x128.size inb).emb (ix2 a l : S128x128.Idx))
      = (ix2 ⟨n + a.val, hn⟩ ⟨r + l.val, hr⟩ : S256x3584.Idx) := by
  subst ho
  funext d
  apply Fin.ext
  fin_cases d
  · show n + 1 * a.val = n + a.val; omega
  · show r + 1 * l.val = r + l.val; omega

/-- Where a read of pairs finds its element. -/
theorem pairRead_idx {o : Fin 4 → ℕ} {t g : ℕ} (ho : o = ![t, g, 0, 0])
    (inb : ∀ a, o a + S1x64x2x128.size a ≤ S2x1792x2x128.size a)
    (a : Fin 64) (p : Fin 2) (l : Fin 128) (ht : t < 2) (hg : g + a.val < 1792) :
    (Rect.unit (s := S2x1792x2x128) o S1x64x2x128.size inb).toLoadRect.idx (ix4 0 a p l : S1x64x2x128.Idx)
      = (ix4 ⟨t, ht⟩ ⟨g + a.val, hg⟩ p l : S2x1792x2x128.Idx) := by
  subst ho
  funext d
  apply Fin.ext
  fin_cases d
  · show t + 1 * 0 = t; omega
  · show g + 1 * a.val = g + a.val; omega
  · show 0 + 1 * p.val = p.val; omega
  · show 0 + 1 * l.val = l.val; omega

section
variable {arg1 : Memref sig .tc .vmem S256x7168 .bf16} {arg3 : Memref sig .tc .vmem S7168x128 .f32}
  {W : ℕ → ℕ → EReal} {A : ℕ → EReal}
  (𝒱 : Variants) (c : Dev nD) (bd : Option 𝒱.V) (i : grid0.Coords) (harg1 : arg1.IsWhole) (arg2 : Memref sig .tc .vmem S256x256 .bf16) (harg2 : arg2.IsWhole) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole)

theorem trip2_eq (v5_1 : FVec Ideal S16x128 .bf16) (v76 : IVec S1x128 32) (v81 : FVec Ideal S1x128 .f32) (v82 : Vec Ideal S1x1x128 .f32) (X_arg7 : BufTy.Contents (Elt Ideal) arg7.view.ty) (k : Fin k0_t2_loop.trips) :
    tripL_k0_t2 (F := Ideal) 𝒱 c bd i arg1 harg1 arg2 harg2 arg3 harg3 arg4 harg4 arg5 harg5 arg6 harg6 arg7 harg7 arg8 harg8 v5_1 v76 v81 v82 X_arg7 k
      = [⟨Rect.unit (s := S256x3584) (k0_off8 k) S128x128.size (k0_off8_inb k),
          k0_pay323 v76 (View.readAt (Elt Ideal) arg7.view
            (Rect.unit (s := S2x1792x2x128) (k0_off7 k) S1x64x2x128.size (k0_off7_inb k)).toLoadRect X_arg7)⟩] := by
  unfold tripL_k0_t2 trip_k0_t2; rfl

theorem pieces2 (v5_1 : FVec Ideal S16x128 .bf16) (v76 : IVec S1x128 32) (v81 : FVec Ideal S1x128 .f32) (v82 : Vec Ideal S1x1x128 .f32) (X_arg7 : BufTy.Contents (Elt Ideal) arg7.view.ty) (k : ℕ) (hk : k ≤ 28)
    (hX : ∀ (g : Fin 1792) (p : Fin 2) (l : Fin 128),
      View.read (Elt Ideal) arg7.view X_arg7 (ix4 0 g p l) = pairG W A (ix4 0 g p l))
    (hE : ∀ l : Fin 128, v76 (ix2 0 l) = rowE W A (0 + l.val)) :
    (∀ p ∈ pb_k0_t2 (F := Ideal) 𝒱 c bd i arg1 harg1 arg2 harg2 arg3 harg3 arg4 harg4 arg5 harg5 arg6 harg6 arg7 harg7 arg8 harg8 v5_1 v76 v81 v82 X_arg7 k,
      ∀ x : p.1.shape.Idx, p.2 x = valG W A (p.1.emb x))
    ∧ (∀ (r : Fin 128) (q : Fin 3584), q.val < 128 * k →
      ∃ p ∈ pb_k0_t2 (F := Ideal) 𝒱 c bd i arg1 harg1 arg2 harg2 arg3 harg3 arg4 harg4 arg5 harg5 arg6 harg6 arg7 harg7 arg8 harg8 v5_1 v76 v81 v82 X_arg7 k,
        (ix2 ⟨0 + r.val, by omega⟩ q : S256x3584.Idx) ∈ p.1.set) := by
  induction k with
  | zero => exact ⟨fun p hp => absurd hp List.not_mem_nil, fun _ _ h => absurd h (by omega)⟩
  | succ k ih =>
    obtain ⟨i1, i2⟩ := ih (by omega)
    have hk' : k < k0_t2_loop.trips := lt_of_lt_of_eq (by omega : k < 28) trips28_2.symm
    have e := pb_k0_t2_succ (F := Ideal) 𝒱 c bd i arg1 harg1 arg2 harg2 arg3 harg3 arg4 harg4 arg5 harg5 arg6 harg6 arg7 harg7 arg8 harg8 v5_1 v76 v81 v82 X_arg7 ⟨k, hk'⟩
    rw [trip2_eq] at e
    have ho := k0_off8_eq ⟨k, hk'⟩
    have hr := k0_off7_eq ⟨k, hk'⟩
    generalize pb_k0_t2 (F := Ideal) 𝒱 c bd i arg1 harg1 arg2 harg2 arg3 harg3 arg4 harg4 arg5 harg5 arg6 harg6 arg7 harg7 arg8 harg8 v5_1 v76 v81 v82 X_arg7 (k + 1) = S1 at e ⊢
    generalize pb_k0_t2 (F := Ideal) 𝒱 c bd i arg1 harg1 arg2 harg2 arg3 harg3 arg4 harg4 arg5 harg5 arg6 harg6 arg7 harg7 arg8 harg8 v5_1 v76 v81 v82 X_arg7 k = S0 at e i1 i2
    subst e
    refine ⟨?_, ?_⟩
    · intro p hp
      rcases List.mem_append.mp hp with h | h
      · simp only [List.mem_cons, List.not_mem_nil, or_false] at h
        subst h
        intro x
        obtain ⟨r, l, rfl⟩ : ∃ (r l : Fin 128), x = ix2 r l := ⟨x 0, x 1, eq_ix2 x⟩
        refine (pay323_apply _ _ r l).trans ?_
        refine Eq.trans ?_ (congrArg (valG W A) (valRect_emb ho (k0_off8_inb ⟨k, hk'⟩) r l (by omega) (by dsimp only; omega)).symm)
        rw [hE r, View.readAt_apply]
        refine (congrArg (fun z => clip (View.read (Elt Ideal) arg7.view X_arg7 z) _)
          (pairRead_idx hr (k0_off7_inb ⟨k, hk'⟩) ⟨l.val / 2, by omega⟩ ⟨l.val % 2, by omega⟩ r (by omega) (by dsimp only; omega))).trans ?_
        have hx := hX ⟨64 * k + l.val / 2, by omega⟩ ⟨l.val % 2, by omega⟩ r
        refine (congrArg (fun z => clip z _) hx).trans ?_
        unfold valG pairG kept
        show clip (pick (W (128 * 0 + r.val)) A (64 * k + l.val / 2) (l.val % 2)) (kinvOf (rowE W A (0 + r.val)))
          = clip (pick (W (0 + r.val)) A ((128 * k + l.val) / 2) ((128 * k + l.val) % 2)) (kinvOf (rowE W A (0 + r.val)))
        have e1 : (128 * k + l.val) / 2 = 64 * k + l.val / 2 := by omega
        have e2 : (128 * k + l.val) % 2 = l.val % 2 := by omega
        rw [e1, e2]
      · exact i1 p h
    · intro r q hq
      by_cases h : q.val < 128 * k
      · obtain ⟨p, hp, hm⟩ := i2 r q h
        exact ⟨p, List.mem_append_right _ hp, hm⟩
      · refine ⟨_, List.mem_append_left _ List.mem_cons_self, ?_⟩
        have := valRect_emb ho (k0_off8_inb ⟨k, hk'⟩) r ⟨q.val - 128 * k, by omega⟩ (by omega) (by dsimp only; omega)
        have e : (ix2 ⟨0 + r.val, by omega⟩ q : S256x3584.Idx)
            = ix2 ⟨0 + r.val, by omega⟩ ⟨128 * k + (q.val - 128 * k), by omega⟩ := by
          congr 1; apply Fin.ext; dsimp only; omega
        rw [e]
        exact this ▸ LoadRect.idx_mem _ _

theorem trip3_eq (v164 : IVec S1x128 32) (X_arg7 : BufTy.Contents (Elt Ideal) arg7.view.ty) (k : Fin k0_t3_loop.trips) :
    tripL_k0_t3 (F := Ideal) 𝒱 c bd i arg1 harg1 arg2 harg2 arg3 harg3 arg4 harg4 arg5 harg5 arg6 harg6 arg7 harg7 arg8 harg8 v164 X_arg7 k
      = [⟨Rect.unit (s := S256x3584) (k0_off10 k) S128x128.size (k0_off10_inb k),
          k0_pay2 v164 (View.readAt (Elt Ideal) arg7.view
            (Rect.unit (s := S2x1792x2x128) (k0_off9 k) S1x64x2x128.size (k0_off9_inb k)).toLoadRect X_arg7)⟩] := by
  unfold tripL_k0_t3 trip_k0_t3; rfl

theorem pieces3 (v164 : IVec S1x128 32) (X_arg7 : BufTy.Contents (Elt Ideal) arg7.view.ty) (k : ℕ) (hk : k ≤ 28)
    (hX : ∀ (g : Fin 1792) (p : Fin 2) (l : Fin 128),
      View.read (Elt Ideal) arg7.view X_arg7 (ix4 1 g p l) = pairG W A (ix4 1 g p l))
    (hE : ∀ l : Fin 128, v164 (ix2 0 l) = rowE W A (128 + l.val)) :
    (∀ p ∈ pb_k0_t3 (F := Ideal) 𝒱 c bd i arg1 harg1 arg2 harg2 arg3 harg3 arg4 harg4 arg5 harg5 arg6 harg6 arg7 harg7 arg8 harg8 v164 X_arg7 k,
      ∀ x : p.1.shape.Idx, p.2 x = valG W A (p.1.emb x))
    ∧ (∀ (r : Fin 128) (q : Fin 3584), q.val < 128 * k →
      ∃ p ∈ pb_k0_t3 (F := Ideal) 𝒱 c bd i arg1 harg1 arg2 harg2 arg3 harg3 arg4 harg4 arg5 harg5 arg6 harg6 arg7 harg7 arg8 harg8 v164 X_arg7 k,
        (ix2 ⟨128 + r.val, by omega⟩ q : S256x3584.Idx) ∈ p.1.set) := by
  induction k with
  | zero => exact ⟨fun p hp => absurd hp List.not_mem_nil, fun _ _ h => absurd h (by omega)⟩
  | succ k ih =>
    obtain ⟨i1, i2⟩ := ih (by omega)
    have hk' : k < k0_t3_loop.trips := lt_of_lt_of_eq (by omega : k < 28) trips28_3.symm
    have e := pb_k0_t3_succ (F := Ideal) 𝒱 c bd i arg1 harg1 arg2 harg2 arg3 harg3 arg4 harg4 arg5 harg5 arg6 harg6 arg7 harg7 arg8 harg8 v164 X_arg7 ⟨k, hk'⟩
    rw [trip3_eq] at e
    have ho := k0_off10_eq ⟨k, hk'⟩
    have hr := k0_off9_eq ⟨k, hk'⟩
    generalize pb_k0_t3 (F := Ideal) 𝒱 c bd i arg1 harg1 arg2 harg2 arg3 harg3 arg4 harg4 arg5 harg5 arg6 harg6 arg7 harg7 arg8 harg8 v164 X_arg7 (k + 1) = S1 at e ⊢
    generalize pb_k0_t3 (F := Ideal) 𝒱 c bd i arg1 harg1 arg2 harg2 arg3 harg3 arg4 harg4 arg5 harg5 arg6 harg6 arg7 harg7 arg8 harg8 v164 X_arg7 k = S0 at e i1 i2
    subst e
    refine ⟨?_, ?_⟩
    · intro p hp
      rcases List.mem_append.mp hp with h | h
      · simp only [List.mem_cons, List.not_mem_nil, or_false] at h
        subst h
        intro x
        obtain ⟨r, l, rfl⟩ : ∃ (r l : Fin 128), x = ix2 r l := ⟨x 0, x 1, eq_ix2 x⟩
        refine (pay2_apply _ _ r l).trans ?_
        refine Eq.trans ?_ (congrArg (valG W A) (valRect_emb ho (k0_off10_inb ⟨k, hk'⟩) r l (by omega) (by dsimp only; omega)).symm)
        rw [hE r, View.readAt_apply]
        refine (congrArg (fun z => clip (View.read (Elt Ideal) arg7.view X_arg7 z) _)
          (pairRead_idx hr (k0_off9_inb ⟨k, hk'⟩) ⟨l.val / 2, by omega⟩ ⟨l.val % 2, by omega⟩ r (by omega) (by dsimp only; omega))).trans ?_
        have hx := hX ⟨64 * k + l.val / 2, by omega⟩ ⟨l.val % 2, by omega⟩ r
        refine (congrArg (fun z => clip z _) hx).trans ?_
        unfold valG pairG kept
        show clip (pick (W (128 * 1 + r.val)) A (64 * k + l.val / 2) (l.val % 2)) (kinvOf (rowE W A (128 + r.val)))
          = clip (pick (W (128 + r.val)) A ((128 * k + l.val) / 2) ((128 * k + l.val) % 2)) (kinvOf (rowE W A (128 + r.val)))
        have e1 : (128 * k + l.val) / 2 = 64 * k + l.val / 2 := by omega
        have e2 : (128 * k + l.val) % 2 = l.val % 2 := by omega
        rw [e1, e2]
      · exact i1 p h
    · intro r q hq
      by_cases h : q.val < 128 * k
      · obtain ⟨p, hp, hm⟩ := i2 r q h
        exact ⟨p, List.mem_append_right _ hp, hm⟩
      · refine ⟨_, List.mem_append_left _ List.mem_cons_self, ?_⟩
        have := valRect_emb ho (k0_off10_inb ⟨k, hk'⟩) r ⟨q.val - 128 * k, by omega⟩ (by omega) (by dsimp only; omega)
        have e : (ix2 ⟨128 + r.val, by omega⟩ q : S256x3584.Idx)
            = ix2 ⟨128 + r.val, by omega⟩ ⟨128 * k + (q.val - 128 * k), by omega⟩ := by
          congr 1; apply Fin.ext; dsimp only; omega
        rw [e]
        exact this ▸ LoadRect.idx_mem _ _

end

end Cert.KernelIdeal.Hand

end
-- ==== Proof.OutRun.lean ====
/- What one run of the body leaves in its three outputs, read at an index: the clipped and scaled kept values, the
metadata words, and the scales of the block's rows. -/
module

public import proofs.«01_k».proof.Proof.Out
public import Idealize.ShloMosaic.Lib.WholeRead

@[expose] public section

set_option maxRecDepth 16384
set_option maxHeartbeats 1000000

noncomputable section

namespace Cert.KernelIdeal.Hand

open Idealize.ShloMosaic Idealize.ShloMosaic.TcCoe
open Idealize.SL Idealize.SL.RA
open Cert.KernelIdeal.Gen Cert.Spec

section
variable {arg1 : Memref sig .tc .vmem S256x7168 .bf16} {arg3 : Memref sig .tc .vmem S7168x128 .f32}
  {W : ℕ → ℕ → EReal} {A : ℕ → EReal}
  (c : Dev nD) (i : grid0.Coords) (harg1 : arg1.IsWhole) (arg2 : Memref sig .tc .vmem S256x256 .bf16) (harg2 : arg2.IsWhole) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole)
  (x0 : Vec Ideal S256x7168 .bf16) (x1 : Vec Ideal S256x256 .bf16) (x2 : Vec Ideal S7168x128 .f32)
  (f4 : BufTy.Contents (Elt Ideal) arg4.view.ty) (f5 : BufTy.Contents (Elt Ideal) arg5.view.ty) (f6 : BufTy.Contents (Elt Ideal) arg6.view.ty)
  (f7 : BufTy.Contents (Elt Ideal) arg7.view.ty) (f8 : BufTy.Contents (Elt Ideal) arg8.view.ty)
  (HB : BlockIn arg1 arg3 (View.readAt (Elt Ideal) arg2.view (Rect.unit (s := S256x256) ![0,0] S256x256.size inb_S256x256_S256x256_0_0).toLoadRect (harg2.unread x1))
    (harg1.unread x0) (harg3.unread x2) W A)

theorem tripsEq : Scf.trips k0_t1_loop.lb k0_t1_loop.ub k0_t1_loop.st = 28 := trips28

/-- The state after the last chunk. -/
abbrev fin := (st_k0_t1 (F := Ideal) Variants.none c none i arg1 harg1 arg2 harg2 arg3 harg3 arg4 harg4 arg5 harg5 arg6 harg6 arg7 harg7 arg8 harg8 (View.readAt (Elt Ideal) arg2.view (Rect.unit (s := S256x256) ![0,0] S256x256.size inb_S256x256_S256x256_0_0).toLoadRect (harg2.unread x1)) (harg1.unread x0) (harg3.unread x2) (k0_pay313, k0_pay314) 28)

include HB in
theorem run_words (f8 : BufTy.Contents (Elt Ideal) arg8.view.ty) (n r : Fin 256) (hn : n.val < 224) :
    View.read (Elt Ideal) arg8.view (arg8.view.writes (Elt Ideal) f8 (fin c i harg1 arg2 harg2 harg3 arg4 harg4 arg5 harg5 arg6 harg6 arg7 harg7 arg8 harg8 x0 x1 x2).2.2) (ix2 n r) = wordG W A (ix2 n r) := by
  have hs := state (W := W) (A := A) Variants.none c none i harg1 arg2 harg2 harg3 arg4 harg4 arg5 harg5 arg6 harg6 arg7 harg7 arg8 harg8 (v0 := (View.readAt (Elt Ideal) arg2.view (Rect.unit (s := S256x256) ![0,0] S256x256.size inb_S256x256_S256x256_0_0).toLoadRect (harg2.unread x1))) (X_arg1 := harg1.unread x0) (X_arg3 := harg3.unread x2) (k0_pay313, k0_pay314) 28 le_rfl
  exact View.read_writes_apply_of_pieces _ _ (wordG W A) _ (fun p hp => hs.2.2.1 p hp HB) _ (hs.2.2.2.1 n r (by omega))

include HB in
theorem run_pairs (f7 : BufTy.Contents (Elt Ideal) arg7.view.ty) (t : Fin 2) (g : Fin 1792) (p : Fin 2) (l : Fin 128) :
    View.read (Elt Ideal) arg7.view (arg7.view.writes (Elt Ideal) f7 (fin c i harg1 arg2 harg2 harg3 arg4 harg4 arg5 harg5 arg6 harg6 arg7 harg7 arg8 harg8 x0 x1 x2).2.1) (ix4 t g p l) = pairG W A (ix4 t g p l) := by
  have hs := state (W := W) (A := A) Variants.none c none i harg1 arg2 harg2 harg3 arg4 harg4 arg5 harg5 arg6 harg6 arg7 harg7 arg8 harg8 (v0 := (View.readAt (Elt Ideal) arg2.view (Rect.unit (s := S256x256) ![0,0] S256x256.size inb_S256x256_S256x256_0_0).toLoadRect (harg2.unread x1))) (X_arg1 := harg1.unread x0) (X_arg3 := harg3.unread x2) (k0_pay313, k0_pay314) 28 le_rfl
  exact View.read_writes_apply_of_pieces _ _ (pairG W A) _ (fun p hp => hs.1 p hp HB) _ (hs.2.1 t g p l (by omega))

include HB in
theorem run_max0 (l : Fin 128) : colMax (fin c i harg1 arg2 harg2 harg3 arg4 harg4 arg5 harg5 arg6 harg6 arg7 harg7 arg8 harg8 x0 x1 x2).1.1 l = amax (W l.val) A := by
  have hs := state (W := W) (A := A) Variants.none c none i harg1 arg2 harg2 harg3 arg4 harg4 arg5 harg5 arg6 harg6 arg7 harg7 arg8 harg8 (v0 := (View.readAt (Elt Ideal) arg2.view (Rect.unit (s := S256x256) ![0,0] S256x256.size inb_S256x256_S256x256_0_0).toLoadRect (harg2.unread x1))) (X_arg1 := harg1.unread x0) (X_arg3 := harg3.unread x2) (k0_pay313, k0_pay314) 28 le_rfl
  refine colMax_eq _ _ _ l fun b z => ?_
  exact (hs.2.2.2.2 HB b l z).1.trans (by dsimp only; rw [pay313_apply])

include HB in
theorem run_max1 (l : Fin 128) : colMax (fin c i harg1 arg2 harg2 harg3 arg4 harg4 arg5 harg5 arg6 harg6 arg7 harg7 arg8 harg8 x0 x1 x2).1.2 l = amax (W (128 + l.val)) A := by
  have hs := state (W := W) (A := A) Variants.none c none i harg1 arg2 harg2 harg3 arg4 harg4 arg5 harg5 arg6 harg6 arg7 harg7 arg8 harg8 (v0 := (View.readAt (Elt Ideal) arg2.view (Rect.unit (s := S256x256) ![0,0] S256x256.size inb_S256x256_S256x256_0_0).toLoadRect (harg2.unread x1))) (X_arg1 := harg1.unread x0) (X_arg3 := harg3.unread x2) (k0_pay313, k0_pay314) 28 le_rfl
  refine colMax_eq _ _ _ l fun b z => ?_
  exact (hs.2.2.2.2 HB b l z).2.trans (by dsimp only; rw [pay314_apply])

include HB in
theorem run_E0 (l : Fin 128) : k0_pay320 (k0_pay318 (fin c i harg1 arg2 harg2 harg3 arg4 harg4 arg5 harg5 arg6 harg6 arg7 harg7 arg8 harg8 x0 x1 x2).1.1) (k0_pay319 (fin c i harg1 arg2 harg2 harg3 arg4 harg4 arg5 harg5 arg6 harg6 arg7 harg7 arg8 harg8 x0 x1 x2).1.1) (ix2 0 l) = rowE W A l.val := by
  rw [pay320_apply, pay319_apply, pay318_apply, run_max0 (HB := HB)]
  rfl

include HB in
theorem run_E1 (l : Fin 128) : k0_pay328 (k0_pay324 (fin c i harg1 arg2 harg2 harg3 arg4 harg4 arg5 harg5 arg6 harg6 arg7 harg7 arg8 harg8 x0 x1 x2).1.2) (k0_pay325 (fin c i harg1 arg2 harg2 harg3 arg4 harg4 arg5 harg5 arg6 harg6 arg7 harg7 arg8 harg8 x0 x1 x2).1.2) (k0_pay326 (fin c i harg1 arg2 harg2 harg3 arg4 harg4 arg5 harg5 arg6 harg6 arg7 harg7 arg8 harg8 x0 x1 x2).1.2) k0_pay327 (ix2 0 l)
    = rowE W A (128 + l.val) := by
  rw [pay328_apply, pay325_apply, pay324_apply, run_max1 (HB := HB)]
  rfl

include HB in
theorem run_words_out (y : S256x224.Idx) :
    View.read (Elt Ideal) arg5.view (kernelRun (F := Ideal) c i arg1 harg1 arg2 harg2 arg3 harg3 arg4 harg4 arg5 harg5 arg6 harg6 arg7 harg7 arg8 harg8 x0 x1 x2 f4 f5 f6 f7 f8).2.1 y = metaG W A y := by
  obtain ⟨r, n, rfl⟩ : ∃ (r : Fin 256) (n : Fin 224), y = ix2 r n := ⟨y 0, y 1, eq_ix2 y⟩
  have hw := run_words (HB := HB) c i harg1 arg2 harg2 harg3 arg4 harg4 arg5 harg5 arg6 harg6 arg7 harg7 arg8 harg8 x0 x1 x2 f8 ⟨n.val, by omega⟩ r n.isLt
  unfold kernelRun
  dsimp only
  unfold kernelRun.sl.v182
  rw [tripsEq]
  have e : (ix2 r n : S256x224.Idx) = (Rect.unit (s := S256x224) ![0, 0] S256x224.size inb_S256x224_S256x224_0_0).emb (ix2 r n) := by
    funext d; apply Fin.ext; fin_cases d
    · show r.val = 0 + 1 * r.val; omega
    · show n.val = 0 + 1 * n.val; omega
  conv_lhs => rw [e]
  refine (View.read_writes_cons_emb _ _ _ _ _ _).trans ?_
  refine (pay3_apply _ r n).trans ?_
  rw [View.readAt_apply]
  have e2 : (Rect.unit (s := S256x256) ![0, 0] ![256, 256] inb_S256x256_S256x256_0_0).toLoadRect.idx (ix2 ⟨n.val, by omega⟩ r : S256x256.Idx)
      = (ix2 ⟨n.val, by omega⟩ r : S256x256.Idx) := by
    funext d; apply Fin.ext; fin_cases d
    · show 0 + 1 * n.val = n.val; omega
    · show 0 + 1 * r.val = r.val; omega
  exact (congrArg _ e2).trans hw

/-- Where a store of scales puts its element. -/
theorem scaleRect_emb {o : Fin 3 → ℕ} {n : ℕ} (ho : o = ![0, 0, n]) (inb : ∀ a, o a + S1x1x128.size a ≤ S1x1x256.size a)
    (l : Fin 128) (hn : n + l.val < 256) :
    ((Rect.unit (s := S1x1x256) o S1x1x128.size inb).emb (ix3 0 0 l : S1x1x128.Idx))
      = (ix3 0 0 ⟨n + l.val, hn⟩ : S1x1x256.Idx) := by
  subst ho
  funext d
  apply Fin.ext
  fin_cases d
  · show 0 + 1 * 0 = 0; omega
  · show 0 + 1 * 0 = 0; omega
  · show n + 1 * l.val = n + l.val; omega

include HB in
theorem run_scale_out (y : S1x1x256.Idx) :
    View.read (Elt Ideal) arg6.view (kernelRun (F := Ideal) c i arg1 harg1 arg2 harg2 arg3 harg3 arg4 harg4 arg5 harg5 arg6 harg6 arg7 harg7 arg8 harg8 x0 x1 x2 f4 f5 f6 f7 f8).2.2.1 y = scaleG W A y := by
  have h0 := run_E0 (HB := HB) c i harg1 arg2 harg2 harg3 arg4 harg4 arg5 harg5 arg6 harg6 arg7 harg7 arg8 harg8 x0 x1 x2
  have h1 := run_E1 (HB := HB) c i harg1 arg2 harg2 harg3 arg4 harg4 arg5 harg5 arg6 harg6 arg7 harg7 arg8 harg8 x0 x1 x2
  obtain ⟨a, b, r, rfl⟩ : ∃ (a : Fin 1) (b : Fin 1) (r : Fin 256), y = ix3 a b r := ⟨y 0, y 1, y 2, eq_ix3 y⟩
  obtain rfl : a = 0 := Subsingleton.elim _ _
  obtain rfl : b = 0 := Subsingleton.elim _ _
  unfold kernelRun
  dsimp only
  unfold kernelRun.sl.H5_2 kernelRun.sl.r_4 kernelRun.sl.r_10 kernelRun.sl.r_1 kernelRun.sl.r_2 kernelRun.sl.r_6 kernelRun.sl.r_7 kernelRun.sl.r_8 kernelRun.sl.r
  rw [tripsEq]
  refine View.read_writes_apply_of_pieces _ _ (scaleG W A) _ ?_ _ ?_
  · intro p hp x
    simp only [List.mem_cons, List.not_mem_nil, or_false] at hp
    rcases hp with rfl | rfl
    · obtain ⟨a, b, l, rfl⟩ : ∃ (a : Fin 1) (b : Fin 1) (l : Fin 128), x = ix3 a b l := ⟨x 0, x 1, x 2, eq_ix3 x⟩
      obtain rfl : a = 0 := Subsingleton.elim _ _
      obtain rfl : b = 0 := Subsingleton.elim _ _
      refine Eq.trans ?_ (congrArg (scaleG W A) (scaleRect_emb rfl inb_S1x1x256_S1x1x128_0_0_128 l (by omega)).symm)
      refine (pay1_apply _ l).trans ((pay329_apply _ _ _ _ l).trans ?_)
      exact congrArg kscaleOf (h1 l)
    · obtain ⟨a, b, l, rfl⟩ : ∃ (a : Fin 1) (b : Fin 1) (l : Fin 128), x = ix3 a b l := ⟨x 0, x 1, x 2, eq_ix3 x⟩
      obtain rfl : a = 0 := Subsingleton.elim _ _
      obtain rfl : b = 0 := Subsingleton.elim _ _
      refine Eq.trans ?_ (congrArg (scaleG W A) (scaleRect_emb rfl inb_S1x1x256_S1x1x128_0_0_0 l (by omega)).symm)
      refine (pay322_apply _ l).trans ((pay321_apply _ _ l).trans ?_)
      refine (congrArg kscaleOf (h0 l)).trans ?_
      show kscaleOf (rowE W A l.val) = kscaleOf (rowE W A (0 + l.val))
      rw [Nat.zero_add]
  · by_cases h : r.val < 128
    · refine ⟨_, List.mem_cons_of_mem _ List.mem_cons_self, ?_⟩
      have := scaleRect_emb rfl inb_S1x1x256_S1x1x128_0_0_0 ⟨r.val, h⟩ (by dsimp only; omega)
      have e : (ix3 0 0 r : S1x1x256.Idx) = ix3 0 0 ⟨0 + r.val, by omega⟩ := by
        congr 1; apply Fin.ext; dsimp only; omega
      rw [e]
      exact this ▸ LoadRect.idx_mem _ _
    · refine ⟨_, List.mem_cons_self, ?_⟩
      have := scaleRect_emb rfl inb_S1x1x256_S1x1x128_0_0_128 ⟨r.val - 128, by omega⟩ (by dsimp only; omega)
      have e : (ix3 0 0 r : S1x1x256.Idx) = ix3 0 0 ⟨128 + (r.val - 128), by omega⟩ := by
        congr 1; apply Fin.ext; dsimp only; omega
      rw [e]
      exact this ▸ LoadRect.idx_mem _ _

theorem tripsEq2 : Scf.trips k0_t2_loop.lb k0_t2_loop.ub k0_t2_loop.st = 28 := trips28_2
theorem tripsEq3 : Scf.trips k0_t3_loop.lb k0_t3_loop.ub k0_t3_loop.st = 28 := trips28_3

include HB in
theorem run_vals_out (y : S256x3584.Idx) :
    View.read (Elt Ideal) arg4.view (kernelRun (F := Ideal) c i arg1 harg1 arg2 harg2 arg3 harg3 arg4 harg4 arg5 harg5 arg6 harg6 arg7 harg7 arg8 harg8 x0 x1 x2 f4 f5 f6 f7 f8).1 y = valG W A y := by
  have h0 := run_E0 (HB := HB) c i harg1 arg2 harg2 harg3 arg4 harg4 arg5 harg5 arg6 harg6 arg7 harg7 arg8 harg8 x0 x1 x2
  have h1 := run_E1 (HB := HB) c i harg1 arg2 harg2 harg3 arg4 harg4 arg5 harg5 arg6 harg6 arg7 harg7 arg8 harg8 x0 x1 x2
  have hp := run_pairs (HB := HB) c i harg1 arg2 harg2 harg3 arg4 harg4 arg5 harg5 arg6 harg6 arg7 harg7 arg8 harg8 x0 x1 x2 f7
  obtain ⟨r, q, rfl⟩ : ∃ (r : Fin 256) (q : Fin 3584), y = ix2 r q := ⟨y 0, y 1, eq_ix2 y⟩
  unfold kernelRun
  dsimp only
  unfold kernelRun.sl.r_3 kernelRun.sl.r_9 kernelRun.sl.r_4 kernelRun.sl.r_1 kernelRun.sl.r_2 kernelRun.sl.r_6 kernelRun.sl.r_7 kernelRun.sl.r_8 kernelRun.sl.r
  rw [tripsEq]
  try rw [tripsEq2]
  try rw [tripsEq3]
  have p2 := pieces2 (W := W) (A := A) Variants.none c none i harg1 arg2 harg2 harg3 arg4 harg4 arg5 harg5 arg6 harg6 arg7 harg7 arg8 harg8
    (fin c i harg1 arg2 harg2 harg3 arg4 harg4 arg5 harg5 arg6 harg6 arg7 harg7 arg8 harg8 x0 x1 x2).1.2 (k0_pay320 (k0_pay318 (fin c i harg1 arg2 harg2 harg3 arg4 harg4 arg5 harg5 arg6 harg6 arg7 harg7 arg8 harg8 x0 x1 x2).1.1) (k0_pay319 (fin c i harg1 arg2 harg2 harg3 arg4 harg4 arg5 harg5 arg6 harg6 arg7 harg7 arg8 harg8 x0 x1 x2).1.1))
    (k0_pay321 (k0_pay318 (fin c i harg1 arg2 harg2 harg3 arg4 harg4 arg5 harg5 arg6 harg6 arg7 harg7 arg8 harg8 x0 x1 x2).1.1) (k0_pay319 (fin c i harg1 arg2 harg2 harg3 arg4 harg4 arg5 harg5 arg6 harg6 arg7 harg7 arg8 harg8 x0 x1 x2).1.1)) (kernelRun.sl.r_5 arg6 f6)
    (arg7.view.writes (Elt Ideal) f7 (fin c i harg1 arg2 harg2 harg3 arg4 harg4 arg5 harg5 arg6 harg6 arg7 harg7 arg8 harg8 x0 x1 x2).2.1) 28 le_rfl (hp 0) (fun l => (h0 l).trans (by rw [Nat.zero_add]))
  have p3 := pieces3 (W := W) (A := A) Variants.none c none i harg1 arg2 harg2 harg3 arg4 harg4 arg5 harg5 arg6 harg6 arg7 harg7 arg8 harg8
    (k0_pay328 (k0_pay324 (fin c i harg1 arg2 harg2 harg3 arg4 harg4 arg5 harg5 arg6 harg6 arg7 harg7 arg8 harg8 x0 x1 x2).1.2) (k0_pay325 (fin c i harg1 arg2 harg2 harg3 arg4 harg4 arg5 harg5 arg6 harg6 arg7 harg7 arg8 harg8 x0 x1 x2).1.2) (k0_pay326 (fin c i harg1 arg2 harg2 harg3 arg4 harg4 arg5 harg5 arg6 harg6 arg7 harg7 arg8 harg8 x0 x1 x2).1.2) k0_pay327)
    (arg7.view.writes (Elt Ideal) f7 (fin c i harg1 arg2 harg2 harg3 arg4 harg4 arg5 harg5 arg6 harg6 arg7 harg7 arg8 harg8 x0 x1 x2).2.1) 28 le_rfl (hp 1) h1
  refine View.read_writes_apply_of_pieces _ _ (valG W A) _ ?_ _ ?_
  · intro p h
    rcases List.mem_append.mp h with h | h
    · exact p3.1 p h
    · exact p2.1 p h
  · by_cases h : r.val < 128
    · obtain ⟨p, hm, hy⟩ := p2.2 ⟨r.val, h⟩ q (by omega)
      refine ⟨p, List.mem_append_right _ hm, ?_⟩
      have e : (ix2 r q : S256x3584.Idx) = ix2 ⟨0 + r.val, by omega⟩ q := by
        congr 1; apply Fin.ext; dsimp only; omega
      rw [e]; exact hy
    · obtain ⟨p, hm, hy⟩ := p3.2 ⟨r.val - 128, by omega⟩ q (by omega)
      refine ⟨p, List.mem_append_left _ hm, ?_⟩
      have e : (ix2 r q : S256x3584.Idx) = ix2 ⟨128 + (r.val - 128), by omega⟩ q := by
        congr 1; apply Fin.ext; dsimp only; omega
      rw [e]; exact hy

end
end Cert.KernelIdeal.Hand

end
-- ==== Proof.HostPrefix.lean ====
/- What the body finds in its staged blocks, over the extended reals: a block of 256 rows of the weights, the plane
permutation as a one-hot table, and the norms in plane order. -/
module

public import proofs.«01_k».proof.Proof.OutRun
public import Idealize.ShloMosaic.Lib.StableHlo.ReadAt
public import Idealize.ShloMosaic.Lib.Pipeline.ValueKit

@[expose] public section

set_option maxRecDepth 16384
set_option maxHeartbeats 4000000

noncomputable section

namespace Cert.KernelIdeal.Hand

open Idealize.ShloMosaic Idealize.ShloMosaic.TcCoe
open Idealize.SL Idealize.SL.RA
open Cert.KernelIdeal.Gen Cert.Spec
variable (m : (ℓ : Loc nD τ sig) → Buf (Elt Ideal) ℓ)

/-- The row `R` of the weights, by its number. -/
def Wrow (c : Dev nD) (R k : ℕ) : EReal :=
  if h : R < 36864 ∧ k < 7168 then m ((c : Thread nD τ).loc main_arg0) (ix2 ⟨R, h.1⟩ ⟨k, h.2⟩) else 0

/-- The norms, by column number. -/
def Arow (c : Dev nD) (k : ℕ) : EReal :=
  if h : k < 7168 then m ((c : Thread nD τ).loc main_arg1) (ix1 ⟨k, h⟩) else 0

theorem ord_lt (a : ℕ) (h : a < 256) : ord a < 256 := by unfold ord; omega

theorem Arow_of (c : Dev nD) (k : ℕ) (h : k < 7168) : Arow m c k = m ((c : Thread nD τ).loc main_arg1) (ix1 ⟨k, h⟩) := dif_pos h

theorem Wrow_of (c : Dev nD) (R k : ℕ) (h : R < 36864 ∧ k < 7168) :
    Wrow m c R k = m ((c : Thread nD τ).loc main_arg0) (ix2 ⟨R, h.1⟩ ⟨k, h.2⟩) := dif_pos h

/-- The permutation the host builds: row `a` is one at column `ord a`. -/
theorem perm_at (c : Dev nD) (a b : Fin 256) :
    V m c main_v17 (ix2 a b) = (if b.val = ord a.val then 1 else 0 : EReal) := by
  unfold V V0
  after_reads_at
  refine (congrArg (fun x => FloatOps.uitofp (F := Ideal) .bf16 (IntOp.cmpi .eq x (BitVec.ofNat 32 b.val)))
    (?_ : _ = BitVec.ofNat 32 (ord a.val))).trans ?_
  · clear perm_at
    revert a; clear b; clear m c; decide +kernel
  · have hb := b.isLt
    have ha := ord_lt a.val a.isLt
    by_cases h : b.val = ord a.val
    · rw [if_pos h, h]; simp [IntOp.cmpi, FloatOps.uitofp]
    · have hne : BitVec.ofNat 32 (ord a.val) ≠ BitVec.ofNat 32 b.val := by
        intro he
        have := congrArg BitVec.toNat he
        simp only [BitVec.toNat_ofNat] at this
        omega
      rw [if_neg h]; simp [IntOp.cmpi, FloatOps.uitofp, hne]

/-- The norms the host lays out: row `a` is the norm of the column its plane row carries. -/
theorem norm_at (c : Dev nD) (a : Fin 7168) (b : Fin 128) :
    V m c main_v21 (ix2 a b) = Arow m c (256 * (a.val / 256) + ord (a.val % 256)) := by
  unfold V V0
  after_reads_at
  refine Eq.trans ?_ (Arow_of m c _ (by have := a.isLt; unfold ord; omega)).symm
  refine congrArg (fun i : S7168.Idx => m ((c : Thread nD τ).loc main_arg1) i) (congrArg (fun i : Fin 7168 => (ix1 i : S7168.Idx)) (Fin.ext ?_))
  have ha := a.isLt
  dsimp only
  unfold ord
  omega

theorem win0_index (t : Fin cfg0.N) : win0_0.index t = ![t.val, 0] := (by decide +kernel : ∀ t : Fin grid0.N, win0_0.index t = ![t.val, 0]) t
theorem win1_index (t : Fin cfg0.N) : win0_1.index t = ![0, 0] := (by decide +kernel : ∀ t : Fin grid0.N, win0_1.index t = ![0, 0]) t
theorem win2_index (t : Fin cfg0.N) : win0_2.index t = ![0, 0] := (by decide +kernel : ∀ t : Fin grid0.N, win0_2.index t = ![0, 0]) t

theorem blk0_at (c : Dev nD) (t : Fin cfg0.N) (r : Fin 256) (k : Fin 7168) :
    (iblk m c 0 t : S256x7168.Idx → EReal) (ix2 r k) = Wrow m c (256 * t.val + r.val) k.val := by
  have ht : t.val < 144 := t.isLt
  have h : 256 * t.val + r.val < 36864 ∧ k.val < 7168 := by omega
  rw [Wrow, dif_pos h]
  blk_simp [iblk]
  rw [V_main_arg0]
  refine congrArg (m ((c : Thread nD τ).loc main_arg0)) ?_
  blk_ext [win0_index]

theorem blk1_at (c : Dev nD) (t : Fin cfg0.N) (a b : Fin 256) :
    (iblk m c 1 t : S256x256.Idx → EReal) (ix2 a b) = (if b.val = ord a.val then 1 else 0 : EReal) := by
  rw [← perm_at m c a b]
  blk_simp [iblk]
  refine congrArg (V m c main_v17) ?_
  blk_ext [win1_index]

theorem blk2_at (c : Dev nD) (t : Fin cfg0.N) (a : Fin 7168) (b : Fin 128) :
    (iblk m c 2 t : S7168x128.Idx → EReal) (ix2 a b) = Arow m c (256 * (a.val / 256) + ord (a.val % 256)) := by
  rw [← norm_at m c a b]
  blk_simp [iblk]
  refine congrArg (V m c main_v21) ?_
  blk_ext [win2_index]

end Cert.KernelIdeal.Hand
end
-- ==== Proof.BlockAt.lean ====
/- The blocks the body finds at a grid point are those `BlockIn` describes. -/
module

public import proofs.«01_k».proof.Proof.HostPrefix
public import Idealize.ShloMosaic.Lib.WholeRead

@[expose] public section

set_option maxRecDepth 16384
set_option maxHeartbeats 1000000

noncomputable section

namespace Cert.KernelIdeal.Hand

open Idealize.ShloMosaic Idealize.ShloMosaic.TcCoe
open Idealize.SL Idealize.SL.RA
open Cert.KernelIdeal.Gen Cert.Spec
variable (m : (ℓ : Loc nD τ sig) → Buf (Elt Ideal) ℓ)

/-- The rows of the block at grid point `t`. -/
def Wt (c : Dev nD) (t : Fin cfg0.N) (r k : ℕ) : EReal := Wrow m c (256 * t.val + r) k

theorem block_in (c : Dev nD) (t : Fin cfg0.N) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) :
    BlockIn arg1 arg3 (View.readAt (Elt Ideal) arg2.view (Rect.unit (s := S256x256) ![0,0] S256x256.size inb_S256x256_S256x256_0_0).toLoadRect (harg2.unread (iblk m c 1 t)))
      (harg1.unread (iblk m c 0 t)) (harg3.unread (iblk m c 2 t)) (Wt m c t) (Arow m c) where
  perm a u := by
    rw [View.readAt_apply, harg2.read_unread]
    refine (congrArg (iblk m c 1 t : S256x256.Idx → EReal) ?_).trans (blk1_at m c t a u)
    ext k
    fin_cases k <;> simp [LoadRect.idx, ix2]
  wts r k := by
    rw [harg1.read_unread]
    exact blk0_at m c t r k
  nrm a l := by
    rw [harg3.read_unread]
    exact blk2_at m c t a l

end Cert.KernelIdeal.Hand
end
-- ==== Proof.KernelIdealValue.lean ====
/- The idealized kernel's results over the extended reals: every block holds the clipped and scaled kept values, the
metadata words and the scales of its rows, so the arrays do of all the rows. -/
module

public import proofs.«01_k».proof.Proof.Gen.KernelIdeal.Launch
public import proofs.«01_k».proof.Proof.Gen.KernelIdeal.Frame
public import proofs.«01_k».proof.Proof.Gen.KernelIdeal.Points
public import proofs.«01_k».proof.Proof.KernelIdealRun
public import proofs.«01_k».proof.Proof.BlockAt
public import Idealize.ShloMosaic.Lib.Claim
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.HandV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Hand Cert.Spec

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 2000000 in
/-- The body's triple with its outputs named: on blocks `BlockIn` describes it leaves the clipped and scaled kept values, the
metadata words and the scales of the block's rows. -/
theorem kernelRun0_V (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S7168x128 .f32) (harg3 : arg3.IsWhole) (arg4 : Memref sig .tc .vmem S256x3584 .fp8e4m3) (harg4 : arg4.IsWhole) (arg5 : Memref sig .tc .vmem S256x224 .i32) (harg5 : arg5.IsWhole) (arg6 : Memref sig .tc .vmem S1x1x256 .f32) (harg6 : arg6.IsWhole) (arg7 : Memref sig .tc .vmem S2x1792x2x128 .bf16) (harg7 : arg7.IsWhole) (arg8 : Memref sig .tc .vmem S256x256 .i32) (harg8 : arg8.IsWhole)
    (x0 : Vec Ideal S256x7168 .bf16) (x1 : Vec Ideal S256x256 .bf16) (x2 : Vec Ideal S7168x128 .f32)
    (W : ℕ → ℕ → EReal) (A : ℕ → EReal)
    (HB : BlockIn arg1 arg3 (View.readAt (Elt Ideal) arg2.view (Rect.unit (s := S256x256) ![0,0] S256x256.size inb_S256x256_S256x256_0_0).toLoadRect (harg2.unread x1))
      (harg1.unread x0) (harg3.unread x2) W A) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare (valG W A) ∗ owns (c : Thread nD τ) arg5 fullShare (metaG W A) ∗ owns (c : Thread nD τ) arg6 fullShare (scaleG W A) ∗ (∃ d, owns (c : Thread nD τ) arg7 fullShare d) ∗ (∃ d, owns (c : Thread nD τ) arg8 fullShare d)) -∗ K ⟨⟩))
          ⊢ wp frame (wpE (defs₀ (F := Ideal)) Variants.none c none) E (cc0_sparse24 i arg1 harg1 arg2 harg2 arg3 harg3 arg4 harg4 arg5 harg5 arg6 harg6 arg7 harg7 arg8 harg8) K := by
    intro E K
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    iapply ((kernelRun (F := Ideal) c i arg1 harg1 arg2 harg2 arg3 harg3 arg4 harg4 arg5 harg5 arg6 harg6 arg7 harg7 arg8 harg8 x0 x1 x2 f3 f4 f5 fs0 fs1).2.2.2.2.2 E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      funext y
      exact run_vals_out (HB := HB) (y := y) ..
    isplitl [H4]
    · iexists _; isplitr; swap; · iexact H4
      ipureintro
      funext y
      exact run_words_out (HB := HB) (y := y) ..
    isplitl [H5]
    · iexists _; isplitr; swap; · iexact H5
      ipureintro
      funext y
      exact run_scale_out (HB := HB) (y := y) ..
    isplitl [HS0]
    · iexists _, _; isplitr; swap; · iexact HS0
      ipureintro; rfl
    iexists _, _; isplitr; swap; · iexact HS1
    ipureintro; rfl

/-! ## The pipeline's proof data -/

/-- The proof data: after the body at point `t` the inputs' buffers hold their blocks and the outputs' what the rows'
compression is. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => valG (Wt m c t) (Arow m c)
    | ⟨4, _⟩ => metaG (Wt m c t) (Arow m c)
    | ⟨5, _⟩ => scaleG (Wt m c t) (Arow m c)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = valG (Wt m c t) (Arow m c) := by dsimp only [dats]
theorem after0_4 (c : Dev nD) (t : Fin cfg0.N) : (dats m 0 c).after 4 t = metaG (Wt m c t) (Arow m c) := by dsimp only [dats]
theorem after0_5 (c : Dev nD) (t : Fin cfg0.N) : (dats m 0 c).after 5 t = scaleG (Wt m c t) (Arow m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 2000000 in
/-- The body at any point, its outputs named. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_V c (grid0.coords t) _ _ _ _ _ _ _ _ _ _ _ _ _ _ _ _ (iblk m c 0 t) (iblk m c 1 t) (iblk m c 2 t)
    (Wt m c t) (Arow m c) (block_in m c t _ _ _ _ _ _)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

-- the launch lemma's implicit arguments are found by unifying its conclusion with this one, which takes unfolding plain
-- definitions in a metavariable's type
set_option backward.isDefEq.respectTransparency.types false in
set_option maxHeartbeats 2000000 in
/-- The run, every buffer of the final state named. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.HandV

end
-- ==== Proof.KernelIdealResults.lean ====
/- The idealized kernel's three results as functions of its arguments. -/
module

public import proofs.«01_k».proof.Proof.KernelIdealValue
public import Idealize.ShloMosaic.Lib.StableHlo.ReadAt

@[expose] public section

set_option maxRecDepth 16384
set_option maxHeartbeats 1000000

noncomputable section

namespace Cert.KernelIdeal.HandV

open Idealize.ShloMosaic Idealize.ShloMosaic.TcCoe
open Idealize.SL Idealize.SL.RA
open Cert.KernelIdeal.Gen Cert.KernelIdeal.Hand Cert.Spec
variable (m : (ℓ : Loc nD τ sig) → Buf (Elt Ideal) ℓ) (ρ : Dev nD → PrngReg)

/-- The values. -/
def KV (c : Dev nD) (y : S36864x3584.Idx) : EReal :=
  clip (kept (Wrow m c (y 0).val) (Arow m c) (y 1).val) (kinvOf (rowE (Wrow m c) (Arow m c) (y 0).val))

/-- The metadata. -/
def KM (c : Dev nD) (y : S36864x224.Idx) : BitVec 32 := word (Wrow m c (y 0).val) (Arow m c) (y 1).val

/-- The scales, as the kernel lays them out. -/
def KS3 (c : Dev nD) (y : S144x1x256.Idx) : EReal :=
  kscaleOf (rowE (Wrow m c) (Arow m c) (256 * (y 0).val + (y 2).val))

/-- The scales. -/
def KS (c : Dev nD) (y : S36864x1.Idx) : EReal := kscaleOf (rowE (Wrow m c) (Arow m c) (y 0).val)

theorem win3_index (t : Fin cfg0.N) : win0_3.index t = ![t.val, 0] := (by decide +kernel : ∀ t : Fin grid0.N, win0_3.index t = ![t.val, 0]) t
theorem win4_index (t : Fin cfg0.N) : win0_4.index t = ![t.val, 0] := (by decide +kernel : ∀ t : Fin grid0.N, win0_4.index t = ![t.val, 0]) t
theorem win5_index (t : Fin cfg0.N) : win0_5.index t = ![t.val, 0, 0] := (by decide +kernel : ∀ t : Fin grid0.N, win0_5.index t = ![t.val, 0, 0]) t

theorem final3 (c : Dev nD) : (dats m 0 c).arrAt 3 cfg0.N = KV m c := by
  refine (dats m 0 c).arrAt_eq_of_covers 3 _ (by decide +kernel) fun t hf y => ?_
  blk_simp
  rw [after0_3]
  have e0 : ((win0_3.blk t).view.emb y 0 : ℕ) = 256 * t.val + (y 0).val := by
    blk_simp [win3_index]; omega
  have e1 : ((win0_3.blk t).view.emb y 1 : ℕ) = (y 1).val := by
    blk_simp [win3_index]
  unfold KV
  rw [e0, e1]
  rfl

theorem final4 (c : Dev nD) : (dats m 0 c).arrAt 4 cfg0.N = KM m c := by
  refine (dats m 0 c).arrAt_eq_of_covers 4 _ (by decide +kernel) fun t hf y => ?_
  blk_simp
  rw [after0_4]
  have e0 : ((win0_4.blk t).view.emb y 0 : ℕ) = 256 * t.val + (y 0).val := by
    blk_simp [win4_index]; omega
  have e1 : ((win0_4.blk t).view.emb y 1 : ℕ) = (y 1).val := by
    blk_simp [win4_index]
  unfold KM
  rw [e0, e1]
  rfl

theorem final5 (c : Dev nD) : (dats m 0 c).arrAt 5 cfg0.N = KS3 m c := by
  refine (dats m 0 c).arrAt_eq_of_covers 5 _ (by decide +kernel) fun t hf y => ?_
  blk_simp
  rw [after0_5]
  have e0 : ((win0_5.blk t).view.emb y 0 : ℕ) = t.val := by
    blk_simp [win5_index]
  have e1 : ((win0_5.blk t).view.emb y 2 : ℕ) = (y 2).val := by
    blk_simp [win5_index]
  unfold KS3
  rw [e0, e1]
  rfl

theorem tail23 (c : Dev nD) : Pipeline.afterTail₀ cfgs (dats m) 0 (V0 m) [hostOps1] c main_v23 = KS m c := by
  funext i
  obtain ⟨R, z, rfl⟩ : ∃ (R : Fin 36864) (z : Fin 1), i = ix2 R z := ⟨i 0, i 1, by ext k; fin_cases k <;> rfl⟩
  unfold Pipeline.afterTail₀
  after_reads_at
  have hw : Pipeline.withArrays (cfgs 0).spec c (V0 m c) (fun w => (dats m 0 c).arrAt w (cfgs 0).N) (Proc.devRef .tc main_v22_2)
      = KS3 m c :=
    (Pipeline.withArrays_arr (cfgs 0).spec (by decide) c (V0 m c) (fun w => (dats m 0 c).arrAt w (cfgs 0).N) 5).trans (final5 m c)
  refine (congrFun hw _).trans ?_
  unfold KS3 KS
  have : 256 * (R.val / 256) + R.val % 256 = R.val := by omega
  dsimp only [ix2, ix3, Matrix.cons_val_zero, Matrix.cons_val_one, Matrix.cons_val]
  rw [this]

/-- The run and its results. -/
theorem results : θ_run defs (onTc (τ := τ) (main (F := Ideal))) ⟨m, fun _ => 0, ρ⟩ (fun r => ∀ c : Dev nD,
      r.2.mem ((c.tc : Thread nD τ).loc main_v22_0) = KV m c
      ∧ r.2.mem ((c.tc : Thread nD τ).loc main_v22_1) = KM m c
      ∧ r.2.mem ((c.tc : Thread nD τ).loc main_v23) = KS m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_, ?_, ?_⟩) (run_main m ρ)
  · exact (h.out_eq c 3).trans (final3 m c)
  · exact (h.out_eq c 4).trans (final4 m c)
  · exact (h.rest_eq c main_v23 (Pipeline.mem_restRefs_of main_v23 (by decide) (by decide))).trans (tail23 m c)
  · exact (h.in_eq c 0 rfl).trans ((A_eq m c 0).trans (V_main_arg0 m c))
  · exact (h.rest_eq c main_arg1 (Pipeline.mem_restRefs_of main_arg1 (by decide) (by decide))).trans (W_main_arg1 m (dats m) c)

end Cert.KernelIdeal.HandV
end
-- ==== Proof.RefOps.lean ====
/- The reference's host lines, in the stages they are read in. -/
module

public import proofs.«01_k».proof.Proof.Gen.ReferenceIdeal.Run

@[expose] public section

set_option maxRecDepth 16384
set_option maxHeartbeats 40000000

noncomputable section

namespace Cert.ReferenceIdeal.Hand

open Idealize.ShloMosaic Idealize.ShloMosaic.TcCoe
open Cert.ReferenceIdeal.Gen

variable {F : FTy → Type} [FloatOps F]

/-- The host lines of the keys and the flags. -/
abbrev hostOps0 : List (HloOp τ sig (Elt F)) :=
  ( StableHlo.reshape main_arg0 main_v0 (rfl : (.bf16 : EltTy) = .bf16) shapeCasts_S36864x7168_S36864x1792x4
  :: StableHlo.reshape main_arg1 main_v1 (rfl : (.f32 : EltTy) = .f32) shapeCasts_S7168_S1792x4
  :: StableHlo.unary main_v0 main_v2 ((extractStridedSlice S36864x1792x1 ![0, 0, 0] · slices_S36864x1792x4_S36864x1792x1_0_0_0) : (⟨S36864x1792x4, .bf16⟩ : BufTy).Contents (Elt F) → (⟨S36864x1792x1, .bf16⟩ : BufTy).Contents (Elt F))
  :: StableHlo.reshape main_v2 main_v3 (rfl : (.bf16 : EltTy) = .bf16) shapeCasts_S36864x1792x1_S36864x1792
  :: StableHlo.unary main_v0 main_v4 ((extractStridedSlice S36864x1792x1 ![0, 0, 1] · slices_S36864x1792x4_S36864x1792x1_0_0_1) : (⟨S36864x1792x4, .bf16⟩ : BufTy).Contents (Elt F) → (⟨S36864x1792x1, .bf16⟩ : BufTy).Contents (Elt F))
  :: StableHlo.reshape main_v4 main_v5 (rfl : (.bf16 : EltTy) = .bf16) shapeCasts_S36864x1792x1_S36864x1792
  :: StableHlo.unary main_v0 main_v6 ((extractStridedSlice S36864x1792x1 ![0, 0, 2] · slices_S36864x1792x4_S36864x1792x1_0_0_2) : (⟨S36864x1792x4, .bf16⟩ : BufTy).Contents (Elt F) → (⟨S36864x1792x1, .bf16⟩ : BufTy).Contents (Elt F))
  :: StableHlo.reshape main_v6 main_v7 (rfl : (.bf16 : EltTy) = .bf16) shapeCasts_S36864x1792x1_S36864x1792
  :: StableHlo.unary main_v0 main_v8 ((extractStridedSlice S36864x1792x1 ![0, 0, 3] · slices_S36864x1792x4_S36864x1792x1_0_0_3) : (⟨S36864x1792x4, .bf16⟩ : BufTy).Contents (Elt F) → (⟨S36864x1792x1, .bf16⟩ : BufTy).Contents (Elt F))
  :: StableHlo.reshape main_v8 main_v9 (rfl : (.bf16 : EltTy) = .bf16) shapeCasts_S36864x1792x1_S36864x1792
  :: StableHlo.unary main_v3 main_v10 (Host.absf : (⟨S36864x1792, .bf16⟩ : BufTy).Contents (Elt F) → (⟨S36864x1792, .bf16⟩ : BufTy).Contents (Elt F))
  :: StableHlo.unary main_v10 main_v11 ((extf .f32 · bitsLt_bf16_f32) : (⟨S36864x1792, .bf16⟩ : BufTy).Contents (Elt F) → (⟨S36864x1792, .f32⟩ : BufTy).Contents (Elt F))
  :: StableHlo.unary main_v1 main_v12 ((extractStridedSlice S1792x1 ![0, 0] · slices_S1792x4_S1792x1_0_0) : (⟨S1792x4, .f32⟩ : BufTy).Contents (Elt F) → (⟨S1792x1, .f32⟩ : BufTy).Contents (Elt F))
  :: StableHlo.reshape main_v12 main_v13 (rfl : (.f32 : EltTy) = .f32) shapeCasts_S1792x1_S1792
  :: StableHlo.unary main_v13 main_v14 (broadcastInDim S1x1792 ![1] bcast_S1792_S1x1792_1 : (⟨S1792, .f32⟩ : BufTy).Contents (Elt F) → (⟨S1x1792, .f32⟩ : BufTy).Contents (Elt F))
  :: StableHlo.unary main_v14 main_v15 (broadcastInDim S36864x1792 ![0, 1] bcast_S1x1792_S36864x1792_0_1 : (⟨S1x1792, .f32⟩ : BufTy).Contents (Elt F) → (⟨S36864x1792, .f32⟩ : BufTy).Contents (Elt F))
  :: StableHlo.binary main_v11 main_v15 main_v16 (mulf : (⟨S36864x1792, .f32⟩ : BufTy).Contents (Elt F) → (⟨S36864x1792, .f32⟩ : BufTy).Contents (Elt F) → (⟨S36864x1792, .f32⟩ : BufTy).Contents (Elt F))
  :: StableHlo.unary main_v5 main_v17 (Host.absf : (⟨S36864x1792, .bf16⟩ : BufTy).Contents (Elt F) → (⟨S36864x1792, .bf16⟩ : BufTy).Contents (Elt F))
  :: StableHlo.unary main_v17 main_v18 ((extf .f32 · bitsLt_bf16_f32) : (⟨S36864x1792, .bf16⟩ : BufTy).Contents (Elt F) → (⟨S36864x1792, .f32⟩ : BufTy).Contents (Elt F))
  :: StableHlo.unary main_v1 main_v19 ((extractStridedSlice S1792x1 ![0, 1] · slices_S1792x4_S1792x1_0_1) : (⟨S1792x4, .f32⟩ : BufTy).Contents (Elt F) → (⟨S1792x1, .f32⟩ : BufTy).Contents (Elt F))
  :: StableHlo.reshape main_v19 main_v20 (rfl : (.f32 : EltTy) = .f32) shapeCasts_S1792x1_S1792
  :: StableHlo.unary main_v20 main_v21 (broadcastInDim S1x1792 ![1] bcast_S1792_S1x1792_1 : (⟨S1792, .f32⟩ : BufTy).Contents (Elt F) → (⟨S1x1792, .f32⟩ : BufTy).Contents (Elt F))
  :: StableHlo.unary main_v21 main_v22 (broadcastInDim S36864x1792 ![0, 1] bcast_S1x1792_S36864x1792_0_1 : (⟨S1x1792, .f32⟩ : BufTy).Contents (Elt F) → (⟨S36864x1792, .f32⟩ : BufTy).Contents (Elt F))
  :: StableHlo.binary main_v18 main_v22 main_v23 (mulf : (⟨S36864x1792, .f32⟩ : BufTy).Contents (Elt F) → (⟨S36864x1792, .f32⟩ : BufTy).Contents (Elt F) → (⟨S36864x1792, .f32⟩ : BufTy).Contents (Elt F))
  :: StableHlo.unary main_v7 main_v24 (Host.absf : (⟨S36864x1792, .bf16⟩ : BufTy).Contents (Elt F) → (⟨S36864x1792, .bf16⟩ : BufTy).Contents (Elt F))
  :: StableHlo.unary main_v24 main_v25 ((extf .f32 · bitsLt_bf16_f32) : (⟨S36864x1792, .bf16⟩ : BufTy).Contents (Elt F) → (⟨S36864x1792, .f32⟩ : BufTy).Contents (Elt F))
  :: StableHlo.unary main_v1 main_v26 ((extractStridedSlice S1792x1 ![0, 2] · slices_S1792x4_S1792x1_0_2) : (⟨S1792x4, .f32⟩ : BufTy).Contents (Elt F) → (⟨S1792x1, .f32⟩ : BufTy).Contents (Elt F))
  :: StableHlo.reshape main_v26 main_v27 (rfl : (.f32 : EltTy) = .f32) shapeCasts_S1792x1_S1792
  :: StableHlo.unary main_v27 main_v28 (broadcastInDim S1x1792 ![1] bcast_S1792_S1x1792_1 : (⟨S1792, .f32⟩ : BufTy).Contents (Elt F) → (⟨S1x1792, .f32⟩ : BufTy).Contents (Elt F))
  :: StableHlo.unary main_v28 main_v29 (broadcastInDim S36864x1792 ![0, 1] bcast_S1x1792_S36864x1792_0_1 : (⟨S1x1792, .f32⟩ : BufTy).Contents (Elt F) → (⟨S36864x1792, .f32⟩ : BufTy).Contents (Elt F))
  :: StableHlo.binary main_v25 main_v29 main_v30 (mulf : (⟨S36864x1792, .f32⟩ : BufTy).Contents (Elt F) → (⟨S36864x1792, .f32⟩ : BufTy).Contents (Elt F) → (⟨S36864x1792, .f32⟩ : BufTy).Contents (Elt F))
  :: StableHlo.unary main_v9 main_v31 (Host.absf : (⟨S36864x1792, .bf16⟩ : BufTy).Contents (Elt F) → (⟨S36864x1792, .bf16⟩ : BufTy).Contents (Elt F))
  :: StableHlo.unary main_v31 main_v32 ((extf .f32 · bitsLt_bf16_f32) : (⟨S36864x1792, .bf16⟩ : BufTy).Contents (Elt F) → (⟨S36864x1792, .f32⟩ : BufTy).Contents (Elt F))
  :: StableHlo.unary main_v1 main_v33 ((extractStridedSlice S1792x1 ![0, 3] · slices_S1792x4_S1792x1_0_3) : (⟨S1792x4, .f32⟩ : BufTy).Contents (Elt F) → (⟨S1792x1, .f32⟩ : BufTy).Contents (Elt F))
  :: StableHlo.reshape main_v33 main_v34 (rfl : (.f32 : EltTy) = .f32) shapeCasts_S1792x1_S1792
  :: StableHlo.unary main_v34 main_v35 (broadcastInDim S1x1792 ![1] bcast_S1792_S1x1792_1 : (⟨S1792, .f32⟩ : BufTy).Contents (Elt F) → (⟨S1x1792, .f32⟩ : BufTy).Contents (Elt F))
  :: StableHlo.unary main_v35 main_v36 (broadcastInDim S36864x1792 ![0, 1] bcast_S1x1792_S36864x1792_0_1 : (⟨S1x1792, .f32⟩ : BufTy).Contents (Elt F) → (⟨S36864x1792, .f32⟩ : BufTy).Contents (Elt F))
  :: StableHlo.binary main_v32 main_v36 main_v37 (mulf : (⟨S36864x1792, .f32⟩ : BufTy).Contents (Elt F) → (⟨S36864x1792, .f32⟩ : BufTy).Contents (Elt F) → (⟨S36864x1792, .f32⟩ : BufTy).Contents (Elt F))
  :: StableHlo.nullary main_c (constantI S_ 32 0#32)
  :: StableHlo.unary main_c main_v38 (broadcastInDim S36864x1792 ![] bcast_S_S36864x1792 : (⟨S_, .i32⟩ : BufTy).Contents (Elt F) → (⟨S36864x1792, .i32⟩ : BufTy).Contents (Elt F))
  :: StableHlo.binary main_v23 main_v16 main_v39 (cmpf .ogt : (⟨S36864x1792, .f32⟩ : BufTy).Contents (Elt F) → (⟨S36864x1792, .f32⟩ : BufTy).Contents (Elt F) → (⟨S36864x1792, .i1⟩ : BufTy).Contents (Elt F))
  :: StableHlo.unary main_v39 main_v40 ((extui 32 · natLt_1_32) : (⟨S36864x1792, .i1⟩ : BufTy).Contents (Elt F) → (⟨S36864x1792, .i32⟩ : BufTy).Contents (Elt F))
  :: StableHlo.binary main_v38 main_v40 main_v41 (addi : (⟨S36864x1792, .i32⟩ : BufTy).Contents (Elt F) → (⟨S36864x1792, .i32⟩ : BufTy).Contents (Elt F) → (⟨S36864x1792, .i32⟩ : BufTy).Contents (Elt F))
  :: StableHlo.binary main_v30 main_v16 main_v42 (cmpf .ogt : (⟨S36864x1792, .f32⟩ : BufTy).Contents (Elt F) → (⟨S36864x1792, .f32⟩ : BufTy).Contents (Elt F) → (⟨S36864x1792, .i1⟩ : BufTy).Contents (Elt F))
  :: StableHlo.unary main_v42 main_v43 ((extui 32 · natLt_1_32) : (⟨S36864x1792, .i1⟩ : BufTy).Contents (Elt F) → (⟨S36864x1792, .i32⟩ : BufTy).Contents (Elt F))
  :: StableHlo.binary main_v41 main_v43 main_v44 (addi : (⟨S36864x1792, .i32⟩ : BufTy).Contents (Elt F) → (⟨S36864x1792, .i32⟩ : BufTy).Contents (Elt F) → (⟨S36864x1792, .i32⟩ : BufTy).Contents (Elt F))
  :: StableHlo.binary main_v37 main_v16 main_v45 (cmpf .ogt : (⟨S36864x1792, .f32⟩ : BufTy).Contents (Elt F) → (⟨S36864x1792, .f32⟩ : BufTy).Contents (Elt F) → (⟨S36864x1792, .i1⟩ : BufTy).Contents (Elt F))
  :: StableHlo.unary main_v45 main_v46 ((extui 32 · natLt_1_32) : (⟨S36864x1792, .i1⟩ : BufTy).Contents (Elt F) → (⟨S36864x1792, .i32⟩ : BufTy).Contents (Elt F))
  :: StableHlo.binary main_v44 main_v46 main_v47 (addi : (⟨S36864x1792, .i32⟩ : BufTy).Contents (Elt F) → (⟨S36864x1792, .i32⟩ : BufTy).Contents (Elt F) → (⟨S36864x1792, .i32⟩ : BufTy).Contents (Elt F))
  :: StableHlo.nullary main_c_0 (constantI S_ 32 2#32)
  :: StableHlo.unary main_c_0 main_v48 (broadcastInDim S36864x1792 ![] bcast_S_S36864x1792 : (⟨S_, .i32⟩ : BufTy).Contents (Elt F) → (⟨S36864x1792, .i32⟩ : BufTy).Contents (Elt F))
  :: StableHlo.binary main_v47 main_v48 main_v49 (cmpi .slt : (⟨S36864x1792, .i32⟩ : BufTy).Contents (Elt F) → (⟨S36864x1792, .i32⟩ : BufTy).Contents (Elt F) → (⟨S36864x1792, .i1⟩ : BufTy).Contents (Elt F))
  :: StableHlo.nullary main_c_1 (constantI S_ 32 0#32)
  :: StableHlo.unary main_c_1 main_v50 (broadcastInDim S36864x1792 ![] bcast_S_S36864x1792 : (⟨S_, .i32⟩ : BufTy).Contents (Elt F) → (⟨S36864x1792, .i32⟩ : BufTy).Contents (Elt F))
  :: StableHlo.binary main_v16 main_v23 main_v51 (cmpf .oge : (⟨S36864x1792, .f32⟩ : BufTy).Contents (Elt F) → (⟨S36864x1792, .f32⟩ : BufTy).Contents (Elt F) → (⟨S36864x1792, .i1⟩ : BufTy).Contents (Elt F))
  :: StableHlo.unary main_v51 main_v52 ((extui 32 · natLt_1_32) : (⟨S36864x1792, .i1⟩ : BufTy).Contents (Elt F) → (⟨S36864x1792, .i32⟩ : BufTy).Contents (Elt F))
  :: StableHlo.binary main_v50 main_v52 main_v53 (addi : (⟨S36864x1792, .i32⟩ : BufTy).Contents (Elt F) → (⟨S36864x1792, .i32⟩ : BufTy).Contents (Elt F) → (⟨S36864x1792, .i32⟩ : BufTy).Contents (Elt F))
  :: StableHlo.binary main_v30 main_v23 main_v54 (cmpf .ogt : (⟨S36864x1792, .f32⟩ : BufTy).Contents (Elt F) → (⟨S36864x1792, .f32⟩ : BufTy).Contents (Elt F) → (⟨S36864x1792, .i1⟩ : BufTy).Contents (Elt F))
  :: StableHlo.unary main_v54 main_v55 ((extui 32 · natLt_1_32) : (⟨S36864x1792, .i1⟩ : BufTy).Contents (Elt F) → (⟨S36864x1792, .i32⟩ : BufTy).Contents (Elt F))
  :: StableHlo.binary main_v53 main_v55 main_v56 (addi : (⟨S36864x1792, .i32⟩ : BufTy).Contents (Elt F) → (⟨S36864x1792, .i32⟩ : BufTy).Contents (Elt F) → (⟨S36864x1792, .i32⟩ : BufTy).Contents (Elt F))
  :: StableHlo.binary main_v37 main_v23 main_v57 (cmpf .ogt : (⟨S36864x1792, .f32⟩ : BufTy).Contents (Elt F) → (⟨S36864x1792, .f32⟩ : BufTy).Contents (Elt F) → (⟨S36864x1792, .i1⟩ : BufTy).Contents (Elt F))
  :: StableHlo.unary main_v57 main_v58 ((extui 32 · natLt_1_32) : (⟨S36864x1792, .i1⟩ : BufTy).Contents (Elt F) → (⟨S36864x1792, .i32⟩ : BufTy).Contents (Elt F))
  :: StableHlo.binary main_v56 main_v58 main_v59 (addi : (⟨S36864x1792, .i32⟩ : BufTy).Contents (Elt F) → (⟨S36864x1792, .i32⟩ : BufTy).Contents (Elt F) → (⟨S36864x1792, .i32⟩ : BufTy).Contents (Elt F))
  :: StableHlo.nullary main_c_2 (constantI S_ 32 2#32)
  :: StableHlo.unary main_c_2 main_v60 (broadcastInDim S36864x1792 ![] bcast_S_S36864x1792 : (⟨S_, .i32⟩ : BufTy).Contents (Elt F) → (⟨S36864x1792, .i32⟩ : BufTy).Contents (Elt F))
  :: StableHlo.binary main_v59 main_v60 main_v61 (cmpi .slt : (⟨S36864x1792, .i32⟩ : BufTy).Contents (Elt F) → (⟨S36864x1792, .i32⟩ : BufTy).Contents (Elt F) → (⟨S36864x1792, .i1⟩ : BufTy).Contents (Elt F))
  :: StableHlo.nullary main_c_3 (constantI S_ 32 0#32)
  :: StableHlo.unary main_c_3 main_v62 (broadcastInDim S36864x1792 ![] bcast_S_S36864x1792 : (⟨S_, .i32⟩ : BufTy).Contents (Elt F) → (⟨S36864x1792, .i32⟩ : BufTy).Contents (Elt F))
  :: StableHlo.binary main_v16 main_v30 main_v63 (cmpf .oge : (⟨S36864x1792, .f32⟩ : BufTy).Contents (Elt F) → (⟨S36864x1792, .f32⟩ : BufTy).Contents (Elt F) → (⟨S36864x1792, .i1⟩ : BufTy).Contents (Elt F))
  :: StableHlo.unary main_v63 main_v64 ((extui 32 · natLt_1_32) : (⟨S36864x1792, .i1⟩ : BufTy).Contents (Elt F) → (⟨S36864x1792, .i32⟩ : BufTy).Contents (Elt F))
  :: StableHlo.binary main_v62 main_v64 main_v65 (addi : (⟨S36864x1792, .i32⟩ : BufTy).Contents (Elt F) → (⟨S36864x1792, .i32⟩ : BufTy).Contents (Elt F) → (⟨S36864x1792, .i32⟩ : BufTy).Contents (Elt F))
  :: StableHlo.binary main_v23 main_v30 main_v66 (cmpf .oge : (⟨S36864x1792, .f32⟩ : BufTy).Contents (Elt F) → (⟨S36864x1792, .f32⟩ : BufTy).Contents (Elt F) → (⟨S36864x1792, .i1⟩ : BufTy).Contents (Elt F))
  :: StableHlo.unary main_v66 main_v67 ((extui 32 · natLt_1_32) : (⟨S36864x1792, .i1⟩ : BufTy).Contents (Elt F) → (⟨S36864x1792, .i32⟩ : BufTy).Contents (Elt F))
  :: StableHlo.binary main_v65 main_v67 main_v68 (addi : (⟨S36864x1792, .i32⟩ : BufTy).Contents (Elt F) → (⟨S36864x1792, .i32⟩ : BufTy).Contents (Elt F) → (⟨S36864x1792, .i32⟩ : BufTy).Contents (Elt F))
  :: StableHlo.binary main_v37 main_v30 main_v69 (cmpf .ogt : (⟨S36864x1792, .f32⟩ : BufTy).Contents (Elt F) → (⟨S36864x1792, .f32⟩ : BufTy).Contents (Elt F) → (⟨S36864x1792, .i1⟩ : BufTy).Contents (Elt F))
  :: StableHlo.unary main_v69 main_v70 ((extui 32 · natLt_1_32) : (⟨S36864x1792, .i1⟩ : BufTy).Contents (Elt F) → (⟨S36864x1792, .i32⟩ : BufTy).Contents (Elt F))
  :: StableHlo.binary main_v68 main_v70 main_v71 (addi : (⟨S36864x1792, .i32⟩ : BufTy).Contents (Elt F) → (⟨S36864x1792, .i32⟩ : BufTy).Contents (Elt F) → (⟨S36864x1792, .i32⟩ : BufTy).Contents (Elt F))
  :: StableHlo.nullary main_c_4 (constantI S_ 32 2#32)
  :: StableHlo.unary main_c_4 main_v72 (broadcastInDim S36864x1792 ![] bcast_S_S36864x1792 : (⟨S_, .i32⟩ : BufTy).Contents (Elt F) → (⟨S36864x1792, .i32⟩ : BufTy).Contents (Elt F))
  :: StableHlo.binary main_v71 main_v72 main_v73 (cmpi .slt : (⟨S36864x1792, .i32⟩ : BufTy).Contents (Elt F) → (⟨S36864x1792, .i32⟩ : BufTy).Contents (Elt F) → (⟨S36864x1792, .i1⟩ : BufTy).Contents (Elt F))
  :: StableHlo.nullary main_c_5 (constantI S_ 32 0#32)
  :: StableHlo.unary main_c_5 main_v74 (broadcastInDim S36864x1792 ![] bcast_S_S36864x1792 : (⟨S_, .i32⟩ : BufTy).Contents (Elt F) → (⟨S36864x1792, .i32⟩ : BufTy).Contents (Elt F))
  :: StableHlo.binary main_v16 main_v37 main_v75 (cmpf .oge : (⟨S36864x1792, .f32⟩ : BufTy).Contents (Elt F) → (⟨S36864x1792, .f32⟩ : BufTy).Contents (Elt F) → (⟨S36864x1792, .i1⟩ : BufTy).Contents (Elt F))
  :: StableHlo.unary main_v75 main_v76 ((extui 32 · natLt_1_32) : (⟨S36864x1792, .i1⟩ : BufTy).Contents (Elt F) → (⟨S36864x1792, .i32⟩ : BufTy).Contents (Elt F))
  :: StableHlo.binary main_v74 main_v76 main_v77 (addi : (⟨S36864x1792, .i32⟩ : BufTy).Contents (Elt F) → (⟨S36864x1792, .i32⟩ : BufTy).Contents (Elt F) → (⟨S36864x1792, .i32⟩ : BufTy).Contents (Elt F))
  :: StableHlo.binary main_v23 main_v37 main_v78 (cmpf .oge : (⟨S36864x1792, .f32⟩ : BufTy).Contents (Elt F) → (⟨S36864x1792, .f32⟩ : BufTy).Contents (Elt F) → (⟨S36864x1792, .i1⟩ : BufTy).Contents (Elt F))
  :: StableHlo.unary main_v78 main_v79 ((extui 32 · natLt_1_32) : (⟨S36864x1792, .i1⟩ : BufTy).Contents (Elt F) → (⟨S36864x1792, .i32⟩ : BufTy).Contents (Elt F))
  :: StableHlo.binary main_v77 main_v79 main_v80 (addi : (⟨S36864x1792, .i32⟩ : BufTy).Contents (Elt F) → (⟨S36864x1792, .i32⟩ : BufTy).Contents (Elt F) → (⟨S36864x1792, .i32⟩ : BufTy).Contents (Elt F))
  :: StableHlo.binary main_v30 main_v37 main_v81 (cmpf .oge : (⟨S36864x1792, .f32⟩ : BufTy).Contents (Elt F) → (⟨S36864x1792, .f32⟩ : BufTy).Contents (Elt F) → (⟨S36864x1792, .i1⟩ : BufTy).Contents (Elt F))
  :: StableHlo.unary main_v81 main_v82 ((extui 32 · natLt_1_32) : (⟨S36864x1792, .i1⟩ : BufTy).Contents (Elt F) → (⟨S36864x1792, .i32⟩ : BufTy).Contents (Elt F))
  :: StableHlo.binary main_v80 main_v82 main_v83 (addi : (⟨S36864x1792, .i32⟩ : BufTy).Contents (Elt F) → (⟨S36864x1792, .i32⟩ : BufTy).Contents (Elt F) → (⟨S36864x1792, .i32⟩ : BufTy).Contents (Elt F))
  :: StableHlo.nullary main_c_6 (constantI S_ 32 2#32)
  :: StableHlo.unary main_c_6 main_v84 (broadcastInDim S36864x1792 ![] bcast_S_S36864x1792 : (⟨S_, .i32⟩ : BufTy).Contents (Elt F) → (⟨S36864x1792, .i32⟩ : BufTy).Contents (Elt F))
  :: StableHlo.binary main_v83 main_v84 main_v85 (cmpi .slt : (⟨S36864x1792, .i32⟩ : BufTy).Contents (Elt F) → (⟨S36864x1792, .i32⟩ : BufTy).Contents (Elt F) → (⟨S36864x1792, .i1⟩ : BufTy).Contents (Elt F))
  :: StableHlo.nullary main_c_7 (constantI S_ 32 3#32)
  :: StableHlo.nullary main_c_8 (constantI S_ 32 4#32)
  :: [] )

/-- Stretch 1 of the host lines after them. -/
abbrev hostOps0_1 : List (HloOp τ sig (Elt F)) :=
  [ StableHlo.TRef.unary (.of main_c_7 : StableHlo.TRef sig ⟨S_, .i32⟩) (.of main_call0_v0 : StableHlo.TRef sig ⟨S36864x1792, .i32⟩) (broadcastInDim S36864x1792 ![] bcast_S_S36864x1792),
    StableHlo.TRef.unary (.of main_c_8 : StableHlo.TRef sig ⟨S_, .i32⟩) (.of main_call0_v1 : StableHlo.TRef sig ⟨S36864x1792, .i32⟩) (broadcastInDim S36864x1792 ![] bcast_S_S36864x1792),
    StableHlo.TRef.ternary (.of main_v85 : StableHlo.TRef sig ⟨S36864x1792, .i1⟩) (.of main_call0_v0 : StableHlo.TRef sig ⟨S36864x1792, .i32⟩) (.of main_call0_v1 : StableHlo.TRef sig ⟨S36864x1792, .i32⟩) (.of main_v86 : StableHlo.TRef sig ⟨S36864x1792, .i32⟩) select ]

/-- Stretch 2 of the host lines after them. -/
abbrev hostOps0_2 : List (HloOp τ sig (Elt F)) :=
  [ StableHlo.nullary main_c_9 (constantI S_ 32 2#32) ]

/-- Stretch 3 of the host lines after them. -/
abbrev hostOps0_3 : List (HloOp τ sig (Elt F)) :=
  [ StableHlo.TRef.unary (.of main_c_9 : StableHlo.TRef sig ⟨S_, .i32⟩) (.of main_call1_v0 : StableHlo.TRef sig ⟨S36864x1792, .i32⟩) (broadcastInDim S36864x1792 ![] bcast_S_S36864x1792),
    StableHlo.TRef.ternary (.of main_v73 : StableHlo.TRef sig ⟨S36864x1792, .i1⟩) (.of main_call1_v0 : StableHlo.TRef sig ⟨S36864x1792, .i32⟩) (.of main_v86 : StableHlo.TRef sig ⟨S36864x1792, .i32⟩) (.of main_v87 : StableHlo.TRef sig ⟨S36864x1792, .i32⟩) select ]

/-- Stretch 4 of the host lines after them. -/
abbrev hostOps0_4 : List (HloOp τ sig (Elt F)) :=
  [ StableHlo.nullary main_c_10 (constantI S_ 32 1#32) ]

/-- Stretch 5 of the host lines after them. -/
abbrev hostOps0_5 : List (HloOp τ sig (Elt F)) :=
  [ StableHlo.TRef.unary (.of main_c_10 : StableHlo.TRef sig ⟨S_, .i32⟩) (.of main_call2_v0 : StableHlo.TRef sig ⟨S36864x1792, .i32⟩) (broadcastInDim S36864x1792 ![] bcast_S_S36864x1792),
    StableHlo.TRef.ternary (.of main_v61 : StableHlo.TRef sig ⟨S36864x1792, .i1⟩) (.of main_call2_v0 : StableHlo.TRef sig ⟨S36864x1792, .i32⟩) (.of main_v87 : StableHlo.TRef sig ⟨S36864x1792, .i32⟩) (.of main_v88 : StableHlo.TRef sig ⟨S36864x1792, .i32⟩) select ]

/-- Stretch 6 of the host lines after them. -/
abbrev hostOps0_6 : List (HloOp τ sig (Elt F)) :=
  [ StableHlo.nullary main_c_11 (constantI S_ 32 0#32) ]

/-- Stretch 7 of the host lines after them. -/
abbrev hostOps0_7 : List (HloOp τ sig (Elt F)) :=
  [ StableHlo.TRef.unary (.of main_c_11 : StableHlo.TRef sig ⟨S_, .i32⟩) (.of main_call3_v0 : StableHlo.TRef sig ⟨S36864x1792, .i32⟩) (broadcastInDim S36864x1792 ![] bcast_S_S36864x1792),
    StableHlo.TRef.ternary (.of main_v49 : StableHlo.TRef sig ⟨S36864x1792, .i1⟩) (.of main_call3_v0 : StableHlo.TRef sig ⟨S36864x1792, .i32⟩) (.of main_v88 : StableHlo.TRef sig ⟨S36864x1792, .i32⟩) (.of main_v89 : StableHlo.TRef sig ⟨S36864x1792, .i32⟩) select ]

/-- Stretch 8 of the host lines after them. -/
abbrev hostOps0_8 : List (HloOp τ sig (Elt F)) :=
  [ StableHlo.nullary main_c_12 (constantI S_ 32 0#32),
    StableHlo.nullary main_c_13 (constantI S_ 32 4294967295#32) ]

/-- Stretch 9 of the host lines after them. -/
abbrev hostOps0_9 : List (HloOp τ sig (Elt F)) :=
  [ StableHlo.TRef.unary (.of main_c_12 : StableHlo.TRef sig ⟨S_, .i32⟩) (.of main_call4_v0 : StableHlo.TRef sig ⟨S36864x1792, .i32⟩) (broadcastInDim S36864x1792 ![] bcast_S_S36864x1792),
    StableHlo.TRef.unary (.of main_c_13 : StableHlo.TRef sig ⟨S_, .i32⟩) (.of main_call4_v1 : StableHlo.TRef sig ⟨S36864x1792, .i32⟩) (broadcastInDim S36864x1792 ![] bcast_S_S36864x1792),
    StableHlo.TRef.ternary (.of main_v49 : StableHlo.TRef sig ⟨S36864x1792, .i1⟩) (.of main_call4_v0 : StableHlo.TRef sig ⟨S36864x1792, .i32⟩) (.of main_call4_v1 : StableHlo.TRef sig ⟨S36864x1792, .i32⟩) (.of main_v90 : StableHlo.TRef sig ⟨S36864x1792, .i32⟩) select ]

/-- Stretch 10 of the host lines after them. -/
abbrev hostOps0_10 : List (HloOp τ sig (Elt F)) :=
  [ StableHlo.nullary main_c_14 (constantI S_ 32 1#32) ]

/-- Stretch 11 of the host lines after them. -/
abbrev hostOps0_11 : List (HloOp τ sig (Elt F)) :=
  [ StableHlo.TRef.unary (.of main_c_14 : StableHlo.TRef sig ⟨S_, .i32⟩) (.of main_call5_v0 : StableHlo.TRef sig ⟨S36864x1792, .i32⟩) (broadcastInDim S36864x1792 ![] bcast_S_S36864x1792),
    StableHlo.TRef.ternary (.of main_v61 : StableHlo.TRef sig ⟨S36864x1792, .i1⟩) (.of main_call5_v0 : StableHlo.TRef sig ⟨S36864x1792, .i32⟩) (.of main_v90 : StableHlo.TRef sig ⟨S36864x1792, .i32⟩) (.of main_v91 : StableHlo.TRef sig ⟨S36864x1792, .i32⟩) select ]

/-- Stretch 12 of the host lines after them. -/
abbrev hostOps0_12 : List (HloOp τ sig (Elt F)) :=
  [ StableHlo.nullary main_c_15 (constantI S_ 32 2#32) ]

/-- Stretch 13 of the host lines after them. -/
abbrev hostOps0_13 : List (HloOp τ sig (Elt F)) :=
  [ StableHlo.TRef.unary (.of main_c_15 : StableHlo.TRef sig ⟨S_, .i32⟩) (.of main_call6_v0 : StableHlo.TRef sig ⟨S36864x1792, .i32⟩) (broadcastInDim S36864x1792 ![] bcast_S_S36864x1792),
    StableHlo.TRef.ternary (.of main_v73 : StableHlo.TRef sig ⟨S36864x1792, .i1⟩) (.of main_call6_v0 : StableHlo.TRef sig ⟨S36864x1792, .i32⟩) (.of main_v91 : StableHlo.TRef sig ⟨S36864x1792, .i32⟩) (.of main_v92 : StableHlo.TRef sig ⟨S36864x1792, .i32⟩) select ]

/-- Stretch 14 of the host lines after them. -/
abbrev hostOps0_14 : List (HloOp τ sig (Elt F)) :=
  [ StableHlo.nullary main_c_16 (constantI S_ 32 3#32) ]

/-- Stretch 15 of the host lines after them. -/
abbrev hostOps0_15 : List (HloOp τ sig (Elt F)) :=
  [ StableHlo.TRef.unary (.of main_c_16 : StableHlo.TRef sig ⟨S_, .i32⟩) (.of main_call7_v0 : StableHlo.TRef sig ⟨S36864x1792, .i32⟩) (broadcastInDim S36864x1792 ![] bcast_S_S36864x1792),
    StableHlo.TRef.ternary (.of main_v85 : StableHlo.TRef sig ⟨S36864x1792, .i1⟩) (.of main_call7_v0 : StableHlo.TRef sig ⟨S36864x1792, .i32⟩) (.of main_v92 : StableHlo.TRef sig ⟨S36864x1792, .i32⟩) (.of main_v93 : StableHlo.TRef sig ⟨S36864x1792, .i32⟩) select ]

/-- Stretch 16 of the host lines after them. -/
abbrev hostOps0_16 : List (HloOp τ sig (Elt F)) :=
  [ StableHlo.nullary main_c_17 (constantI S_ 32 0#32),
    StableHlo.unary main_c_17 main_v94 (broadcastInDim S36864x1792 ![] bcast_S_S36864x1792 : (⟨S_, .i32⟩ : BufTy).Contents (Elt F) → (⟨S36864x1792, .i32⟩ : BufTy).Contents (Elt F)),
    StableHlo.binary main_v89 main_v94 main_v95 (cmpi .eq : (⟨S36864x1792, .i32⟩ : BufTy).Contents (Elt F) → (⟨S36864x1792, .i32⟩ : BufTy).Contents (Elt F) → (⟨S36864x1792, .i1⟩ : BufTy).Contents (Elt F)),
    StableHlo.nullary main_c_18 (constantI S_ 32 1#32),
    StableHlo.unary main_c_18 main_v96 (broadcastInDim S36864x1792 ![] bcast_S_S36864x1792 : (⟨S_, .i32⟩ : BufTy).Contents (Elt F) → (⟨S36864x1792, .i32⟩ : BufTy).Contents (Elt F)),
    StableHlo.binary main_v89 main_v96 main_v97 (cmpi .eq : (⟨S36864x1792, .i32⟩ : BufTy).Contents (Elt F) → (⟨S36864x1792, .i32⟩ : BufTy).Contents (Elt F) → (⟨S36864x1792, .i1⟩ : BufTy).Contents (Elt F)),
    StableHlo.nullary main_c_19 (constantI S_ 32 2#32),
    StableHlo.unary main_c_19 main_v98 (broadcastInDim S36864x1792 ![] bcast_S_S36864x1792 : (⟨S_, .i32⟩ : BufTy).Contents (Elt F) → (⟨S36864x1792, .i32⟩ : BufTy).Contents (Elt F)),
    StableHlo.binary main_v89 main_v98 main_v99 (cmpi .eq : (⟨S36864x1792, .i32⟩ : BufTy).Contents (Elt F) → (⟨S36864x1792, .i32⟩ : BufTy).Contents (Elt F) → (⟨S36864x1792, .i1⟩ : BufTy).Contents (Elt F)) ]

/-- Stretch 17 of the host lines after them. -/
abbrev hostOps0_17 : List (HloOp τ sig (Elt F)) :=
  [ StableHlo.TRef.ternary (.of main_v99 : StableHlo.TRef sig ⟨S36864x1792, .i1⟩) (.of main_v7 : StableHlo.TRef sig ⟨S36864x1792, .bf16⟩) (.of main_v9 : StableHlo.TRef sig ⟨S36864x1792, .bf16⟩) (.of main_v100 : StableHlo.TRef sig ⟨S36864x1792, .bf16⟩) select ]

/-- Stretch 18 of the host lines after them. -/
abbrev hostOps0_18 : List (HloOp τ sig (Elt F)) :=
  [ StableHlo.TRef.ternary (.of main_v97 : StableHlo.TRef sig ⟨S36864x1792, .i1⟩) (.of main_v5 : StableHlo.TRef sig ⟨S36864x1792, .bf16⟩) (.of main_v100 : StableHlo.TRef sig ⟨S36864x1792, .bf16⟩) (.of main_v101 : StableHlo.TRef sig ⟨S36864x1792, .bf16⟩) select ]

/-- Stretch 19 of the host lines after them. -/
abbrev hostOps0_19 : List (HloOp τ sig (Elt F)) :=
  [ StableHlo.TRef.ternary (.of main_v95 : StableHlo.TRef sig ⟨S36864x1792, .i1⟩) (.of main_v3 : StableHlo.TRef sig ⟨S36864x1792, .bf16⟩) (.of main_v101 : StableHlo.TRef sig ⟨S36864x1792, .bf16⟩) (.of main_v102 : StableHlo.TRef sig ⟨S36864x1792, .bf16⟩) select ]

/-- Stretch 20 of the host lines after them. -/
abbrev hostOps0_20 : List (HloOp τ sig (Elt F)) :=
  [ StableHlo.nullary main_c_20 (constantI S_ 32 3#32),
    StableHlo.unary main_c_20 main_v103 (broadcastInDim S36864x1792 ![] bcast_S_S36864x1792 : (⟨S_, .i32⟩ : BufTy).Contents (Elt F) → (⟨S36864x1792, .i32⟩ : BufTy).Contents (Elt F)),
    StableHlo.binary main_v93 main_v103 main_v104 (cmpi .eq : (⟨S36864x1792, .i32⟩ : BufTy).Contents (Elt F) → (⟨S36864x1792, .i32⟩ : BufTy).Contents (Elt F) → (⟨S36864x1792, .i1⟩ : BufTy).Contents (Elt F)),
    StableHlo.nullary main_c_21 (constantI S_ 32 2#32),
    StableHlo.unary main_c_21 main_v105 (broadcastInDim S36864x1792 ![] bcast_S_S36864x1792 : (⟨S_, .i32⟩ : BufTy).Contents (Elt F) → (⟨S36864x1792, .i32⟩ : BufTy).Contents (Elt F)),
    StableHlo.binary main_v93 main_v105 main_v106 (cmpi .eq : (⟨S36864x1792, .i32⟩ : BufTy).Contents (Elt F) → (⟨S36864x1792, .i32⟩ : BufTy).Contents (Elt F) → (⟨S36864x1792, .i1⟩ : BufTy).Contents (Elt F)),
    StableHlo.nullary main_c_22 (constantI S_ 32 1#32),
    StableHlo.unary main_c_22 main_v107 (broadcastInDim S36864x1792 ![] bcast_S_S36864x1792 : (⟨S_, .i32⟩ : BufTy).Contents (Elt F) → (⟨S36864x1792, .i32⟩ : BufTy).Contents (Elt F)),
    StableHlo.binary main_v93 main_v107 main_v108 (cmpi .eq : (⟨S36864x1792, .i32⟩ : BufTy).Contents (Elt F) → (⟨S36864x1792, .i32⟩ : BufTy).Contents (Elt F) → (⟨S36864x1792, .i1⟩ : BufTy).Contents (Elt F)) ]

/-- Stretch 21 of the host lines after them. -/
abbrev hostOps0_21 : List (HloOp τ sig (Elt F)) :=
  [ StableHlo.TRef.ternary (.of main_v108 : StableHlo.TRef sig ⟨S36864x1792, .i1⟩) (.of main_v5 : StableHlo.TRef sig ⟨S36864x1792, .bf16⟩) (.of main_v3 : StableHlo.TRef sig ⟨S36864x1792, .bf16⟩) (.of main_v109 : StableHlo.TRef sig ⟨S36864x1792, .bf16⟩) select ]

/-- Stretch 22 of the host lines after them. -/
abbrev hostOps0_22 : List (HloOp τ sig (Elt F)) :=
  [ StableHlo.TRef.ternary (.of main_v106 : StableHlo.TRef sig ⟨S36864x1792, .i1⟩) (.of main_v7 : StableHlo.TRef sig ⟨S36864x1792, .bf16⟩) (.of main_v109 : StableHlo.TRef sig ⟨S36864x1792, .bf16⟩) (.of main_v110 : StableHlo.TRef sig ⟨S36864x1792, .bf16⟩) select ]

/-- Stretch 23 of the host lines after them. -/
abbrev hostOps0_23 : List (HloOp τ sig (Elt F)) :=
  [ StableHlo.TRef.ternary (.of main_v104 : StableHlo.TRef sig ⟨S36864x1792, .i1⟩) (.of main_v9 : StableHlo.TRef sig ⟨S36864x1792, .bf16⟩) (.of main_v110 : StableHlo.TRef sig ⟨S36864x1792, .bf16⟩) (.of main_v111 : StableHlo.TRef sig ⟨S36864x1792, .bf16⟩) select ]

/-- Stretch 24 of the host lines after them. -/
abbrev hostOps0_24 : List (HloOp τ sig (Elt F)) :=
  ( StableHlo.unary main_v102 main_v112 (broadcastInDim S36864x1792x1 ![0, 1] bcast_S36864x1792_S36864x1792x1_0_1 : (⟨S36864x1792, .bf16⟩ : BufTy).Contents (Elt F) → (⟨S36864x1792x1, .bf16⟩ : BufTy).Contents (Elt F))
  :: StableHlo.unary main_v111 main_v113 (broadcastInDim S36864x1792x1 ![0, 1] bcast_S36864x1792_S36864x1792x1_0_1 : (⟨S36864x1792, .bf16⟩ : BufTy).Contents (Elt F) → (⟨S36864x1792x1, .bf16⟩ : BufTy).Contents (Elt F))
  :: StableHlo.binary main_v112 main_v113 main_v114 ((fun a b => concatenate S36864x1792x2 2 [⟨S36864x1792x1, a⟩, ⟨S36864x1792x1, b⟩] concatenates_S36864x1792x1_S36864x1792x1_S36864x1792x2_d2) : (⟨S36864x1792x1, .bf16⟩ : BufTy).Contents (Elt F) → (⟨S36864x1792x1, .bf16⟩ : BufTy).Contents (Elt F) → (⟨S36864x1792x2, .bf16⟩ : BufTy).Contents (Elt F))
  :: StableHlo.reshape main_v114 main_v115 (rfl : (.bf16 : EltTy) = .bf16) shapeCasts_S36864x1792x2_S36864x3584
  :: StableHlo.nullary main_c_23 (constantI S_ 32 2#32)
  :: StableHlo.unary main_c_23 main_v116 (broadcastInDim S36864x1792 ![] bcast_S_S36864x1792 : (⟨S_, .i32⟩ : BufTy).Contents (Elt F) → (⟨S36864x1792, .i32⟩ : BufTy).Contents (Elt F))
  :: StableHlo.binary main_v93 main_v116 main_v117 (Host.shli : (⟨S36864x1792, .i32⟩ : BufTy).Contents (Elt F) → (⟨S36864x1792, .i32⟩ : BufTy).Contents (Elt F) → (⟨S36864x1792, .i32⟩ : BufTy).Contents (Elt F))
  :: StableHlo.binary main_v89 main_v117 main_v118 (ori : (⟨S36864x1792, .i32⟩ : BufTy).Contents (Elt F) → (⟨S36864x1792, .i32⟩ : BufTy).Contents (Elt F) → (⟨S36864x1792, .i32⟩ : BufTy).Contents (Elt F))
  :: StableHlo.unary main_v118 main_v119 (id : (⟨S36864x1792, .i32⟩ : BufTy).Contents (Elt F) → (⟨S36864x1792, .i32⟩ : BufTy).Contents (Elt F))
  :: StableHlo.reshape main_v119 main_v120 (rfl : (.i32 : EltTy) = .i32) shapeCasts_S36864x1792_S36864x224x8
  :: StableHlo.nullary main_c_24 (constantI S_ 32 0#32)
  :: StableHlo.unary main_c_24 main_v121 (broadcastInDim S36864x224 ![] bcast_S_S36864x224 : (⟨S_, .i32⟩ : BufTy).Contents (Elt F) → (⟨S36864x224, .i32⟩ : BufTy).Contents (Elt F))
  :: StableHlo.unary main_v120 main_v122 ((extractStridedSlice S36864x224x1 ![0, 0, 0] · slices_S36864x224x8_S36864x224x1_0_0_0) : (⟨S36864x224x8, .i32⟩ : BufTy).Contents (Elt F) → (⟨S36864x224x1, .i32⟩ : BufTy).Contents (Elt F))
  :: StableHlo.reshape main_v122 main_v123 (rfl : (.i32 : EltTy) = .i32) shapeCasts_S36864x224x1_S36864x224
  :: StableHlo.nullary main_c_25 (constantI S_ 32 0#32)
  :: StableHlo.unary main_c_25 main_v124 (broadcastInDim S36864x224 ![] bcast_S_S36864x224 : (⟨S_, .i32⟩ : BufTy).Contents (Elt F) → (⟨S36864x224, .i32⟩ : BufTy).Contents (Elt F))
  :: StableHlo.binary main_v123 main_v124 main_v125 (Host.shli : (⟨S36864x224, .i32⟩ : BufTy).Contents (Elt F) → (⟨S36864x224, .i32⟩ : BufTy).Contents (Elt F) → (⟨S36864x224, .i32⟩ : BufTy).Contents (Elt F))
  :: StableHlo.binary main_v121 main_v125 main_v126 (ori : (⟨S36864x224, .i32⟩ : BufTy).Contents (Elt F) → (⟨S36864x224, .i32⟩ : BufTy).Contents (Elt F) → (⟨S36864x224, .i32⟩ : BufTy).Contents (Elt F))
  :: StableHlo.unary main_v120 main_v127 ((extractStridedSlice S36864x224x1 ![0, 0, 1] · slices_S36864x224x8_S36864x224x1_0_0_1) : (⟨S36864x224x8, .i32⟩ : BufTy).Contents (Elt F) → (⟨S36864x224x1, .i32⟩ : BufTy).Contents (Elt F))
  :: StableHlo.reshape main_v127 main_v128 (rfl : (.i32 : EltTy) = .i32) shapeCasts_S36864x224x1_S36864x224
  :: StableHlo.nullary main_c_26 (constantI S_ 32 4#32)
  :: StableHlo.unary main_c_26 main_v129 (broadcastInDim S36864x224 ![] bcast_S_S36864x224 : (⟨S_, .i32⟩ : BufTy).Contents (Elt F) → (⟨S36864x224, .i32⟩ : BufTy).Contents (Elt F))
  :: StableHlo.binary main_v128 main_v129 main_v130 (Host.shli : (⟨S36864x224, .i32⟩ : BufTy).Contents (Elt F) → (⟨S36864x224, .i32⟩ : BufTy).Contents (Elt F) → (⟨S36864x224, .i32⟩ : BufTy).Contents (Elt F))
  :: StableHlo.binary main_v126 main_v130 main_v131 (ori : (⟨S36864x224, .i32⟩ : BufTy).Contents (Elt F) → (⟨S36864x224, .i32⟩ : BufTy).Contents (Elt F) → (⟨S36864x224, .i32⟩ : BufTy).Contents (Elt F))
  :: StableHlo.unary main_v120 main_v132 ((extractStridedSlice S36864x224x1 ![0, 0, 2] · slices_S36864x224x8_S36864x224x1_0_0_2) : (⟨S36864x224x8, .i32⟩ : BufTy).Contents (Elt F) → (⟨S36864x224x1, .i32⟩ : BufTy).Contents (Elt F))
  :: StableHlo.reshape main_v132 main_v133 (rfl : (.i32 : EltTy) = .i32) shapeCasts_S36864x224x1_S36864x224
  :: StableHlo.nullary main_c_27 (constantI S_ 32 8#32)
  :: StableHlo.unary main_c_27 main_v134 (broadcastInDim S36864x224 ![] bcast_S_S36864x224 : (⟨S_, .i32⟩ : BufTy).Contents (Elt F) → (⟨S36864x224, .i32⟩ : BufTy).Contents (Elt F))
  :: StableHlo.binary main_v133 main_v134 main_v135 (Host.shli : (⟨S36864x224, .i32⟩ : BufTy).Contents (Elt F) → (⟨S36864x224, .i32⟩ : BufTy).Contents (Elt F) → (⟨S36864x224, .i32⟩ : BufTy).Contents (Elt F))
  :: StableHlo.binary main_v131 main_v135 main_v136 (ori : (⟨S36864x224, .i32⟩ : BufTy).Contents (Elt F) → (⟨S36864x224, .i32⟩ : BufTy).Contents (Elt F) → (⟨S36864x224, .i32⟩ : BufTy).Contents (Elt F))
  :: StableHlo.unary main_v120 main_v137 ((extractStridedSlice S36864x224x1 ![0, 0, 3] · slices_S36864x224x8_S36864x224x1_0_0_3) : (⟨S36864x224x8, .i32⟩ : BufTy).Contents (Elt F) → (⟨S36864x224x1, .i32⟩ : BufTy).Contents (Elt F))
  :: StableHlo.reshape main_v137 main_v138 (rfl : (.i32 : EltTy) = .i32) shapeCasts_S36864x224x1_S36864x224
  :: StableHlo.nullary main_c_28 (constantI S_ 32 12#32)
  :: StableHlo.unary main_c_28 main_v139 (broadcastInDim S36864x224 ![] bcast_S_S36864x224 : (⟨S_, .i32⟩ : BufTy).Contents (Elt F) → (⟨S36864x224, .i32⟩ : BufTy).Contents (Elt F))
  :: StableHlo.binary main_v138 main_v139 main_v140 (Host.shli : (⟨S36864x224, .i32⟩ : BufTy).Contents (Elt F) → (⟨S36864x224, .i32⟩ : BufTy).Contents (Elt F) → (⟨S36864x224, .i32⟩ : BufTy).Contents (Elt F))
  :: StableHlo.binary main_v136 main_v140 main_v141 (ori : (⟨S36864x224, .i32⟩ : BufTy).Contents (Elt F) → (⟨S36864x224, .i32⟩ : BufTy).Contents (Elt F) → (⟨S36864x224, .i32⟩ : BufTy).Contents (Elt F))
  :: StableHlo.unary main_v120 main_v142 ((extractStridedSlice S36864x224x1 ![0, 0, 4] · slices_S36864x224x8_S36864x224x1_0_0_4) : (⟨S36864x224x8, .i32⟩ : BufTy).Contents (Elt F) → (⟨S36864x224x1, .i32⟩ : BufTy).Contents (Elt F))
  :: StableHlo.reshape main_v142 main_v143 (rfl : (.i32 : EltTy) = .i32) shapeCasts_S36864x224x1_S36864x224
  :: StableHlo.nullary main_c_29 (constantI S_ 32 16#32)
  :: StableHlo.unary main_c_29 main_v144 (broadcastInDim S36864x224 ![] bcast_S_S36864x224 : (⟨S_, .i32⟩ : BufTy).Contents (Elt F) → (⟨S36864x224, .i32⟩ : BufTy).Contents (Elt F))
  :: StableHlo.binary main_v143 main_v144 main_v145 (Host.shli : (⟨S36864x224, .i32⟩ : BufTy).Contents (Elt F) → (⟨S36864x224, .i32⟩ : BufTy).Contents (Elt F) → (⟨S36864x224, .i32⟩ : BufTy).Contents (Elt F))
  :: StableHlo.binary main_v141 main_v145 main_v146 (ori : (⟨S36864x224, .i32⟩ : BufTy).Contents (Elt F) → (⟨S36864x224, .i32⟩ : BufTy).Contents (Elt F) → (⟨S36864x224, .i32⟩ : BufTy).Contents (Elt F))
  :: StableHlo.unary main_v120 main_v147 ((extractStridedSlice S36864x224x1 ![0, 0, 5] · slices_S36864x224x8_S36864x224x1_0_0_5) : (⟨S36864x224x8, .i32⟩ : BufTy).Contents (Elt F) → (⟨S36864x224x1, .i32⟩ : BufTy).Contents (Elt F))
  :: StableHlo.reshape main_v147 main_v148 (rfl : (.i32 : EltTy) = .i32) shapeCasts_S36864x224x1_S36864x224
  :: StableHlo.nullary main_c_30 (constantI S_ 32 20#32)
  :: StableHlo.unary main_c_30 main_v149 (broadcastInDim S36864x224 ![] bcast_S_S36864x224 : (⟨S_, .i32⟩ : BufTy).Contents (Elt F) → (⟨S36864x224, .i32⟩ : BufTy).Contents (Elt F))
  :: StableHlo.binary main_v148 main_v149 main_v150 (Host.shli : (⟨S36864x224, .i32⟩ : BufTy).Contents (Elt F) → (⟨S36864x224, .i32⟩ : BufTy).Contents (Elt F) → (⟨S36864x224, .i32⟩ : BufTy).Contents (Elt F))
  :: StableHlo.binary main_v146 main_v150 main_v151 (ori : (⟨S36864x224, .i32⟩ : BufTy).Contents (Elt F) → (⟨S36864x224, .i32⟩ : BufTy).Contents (Elt F) → (⟨S36864x224, .i32⟩ : BufTy).Contents (Elt F))
  :: StableHlo.unary main_v120 main_v152 ((extractStridedSlice S36864x224x1 ![0, 0, 6] · slices_S36864x224x8_S36864x224x1_0_0_6) : (⟨S36864x224x8, .i32⟩ : BufTy).Contents (Elt F) → (⟨S36864x224x1, .i32⟩ : BufTy).Contents (Elt F))
  :: StableHlo.reshape main_v152 main_v153 (rfl : (.i32 : EltTy) = .i32) shapeCasts_S36864x224x1_S36864x224
  :: StableHlo.nullary main_c_31 (constantI S_ 32 24#32)
  :: StableHlo.unary main_c_31 main_v154 (broadcastInDim S36864x224 ![] bcast_S_S36864x224 : (⟨S_, .i32⟩ : BufTy).Contents (Elt F) → (⟨S36864x224, .i32⟩ : BufTy).Contents (Elt F))
  :: StableHlo.binary main_v153 main_v154 main_v155 (Host.shli : (⟨S36864x224, .i32⟩ : BufTy).Contents (Elt F) → (⟨S36864x224, .i32⟩ : BufTy).Contents (Elt F) → (⟨S36864x224, .i32⟩ : BufTy).Contents (Elt F))
  :: StableHlo.binary main_v151 main_v155 main_v156 (ori : (⟨S36864x224, .i32⟩ : BufTy).Contents (Elt F) → (⟨S36864x224, .i32⟩ : BufTy).Contents (Elt F) → (⟨S36864x224, .i32⟩ : BufTy).Contents (Elt F))
  :: StableHlo.unary main_v120 main_v157 ((extractStridedSlice S36864x224x1 ![0, 0, 7] · slices_S36864x224x8_S36864x224x1_0_0_7) : (⟨S36864x224x8, .i32⟩ : BufTy).Contents (Elt F) → (⟨S36864x224x1, .i32⟩ : BufTy).Contents (Elt F))
  :: StableHlo.reshape main_v157 main_v158 (rfl : (.i32 : EltTy) = .i32) shapeCasts_S36864x224x1_S36864x224
  :: StableHlo.nullary main_c_32 (constantI S_ 32 28#32)
  :: StableHlo.unary main_c_32 main_v159 (broadcastInDim S36864x224 ![] bcast_S_S36864x224 : (⟨S_, .i32⟩ : BufTy).Contents (Elt F) → (⟨S36864x224, .i32⟩ : BufTy).Contents (Elt F))
  :: StableHlo.binary main_v158 main_v159 main_v160 (Host.shli : (⟨S36864x224, .i32⟩ : BufTy).Contents (Elt F) → (⟨S36864x224, .i32⟩ : BufTy).Contents (Elt F) → (⟨S36864x224, .i32⟩ : BufTy).Contents (Elt F))
  :: StableHlo.binary main_v156 main_v160 main_v161 (ori : (⟨S36864x224, .i32⟩ : BufTy).Contents (Elt F) → (⟨S36864x224, .i32⟩ : BufTy).Contents (Elt F) → (⟨S36864x224, .i32⟩ : BufTy).Contents (Elt F))
  :: StableHlo.unary main_v161 main_v162 (id : (⟨S36864x224, .i32⟩ : BufTy).Contents (Elt F) → (⟨S36864x224, .i32⟩ : BufTy).Contents (Elt F))
  :: StableHlo.unary main_v115 main_v163 ((extf .f32 · bitsLt_bf16_f32) : (⟨S36864x3584, .bf16⟩ : BufTy).Contents (Elt F) → (⟨S36864x3584, .f32⟩ : BufTy).Contents (Elt F))
  :: StableHlo.unary main_v163 main_v164 (Host.absf : (⟨S36864x3584, .f32⟩ : BufTy).Contents (Elt F) → (⟨S36864x3584, .f32⟩ : BufTy).Contents (Elt F))
  :: StableHlo.nullary main_cst (constant S_ .f32 0xFF800000#32)
  :: StableHlo.binary main_v164 main_cst main_v165 ((fun x v => Host.reduce FloatOps.maximumf x v reducesTo_S36864x3584_S36864_d1 h_S_) : (⟨S36864x3584, .f32⟩ : BufTy).Contents (Elt F) → (⟨S_, .f32⟩ : BufTy).Contents (Elt F) → (⟨S36864, .f32⟩ : BufTy).Contents (Elt F))
  :: StableHlo.unary main_v165 main_v166 (broadcastInDim S36864x1 ![0] bcast_S36864_S36864x1_0 : (⟨S36864, .f32⟩ : BufTy).Contents (Elt F) → (⟨S36864x1, .f32⟩ : BufTy).Contents (Elt F))
  :: StableHlo.nullary main_cst_33 (constant S_ .f32 0x3B124925#32)
  :: StableHlo.unary main_cst_33 main_v167 (broadcastInDim S36864x1 ![] bcast_S_S36864x1 : (⟨S_, .f32⟩ : BufTy).Contents (Elt F) → (⟨S36864x1, .f32⟩ : BufTy).Contents (Elt F))
  :: StableHlo.binary main_v166 main_v167 main_v168 (mulf : (⟨S36864x1, .f32⟩ : BufTy).Contents (Elt F) → (⟨S36864x1, .f32⟩ : BufTy).Contents (Elt F) → (⟨S36864x1, .f32⟩ : BufTy).Contents (Elt F))
  :: StableHlo.unary main_v168 main_v169 (Host.log : (⟨S36864x1, .f32⟩ : BufTy).Contents (Elt F) → (⟨S36864x1, .f32⟩ : BufTy).Contents (Elt F))
  :: StableHlo.nullary main_cst_34 (constant S_ .f32 0x40000000#32)
  :: StableHlo.unary main_cst_34 main_v170 (broadcastInDim S36864x1 ![] bcast_S_S36864x1 : (⟨S_, .f32⟩ : BufTy).Contents (Elt F) → (⟨S36864x1, .f32⟩ : BufTy).Contents (Elt F))
  :: StableHlo.unary main_v170 main_v171 (Host.log : (⟨S36864x1, .f32⟩ : BufTy).Contents (Elt F) → (⟨S36864x1, .f32⟩ : BufTy).Contents (Elt F))
  :: StableHlo.binary main_v169 main_v171 main_v172 (Host.divf : (⟨S36864x1, .f32⟩ : BufTy).Contents (Elt F) → (⟨S36864x1, .f32⟩ : BufTy).Contents (Elt F) → (⟨S36864x1, .f32⟩ : BufTy).Contents (Elt F))
  :: StableHlo.unary main_v172 main_v173 (Host.floor : (⟨S36864x1, .f32⟩ : BufTy).Contents (Elt F) → (⟨S36864x1, .f32⟩ : BufTy).Contents (Elt F))
  :: StableHlo.nullary main_cst_35 (constant S_ .f32 0x3F800000#32)
  :: StableHlo.unary main_cst_35 main_v174 (broadcastInDim S36864x1 ![] bcast_S_S36864x1 : (⟨S_, .f32⟩ : BufTy).Contents (Elt F) → (⟨S36864x1, .f32⟩ : BufTy).Contents (Elt F))
  :: StableHlo.binary main_v173 main_v174 main_v175 (addf : (⟨S36864x1, .f32⟩ : BufTy).Contents (Elt F) → (⟨S36864x1, .f32⟩ : BufTy).Contents (Elt F) → (⟨S36864x1, .f32⟩ : BufTy).Contents (Elt F))
  :: StableHlo.nullary main_cst_36 (constant S_ .f32 0x00000000#32)
  :: StableHlo.unary main_cst_36 main_v176 (broadcastInDim S36864x1 ![] bcast_S_S36864x1 : (⟨S_, .f32⟩ : BufTy).Contents (Elt F) → (⟨S36864x1, .f32⟩ : BufTy).Contents (Elt F))
  :: StableHlo.binary main_v166 main_v176 main_v177 (cmpf .oeq : (⟨S36864x1, .f32⟩ : BufTy).Contents (Elt F) → (⟨S36864x1, .f32⟩ : BufTy).Contents (Elt F) → (⟨S36864x1, .i1⟩ : BufTy).Contents (Elt F))
  :: StableHlo.nullary main_cst_37 (constant S_ .f32 0x00000000#32)
  :: [] )

/-- Stretch 25 of the host lines after them. -/
abbrev hostOps0_25 : List (HloOp τ sig (Elt F)) :=
  [ StableHlo.TRef.unary (.of main_cst_37 : StableHlo.TRef sig ⟨S_, .f32⟩) (.of main_call14_v0 : StableHlo.TRef sig ⟨S_, .f32⟩) id,
    StableHlo.TRef.unary (.of main_call14_v0 : StableHlo.TRef sig ⟨S_, .f32⟩) (.of main_call14_v1 : StableHlo.TRef sig ⟨S36864x1, .f32⟩) (broadcastInDim S36864x1 ![] bcast_S_S36864x1),
    StableHlo.TRef.ternary (.of main_v177 : StableHlo.TRef sig ⟨S36864x1, .i1⟩) (.of main_call14_v1 : StableHlo.TRef sig ⟨S36864x1, .f32⟩) (.of main_v175 : StableHlo.TRef sig ⟨S36864x1, .f32⟩) (.of main_v178 : StableHlo.TRef sig ⟨S36864x1, .f32⟩) select ]

/-- Stretch 26 of the host lines after them. -/
abbrev hostOps0_26 : List (HloOp τ sig (Elt F)) :=
  [ StableHlo.nullary main_cst_38 (constant S_ .f32 0x40000000#32),
    StableHlo.unary main_cst_38 main_v179 (broadcastInDim S36864x1 ![] bcast_S_S36864x1 : (⟨S_, .f32⟩ : BufTy).Contents (Elt F) → (⟨S36864x1, .f32⟩ : BufTy).Contents (Elt F)),
    StableHlo.binary main_v179 main_v178 main_v180 (Host.powf : (⟨S36864x1, .f32⟩ : BufTy).Contents (Elt F) → (⟨S36864x1, .f32⟩ : BufTy).Contents (Elt F) → (⟨S36864x1, .f32⟩ : BufTy).Contents (Elt F)),
    StableHlo.unary main_v178 main_v181 (Host.negf : (⟨S36864x1, .f32⟩ : BufTy).Contents (Elt F) → (⟨S36864x1, .f32⟩ : BufTy).Contents (Elt F)),
    StableHlo.binary main_v179 main_v181 main_v182 (Host.powf : (⟨S36864x1, .f32⟩ : BufTy).Contents (Elt F) → (⟨S36864x1, .f32⟩ : BufTy).Contents (Elt F) → (⟨S36864x1, .f32⟩ : BufTy).Contents (Elt F)),
    StableHlo.unary main_v182 main_v183 (broadcastInDim S36864x3584 ![0, 1] bcast_S36864x1_S36864x3584_0_1 : (⟨S36864x1, .f32⟩ : BufTy).Contents (Elt F) → (⟨S36864x3584, .f32⟩ : BufTy).Contents (Elt F)),
    StableHlo.binary main_v163 main_v183 main_v184 (mulf : (⟨S36864x3584, .f32⟩ : BufTy).Contents (Elt F) → (⟨S36864x3584, .f32⟩ : BufTy).Contents (Elt F) → (⟨S36864x3584, .f32⟩ : BufTy).Contents (Elt F)) ]

/-- The host lines of the clip and the cast. -/
abbrev opsF : List (HloOp τ sig (Elt F)) :=
  [ StableHlo.nullary main_cst_39 (constant S_ .f32 0xC3E00000#32),
    StableHlo.nullary main_cst_40 (constant S_ .f32 0x43E00000#32),
    StableHlo.TRef.unary (StableHlo.TRef.of (T := ⟨S_, .f32⟩) main_cst_39) (StableHlo.TRef.of (T := ⟨S_, .f32⟩) main_call15_v0) id,
    StableHlo.TRef.unary (StableHlo.TRef.of (T := ⟨S_, .f32⟩) main_call15_v0) (StableHlo.TRef.of (T := ⟨S36864x3584, .f32⟩) main_call15_v1) (broadcastInDim S36864x3584 ![] bcast_S_S36864x3584),
    StableHlo.TRef.binary (StableHlo.TRef.of (T := ⟨S36864x3584, .f32⟩) main_call15_v1) (StableHlo.TRef.of (T := ⟨S36864x3584, .f32⟩) main_v184) (StableHlo.TRef.of (T := ⟨S36864x3584, .f32⟩) main_call15_v2) maximumf,
    StableHlo.TRef.unary (StableHlo.TRef.of (T := ⟨S_, .f32⟩) main_cst_40) (StableHlo.TRef.of (T := ⟨S_, .f32⟩) main_call15_v3) id,
    StableHlo.TRef.unary (StableHlo.TRef.of (T := ⟨S_, .f32⟩) main_call15_v3) (StableHlo.TRef.of (T := ⟨S36864x3584, .f32⟩) main_call15_v4) (broadcastInDim S36864x3584 ![] bcast_S_S36864x3584),
    StableHlo.TRef.binary (StableHlo.TRef.of (T := ⟨S36864x3584, .f32⟩) main_call15_v4) (StableHlo.TRef.of (T := ⟨S36864x3584, .f32⟩) main_call15_v2) (StableHlo.TRef.of (T := ⟨S36864x3584, .f32⟩) main_v185) minimumf,
    StableHlo.unary main_v185 main_v186 (Host.convertf .fp8e4m3 : (⟨S36864x3584, .f32⟩ : BufTy).Contents (Elt F) → (⟨S36864x3584, .fp8e4m3⟩ : BufTy).Contents (Elt F)) ]

/-- Together they are the program. -/
theorem ops_eq : (Cert.ReferenceIdeal.Value.ops : List (HloOp τ sig (Elt F)))
    = List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, opsF] := rfl

end Cert.ReferenceIdeal.Hand
end
-- ==== Proof.Select.lean ====
/- Rank counts and the two kept: counting, for each of four keys, how many come before it, and keeping those with fewer
than two, keeps the pair that `keepLo`, `keepHi` and `code` name. -/
module

public import proofs.«01_k».proof.Proof.Spec

@[expose] public section

set_option maxRecDepth 16384
set_option maxHeartbeats 1000000

noncomputable section

namespace Cert.Spec

open Idealize.ShloMosaic
open scoped Classical

/-- A truth value, counted. -/
def bit (b : Bool) : BitVec 32 := BitVec.setWidth 32 (BitVec.ofBool b)

/-- Fewer than two of three. -/
def few (x y z : Bool) : BitVec 1 := IntOp.cmpi .slt (IntOp.addi (IntOp.addi (IntOp.addi 0#32 (bit x)) (bit y)) (bit z)) 2#32

/-- The first kept place, by the flags. -/
def firstOf (f0 f1 f2 f3 : BitVec 1) : BitVec 32 :=
  Scalar.select f0 0#32 (Scalar.select f1 1#32 (Scalar.select f2 2#32 (Scalar.select f3 3#32 4#32)))

/-- The last kept place, by the flags. -/
def lastOf (f0 f1 f2 f3 : BitVec 1) : BitVec 32 :=
  Scalar.select f3 3#32 (Scalar.select f2 2#32 (Scalar.select f1 1#32 (Scalar.select f0 0#32 4294967295#32)))

/-- The four flags, by the six comparisons `xij`: key `i` below key `j`. -/
def flag0 (n : Fin 4 → EReal) : BitVec 1 := few (decide (n 0 < n 1)) (decide (n 0 < n 2)) (decide (n 0 < n 3))
def flag1 (n : Fin 4 → EReal) : BitVec 1 := few (decide (n 1 ≤ n 0)) (decide (n 1 < n 2)) (decide (n 1 < n 3))
def flag2 (n : Fin 4 → EReal) : BitVec 1 := few (decide (n 2 ≤ n 0)) (decide (n 2 ≤ n 1)) (decide (n 2 < n 3))
def flag3 (n : Fin 4 → EReal) : BitVec 1 := few (decide (n 3 ≤ n 0)) (decide (n 3 ≤ n 1)) (decide (n 3 ≤ n 2))

def first (n : Fin 4 → EReal) : BitVec 32 := firstOf (flag0 n) (flag1 n) (flag2 n) (flag3 n)
def last (n : Fin 4 → EReal) : BitVec 32 := lastOf (flag0 n) (flag1 n) (flag2 n) (flag3 n)

/-- No three keys in a circle: the comparisons come from an order. -/
def Ordered (x01 x02 x03 x12 x13 x23 : Bool) : Bool :=
  -- i < j < k gives i < k, and i ≥ j ≥ k gives i ≥ k
  (!(x01 && x12) || x02) && (!(x01 && x13) || x03) && (!(x02 && x23) || x03) && (!(x12 && x23) || x13)
    && (!(!x01 && !x12) || !x02) && (!(!x01 && !x13) || !x03) && (!(!x02 && !x23) || !x03) && (!(!x12 && !x23) || !x13)

theorem both01_iff (n : Fin 4 → EReal) : Both01 n ↔ (!decide (n 0 < n 2) && !decide (n 0 < n 3) && !decide (n 1 < n 2) && !decide (n 1 < n 3)) = true := by
  unfold Both01
  simp only [Bool.and_eq_true, Bool.not_eq_true', decide_eq_false_iff_not, not_lt, max_le_iff, le_min_iff]
  tauto

theorem both23_iff (n : Fin 4 → EReal) : Both23 n ↔ (decide (n 0 < n 2) && decide (n 0 < n 3) && decide (n 1 < n 2) && decide (n 1 < n 3)) = true := by
  unfold Both23
  simp only [Bool.and_eq_true, decide_eq_true_eq, max_lt_iff, lt_min_iff]
  tauto

theorem le_decide (x y : EReal) : decide (y ≤ x) = !decide (x < y) := by
  rw [← decide_not]; exact decide_eq_decide.mpr not_lt.symm

theorem le_iff_not (x y : EReal) : y ≤ x ↔ (!decide (x < y)) = true := by
  simp

theorem ordered (n : Fin 4 → EReal) : Ordered (decide (n 0 < n 1)) (decide (n 0 < n 2)) (decide (n 0 < n 3)) (decide (n 1 < n 2))
    (decide (n 1 < n 3)) (decide (n 2 < n 3)) = true := by
  have t : ∀ a b c : EReal, (!(decide (a < b) && decide (b < c)) || decide (a < c)) = true := by
    intro a b c
    by_cases h1 : a < b <;> by_cases h2 : b < c <;> simp [h1, h2]
    exact h1.trans h2
  have t' : ∀ a b c : EReal, (!(!decide (a < b) && !decide (b < c)) || !decide (a < c)) = true := by
    intro a b c
    by_cases h1 : a < b <;> by_cases h2 : b < c <;> simp [h1, h2]
    exact (not_lt.mp h2).trans (not_lt.mp h1)
  unfold Ordered
  simp only [t, t', Bool.and_true]

theorem ite_bool {α : Type} {p : Prop} {inst : Decidable p} (b : Bool) (h : p ↔ b = true) (x y : α) : (if p then x else y) = bif b then x else y := by
  cases b
  · rw [if_neg (fun hp => by simpa using h.mp hp)]; rfl
  · rw [if_pos (h.mpr rfl)]; rfl

theorem code_bool (n : Fin 4 → EReal) : code n =
    bif (!decide (n 0 < n 2) && !decide (n 0 < n 3) && !decide (n 1 < n 2) && !decide (n 1 < n 3)) then 4
    else bif (decide (n 0 < n 2) && decide (n 0 < n 3) && decide (n 1 < n 2) && decide (n 1 < n 3)) then 14
    else bif !decide (n 2 < n 3) then (bif !decide (n 0 < n 1) then 8 else 9) else bif !decide (n 0 < n 1) then 12 else 13 := by
  unfold code
  rw [ite_bool _ (both01_iff n), ite_bool _ (both23_iff n), ite_bool _ (le_iff_not (n 2) (n 3)), ite_bool _ (le_iff_not (n 0) (n 1)),
    ite_bool _ (le_iff_not (n 0) (n 1))]

theorem keepLo_bool (x n : Fin 4 → EReal) : keepLo x n =
    bif (!decide (n 0 < n 2) && !decide (n 0 < n 3) && !decide (n 1 < n 2) && !decide (n 1 < n 3)) then x 0
    else bif (decide (n 0 < n 2) && decide (n 0 < n 3) && decide (n 1 < n 2) && decide (n 1 < n 3)) then x 2
    else bif !decide (n 0 < n 1) then x 0 else x 1 := by
  unfold keepLo
  rw [ite_bool _ (both01_iff n), ite_bool _ (both23_iff n), ite_bool _ (le_iff_not (n 0) (n 1))]

theorem keepHi_bool (x n : Fin 4 → EReal) : keepHi x n =
    bif (!decide (n 0 < n 2) && !decide (n 0 < n 3) && !decide (n 1 < n 2) && !decide (n 1 < n 3)) then x 1
    else bif (decide (n 0 < n 2) && decide (n 0 < n 3) && decide (n 1 < n 2) && decide (n 1 < n 3)) then x 3
    else bif !decide (n 2 < n 3) then x 2 else x 3 := by
  unfold keepHi
  rw [ite_bool _ (both01_iff n), ite_bool _ (both23_iff n), ite_bool _ (le_iff_not (n 2) (n 3))]

theorem first_last (n : Fin 4 → EReal) :
    IntOp.ori (first n) (IntOp.shli .host (last n) 2#32) = BitVec.ofNat 32 (code n) := by
  have ho := ordered n
  unfold first last flag0 flag1 flag2 flag3
  simp only [le_decide]
  rw [code_bool]
  revert ho
  generalize decide (n 0 < n 1) = x01
  generalize decide (n 0 < n 2) = x02
  generalize decide (n 0 < n 3) = x03
  generalize decide (n 1 < n 2) = x12
  generalize decide (n 1 < n 3) = x13
  generalize decide (n 2 < n 3) = x23
  revert x01 x02 x03 x12 x13 x23
  decide +kernel

theorem first_pick (x n : Fin 4 → EReal) :
    Scalar.select (IntOp.cmpi .eq (first n) 0#32) (x 0) (Scalar.select (IntOp.cmpi .eq (first n) 1#32) (x 1)
      (Scalar.select (IntOp.cmpi .eq (first n) 2#32) (x 2) (x 3))) = keepLo x n := by
  have ho := ordered n
  unfold first flag0 flag1 flag2 flag3
  simp only [le_decide]
  rw [keepLo_bool]
  revert ho
  generalize decide (n 0 < n 1) = x01
  generalize decide (n 0 < n 2) = x02
  generalize decide (n 0 < n 3) = x03
  generalize decide (n 1 < n 2) = x12
  generalize decide (n 1 < n 3) = x13
  generalize decide (n 2 < n 3) = x23
  cases x01 <;> cases x02 <;> cases x03 <;> cases x12 <;> cases x13 <;> cases x23 <;>
    first
    | (intro h; exact absurd h (by decide))
    | (intro _; rfl)

theorem last_pick (x n : Fin 4 → EReal) :
    Scalar.select (IntOp.cmpi .eq (last n) 3#32) (x 3) (Scalar.select (IntOp.cmpi .eq (last n) 2#32) (x 2)
      (Scalar.select (IntOp.cmpi .eq (last n) 1#32) (x 1) (x 0))) = keepHi x n := by
  have ho := ordered n
  unfold last flag0 flag1 flag2 flag3
  simp only [le_decide]
  rw [keepHi_bool]
  revert ho
  generalize decide (n 0 < n 1) = x01
  generalize decide (n 0 < n 2) = x02
  generalize decide (n 0 < n 3) = x03
  generalize decide (n 1 < n 2) = x12
  generalize decide (n 1 < n 3) = x13
  generalize decide (n 2 < n 3) = x23
  cases x01 <;> cases x02 <;> cases x03 <;> cases x12 <;> cases x13 <;> cases x23 <;>
    first
    | (intro h; exact absurd h (by decide))
    | (intro _; rfl)

/-- A code placed in its word by a shift is the code times a power of sixteen. -/
theorem place_code (k : Fin 16) (j : Fin 8) :
    IntOp.shli .host (BitVec.ofNat 32 k.val) (BitVec.ofNat 32 (4 * j.val)) = BitVec.ofNat 32 (k.val * 16 ^ j.val) := by
  revert k j
  decide +kernel

theorem code_lt (n : Fin 4 → EReal) : code n < 16 := by
  unfold code
  split_ifs <;> omega

end Cert.Spec
end
-- ==== Proof.RefStages.lean ====
/- The reference's host lines read at an index, stage by stage: the keys and the flags, the two places, the kept pair, the
metadata words, and the scales. -/
module

public import proofs.«01_k».proof.Proof.RefOps
public import proofs.«01_k».proof.Proof.Select
public import Idealize.ShloMosaic.Lib.StableHlo.ReadAt
public import Idealize.ShloMosaic.Lib.Tactic

@[expose] public section

set_option maxRecDepth 16384
set_option maxHeartbeats 4000000

noncomputable section

namespace Cert.ReferenceIdeal.Hand

open Idealize.ShloMosaic Idealize.ShloMosaic.TcCoe
open Idealize.SL Idealize.SL.RA
open Cert.ReferenceIdeal.Gen Cert.Spec

open scoped Classical
variable (U : Valuation τ sig (Elt Ideal))

/-- The contents of a buffer, as extended reals or words. -/
abbrev at2 {n0 n1 : ℕ} (f : Shape.Idx ⟨2, ![n0, n1]⟩ → EReal) (a : Fin n0) (b : Fin n1) : EReal := f (ix2 a b)

theorem few_congr {p q r p' q' r' : Prop} {i1 : Decidable p} {i2 : Decidable q} {i3 : Decidable r} {j1 : Decidable p'}
    {j2 : Decidable q'} {j3 : Decidable r'} (h1 : p ↔ p') (h2 : q ↔ q') (h3 : r ↔ r') :
    IntOp.cmpi .slt (IntOp.addi (IntOp.addi (IntOp.addi (0#32) (BitVec.setWidth 32 (BitVec.ofBool (decide p))))
      (BitVec.setWidth 32 (BitVec.ofBool (decide q)))) (BitVec.setWidth 32 (BitVec.ofBool (decide r)))) 2#32
      = few (decide p') (decide q') (decide r') := by
  rw [decide_eq_decide.mpr h1, decide_eq_decide.mpr h2, decide_eq_decide.mpr h3]
  rfl

/-- The weight `q` of group `g`. -/
def cnd (R : Fin 36864) (g : Fin 1792) (q : Fin 4) : EReal :=
  U (Proc.devRef .tc main_arg0) (ix2 R (⟨g.val * 4 + q.val, by omega⟩ : Fin 7168))

/-- Its key. -/
def key (R : Fin 36864) (g : Fin 1792) (q : Fin 4) : EReal :=
  mag (cnd U R g q) * U (Proc.devRef .tc main_arg1) (ix1 (⟨g.val * 4 + q.val, by omega⟩ : Fin 7168))

theorem cand_0 (R : Fin 36864) (g : Fin 1792) : StableHlo.after hostOps0 U (Proc.devRef .tc main_v3) (ix2 R g) = cnd U R g 0 := by
  after_reads_at
  rfl

theorem cand_1 (R : Fin 36864) (g : Fin 1792) : StableHlo.after hostOps0 U (Proc.devRef .tc main_v5) (ix2 R g) = cnd U R g 1 := by
  after_reads_at
  rfl

theorem cand_2 (R : Fin 36864) (g : Fin 1792) : StableHlo.after hostOps0 U (Proc.devRef .tc main_v7) (ix2 R g) = cnd U R g 2 := by
  after_reads_at
  rfl

theorem cand_3 (R : Fin 36864) (g : Fin 1792) : StableHlo.after hostOps0 U (Proc.devRef .tc main_v9) (ix2 R g) = cnd U R g 3 := by
  after_reads_at
  rfl

theorem flag_0 (R : Fin 36864) (g : Fin 1792) : StableHlo.after hostOps0 U (Proc.devRef .tc main_v49) (ix2 R g) = flag0 (key U R g) := by
  after_reads_at
  exact few_congr Iff.rfl Iff.rfl Iff.rfl

theorem flag_1 (R : Fin 36864) (g : Fin 1792) : StableHlo.after hostOps0 U (Proc.devRef .tc main_v61) (ix2 R g) = flag1 (key U R g) := by
  after_reads_at
  exact few_congr Iff.rfl Iff.rfl Iff.rfl

theorem flag_2 (R : Fin 36864) (g : Fin 1792) : StableHlo.after hostOps0 U (Proc.devRef .tc main_v73) (ix2 R g) = flag2 (key U R g) := by
  after_reads_at
  exact few_congr Iff.rfl Iff.rfl Iff.rfl

theorem flag_3 (R : Fin 36864) (g : Fin 1792) : StableHlo.after hostOps0 U (Proc.devRef .tc main_v85) (ix2 R g) = flag3 (key U R g) := by
  after_reads_at
  exact few_congr Iff.rfl Iff.rfl Iff.rfl

/-- The host lines of the two places. -/
abbrev opsB : List (HloOp τ sig (Elt Ideal)) := List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15]

/-- The host lines of the kept pair. -/
abbrev opsC : List (HloOp τ sig (Elt Ideal)) := List.flatten [hostOps0_16, hostOps0_17, hostOps0_18, hostOps0_19, hostOps0_20, hostOps0_21, hostOps0_22, hostOps0_23]

/-- The host lines of the scales and the scaled values. -/
abbrev opsE : List (HloOp τ sig (Elt Ideal)) := List.flatten [hostOps0_25, hostOps0_26]

/-- The first kept place, the last two constants read from the memory. -/
def firstOfU (f0 f1 f2 f3 : BitVec 1) (c3 c4 : BitVec 32) : BitVec 32 :=
  Scalar.select f0 0#32 (Scalar.select f1 1#32 (Scalar.select f2 2#32 (Scalar.select f3 c3 c4)))

theorem const_7 : StableHlo.after hostOps0 U (Proc.devRef .tc main_c_7) ix0 = 3#32 := by
  after_reads_at

theorem const_8 : StableHlo.after hostOps0 U (Proc.devRef .tc main_c_8) ix0 = 4#32 := by
  after_reads_at

theorem first_place (R : Fin 36864) (g : Fin 1792) : StableHlo.after opsB U (Proc.devRef .tc main_v89) (ix2 R g)
    = firstOfU (U (Proc.devRef .tc main_v49) (ix2 R g)) (U (Proc.devRef .tc main_v61) (ix2 R g)) (U (Proc.devRef .tc main_v73) (ix2 R g)) (U (Proc.devRef .tc main_v85) (ix2 R g)) (U (Proc.devRef .tc main_c_7) ix0) (U (Proc.devRef .tc main_c_8) ix0) := by
  after_reads_at
  rfl

theorem last_place (R : Fin 36864) (g : Fin 1792) : StableHlo.after opsB U (Proc.devRef .tc main_v93) (ix2 R g)
    = lastOf (U (Proc.devRef .tc main_v49) (ix2 R g)) (U (Proc.devRef .tc main_v61) (ix2 R g)) (U (Proc.devRef .tc main_v73) (ix2 R g)) (U (Proc.devRef .tc main_v85) (ix2 R g)) := by
  after_reads_at
  rfl

theorem keepB_0 (R : Fin 36864) (g : Fin 1792) : StableHlo.after opsB U (Proc.devRef .tc main_v3) (ix2 R g) = U (Proc.devRef .tc main_v3) (ix2 R g) := by
  after_reads_at

theorem keepB_1 (R : Fin 36864) (g : Fin 1792) : StableHlo.after opsB U (Proc.devRef .tc main_v5) (ix2 R g) = U (Proc.devRef .tc main_v5) (ix2 R g) := by
  after_reads_at

theorem keepB_2 (R : Fin 36864) (g : Fin 1792) : StableHlo.after opsB U (Proc.devRef .tc main_v7) (ix2 R g) = U (Proc.devRef .tc main_v7) (ix2 R g) := by
  after_reads_at

theorem keepB_3 (R : Fin 36864) (g : Fin 1792) : StableHlo.after opsB U (Proc.devRef .tc main_v9) (ix2 R g) = U (Proc.devRef .tc main_v9) (ix2 R g) := by
  after_reads_at

theorem keepC_89 (R : Fin 36864) (g : Fin 1792) : StableHlo.after opsC U (Proc.devRef .tc main_v89) (ix2 R g) = U (Proc.devRef .tc main_v89) (ix2 R g) := by
  after_reads_at

theorem keepC_93 (R : Fin 36864) (g : Fin 1792) : StableHlo.after opsC U (Proc.devRef .tc main_v93) (ix2 R g) = U (Proc.devRef .tc main_v93) (ix2 R g) := by
  after_reads_at

theorem pick_first (R : Fin 36864) (g : Fin 1792) : StableHlo.after opsC U (Proc.devRef .tc main_v102) (ix2 R g)
    = Scalar.select (IntOp.cmpi .eq (U (Proc.devRef .tc main_v89) (ix2 R g)) 0#32) (U (Proc.devRef .tc main_v3) (ix2 R g)) (Scalar.select (IntOp.cmpi .eq (U (Proc.devRef .tc main_v89) (ix2 R g)) 1#32) (U (Proc.devRef .tc main_v5) (ix2 R g))
      (Scalar.select (IntOp.cmpi .eq (U (Proc.devRef .tc main_v89) (ix2 R g)) 2#32) (U (Proc.devRef .tc main_v7) (ix2 R g)) (U (Proc.devRef .tc main_v9) (ix2 R g)))) := by
  after_reads_at

theorem pick_last (R : Fin 36864) (g : Fin 1792) : StableHlo.after opsC U (Proc.devRef .tc main_v111) (ix2 R g)
    = Scalar.select (IntOp.cmpi .eq (U (Proc.devRef .tc main_v93) (ix2 R g)) 3#32) (U (Proc.devRef .tc main_v9) (ix2 R g)) (Scalar.select (IntOp.cmpi .eq (U (Proc.devRef .tc main_v93) (ix2 R g)) 2#32) (U (Proc.devRef .tc main_v7) (ix2 R g))
      (Scalar.select (IntOp.cmpi .eq (U (Proc.devRef .tc main_v93) (ix2 R g)) 1#32) (U (Proc.devRef .tc main_v5) (ix2 R g)) (U (Proc.devRef .tc main_v3) (ix2 R g)))) := by
  after_reads_at

end Cert.ReferenceIdeal.Hand
end
-- ==== Proof.RefStages2.lean ====
/- The reference's host lines read at an index, the later stages: the metadata words and the scales. -/
module

public import proofs.«01_k».proof.Proof.RefStages
public import Idealize.ShloMosaic.Lib.StableHlo.ReadAt
public import Idealize.ShloMosaic.Lib.Tactic

@[expose] public section

set_option maxRecDepth 16384
set_option maxHeartbeats 4000000

noncomputable section

namespace Cert.ReferenceIdeal.Hand

open Idealize.ShloMosaic Idealize.ShloMosaic.TcCoe
open Idealize.SL Idealize.SL.RA
open Cert.ReferenceIdeal.Gen Cert.Spec

open scoped Classical

section
variable {F : FTy → Type} [FloatOps F]

/-- The host lines laying the pair side by side. -/
abbrev opsD0 : List (HloOp τ sig (Elt F)) :=
  [ StableHlo.unary main_v102 main_v112 (broadcastInDim S36864x1792x1 ![0, 1] bcast_S36864x1792_S36864x1792x1_0_1 : (⟨S36864x1792, .bf16⟩ : BufTy).Contents (Elt F) → (⟨S36864x1792x1, .bf16⟩ : BufTy).Contents (Elt F)),
    StableHlo.unary main_v111 main_v113 (broadcastInDim S36864x1792x1 ![0, 1] bcast_S36864x1792_S36864x1792x1_0_1 : (⟨S36864x1792, .bf16⟩ : BufTy).Contents (Elt F) → (⟨S36864x1792x1, .bf16⟩ : BufTy).Contents (Elt F)) ]

/-- The host lines of the words and the kept magnitudes. -/
abbrev opsD1 : List (HloOp τ sig (Elt F)) :=
  [ StableHlo.binary main_v112 main_v113 main_v114 ((fun a b => concatenate S36864x1792x2 2 [⟨S36864x1792x1, a⟩, ⟨S36864x1792x1, b⟩] concatenates_S36864x1792x1_S36864x1792x1_S36864x1792x2_d2) : (⟨S36864x1792x1, .bf16⟩ : BufTy).Contents (Elt F) → (⟨S36864x1792x1, .bf16⟩ : BufTy).Contents (Elt F) → (⟨S36864x1792x2, .bf16⟩ : BufTy).Contents (Elt F)),
    StableHlo.reshape main_v114 main_v115 (rfl : (.bf16 : EltTy) = .bf16) shapeCasts_S36864x1792x2_S36864x3584,
    StableHlo.nullary main_c_23 (constantI S_ 32 2#32),
    StableHlo.unary main_c_23 main_v116 (broadcastInDim S36864x1792 ![] bcast_S_S36864x1792 : (⟨S_, .i32⟩ : BufTy).Contents (Elt F) → (⟨S36864x1792, .i32⟩ : BufTy).Contents (Elt F)),
    StableHlo.binary main_v93 main_v116 main_v117 (Host.shli : (⟨S36864x1792, .i32⟩ : BufTy).Contents (Elt F) → (⟨S36864x1792, .i32⟩ : BufTy).Contents (Elt F) → (⟨S36864x1792, .i32⟩ : BufTy).Contents (Elt F)),
    StableHlo.binary main_v89 main_v117 main_v118 (ori : (⟨S36864x1792, .i32⟩ : BufTy).Contents (Elt F) → (⟨S36864x1792, .i32⟩ : BufTy).Contents (Elt F) → (⟨S36864x1792, .i32⟩ : BufTy).Contents (Elt F)),
    StableHlo.unary main_v118 main_v119 (id : (⟨S36864x1792, .i32⟩ : BufTy).Contents (Elt F) → (⟨S36864x1792, .i32⟩ : BufTy).Contents (Elt F)),
    StableHlo.reshape main_v119 main_v120 (rfl : (.i32 : EltTy) = .i32) shapeCasts_S36864x1792_S36864x224x8,
    StableHlo.nullary main_c_24 (constantI S_ 32 0#32),
    StableHlo.unary main_c_24 main_v121 (broadcastInDim S36864x224 ![] bcast_S_S36864x224 : (⟨S_, .i32⟩ : BufTy).Contents (Elt F) → (⟨S36864x224, .i32⟩ : BufTy).Contents (Elt F)),
    StableHlo.unary main_v120 main_v122 ((extractStridedSlice S36864x224x1 ![0, 0, 0] · slices_S36864x224x8_S36864x224x1_0_0_0) : (⟨S36864x224x8, .i32⟩ : BufTy).Contents (Elt F) → (⟨S36864x224x1, .i32⟩ : BufTy).Contents (Elt F)),
    StableHlo.reshape main_v122 main_v123 (rfl : (.i32 : EltTy) = .i32) shapeCasts_S36864x224x1_S36864x224,
    StableHlo.nullary main_c_25 (constantI S_ 32 0#32),
    StableHlo.unary main_c_25 main_v124 (broadcastInDim S36864x224 ![] bcast_S_S36864x224 : (⟨S_, .i32⟩ : BufTy).Contents (Elt F) → (⟨S36864x224, .i32⟩ : BufTy).Contents (Elt F)),
    StableHlo.binary main_v123 main_v124 main_v125 (Host.shli : (⟨S36864x224, .i32⟩ : BufTy).Contents (Elt F) → (⟨S36864x224, .i32⟩ : BufTy).Contents (Elt F) → (⟨S36864x224, .i32⟩ : BufTy).Contents (Elt F)),
    StableHlo.binary main_v121 main_v125 main_v126 (ori : (⟨S36864x224, .i32⟩ : BufTy).Contents (Elt F) → (⟨S36864x224, .i32⟩ : BufTy).Contents (Elt F) → (⟨S36864x224, .i32⟩ : BufTy).Contents (Elt F)),
    StableHlo.unary main_v120 main_v127 ((extractStridedSlice S36864x224x1 ![0, 0, 1] · slices_S36864x224x8_S36864x224x1_0_0_1) : (⟨S36864x224x8, .i32⟩ : BufTy).Contents (Elt F) → (⟨S36864x224x1, .i32⟩ : BufTy).Contents (Elt F)),
    StableHlo.reshape main_v127 main_v128 (rfl : (.i32 : EltTy) = .i32) shapeCasts_S36864x224x1_S36864x224,
    StableHlo.nullary main_c_26 (constantI S_ 32 4#32),
    StableHlo.unary main_c_26 main_v129 (broadcastInDim S36864x224 ![] bcast_S_S36864x224 : (⟨S_, .i32⟩ : BufTy).Contents (Elt F) → (⟨S36864x224, .i32⟩ : BufTy).Contents (Elt F)),
    StableHlo.binary main_v128 main_v129 main_v130 (Host.shli : (⟨S36864x224, .i32⟩ : BufTy).Contents (Elt F) → (⟨S36864x224, .i32⟩ : BufTy).Contents (Elt F) → (⟨S36864x224, .i32⟩ : BufTy).Contents (Elt F)),
    StableHlo.binary main_v126 main_v130 main_v131 (ori : (⟨S36864x224, .i32⟩ : BufTy).Contents (Elt F) → (⟨S36864x224, .i32⟩ : BufTy).Contents (Elt F) → (⟨S36864x224, .i32⟩ : BufTy).Contents (Elt F)),
    StableHlo.unary main_v120 main_v132 ((extractStridedSlice S36864x224x1 ![0, 0, 2] · slices_S36864x224x8_S36864x224x1_0_0_2) : (⟨S36864x224x8, .i32⟩ : BufTy).Contents (Elt F) → (⟨S36864x224x1, .i32⟩ : BufTy).Contents (Elt F)),
    StableHlo.reshape main_v132 main_v133 (rfl : (.i32 : EltTy) = .i32) shapeCasts_S36864x224x1_S36864x224,
    StableHlo.nullary main_c_27 (constantI S_ 32 8#32),
    StableHlo.unary main_c_27 main_v134 (broadcastInDim S36864x224 ![] bcast_S_S36864x224 : (⟨S_, .i32⟩ : BufTy).Contents (Elt F) → (⟨S36864x224, .i32⟩ : BufTy).Contents (Elt F)),
    StableHlo.binary main_v133 main_v134 main_v135 (Host.shli : (⟨S36864x224, .i32⟩ : BufTy).Contents (Elt F) → (⟨S36864x224, .i32⟩ : BufTy).Contents (Elt F) → (⟨S36864x224, .i32⟩ : BufTy).Contents (Elt F)),
    StableHlo.binary main_v131 main_v135 main_v136 (ori : (⟨S36864x224, .i32⟩ : BufTy).Contents (Elt F) → (⟨S36864x224, .i32⟩ : BufTy).Contents (Elt F) → (⟨S36864x224, .i32⟩ : BufTy).Contents (Elt F)),
    StableHlo.unary main_v120 main_v137 ((extractStridedSlice S36864x224x1 ![0, 0, 3] · slices_S36864x224x8_S36864x224x1_0_0_3) : (⟨S36864x224x8, .i32⟩ : BufTy).Contents (Elt F) → (⟨S36864x224x1, .i32⟩ : BufTy).Contents (Elt F)),
    StableHlo.reshape main_v137 main_v138 (rfl : (.i32 : EltTy) = .i32) shapeCasts_S36864x224x1_S36864x224,
    StableHlo.nullary main_c_28 (constantI S_ 32 12#32),
    StableHlo.unary main_c_28 main_v139 (broadcastInDim S36864x224 ![] bcast_S_S36864x224 : (⟨S_, .i32⟩ : BufTy).Contents (Elt F) → (⟨S36864x224, .i32⟩ : BufTy).Contents (Elt F)),
    StableHlo.binary main_v138 main_v139 main_v140 (Host.shli : (⟨S36864x224, .i32⟩ : BufTy).Contents (Elt F) → (⟨S36864x224, .i32⟩ : BufTy).Contents (Elt F) → (⟨S36864x224, .i32⟩ : BufTy).Contents (Elt F)),
    StableHlo.binary main_v136 main_v140 main_v141 (ori : (⟨S36864x224, .i32⟩ : BufTy).Contents (Elt F) → (⟨S36864x224, .i32⟩ : BufTy).Contents (Elt F) → (⟨S36864x224, .i32⟩ : BufTy).Contents (Elt F)),
    StableHlo.unary main_v120 main_v142 ((extractStridedSlice S36864x224x1 ![0, 0, 4] · slices_S36864x224x8_S36864x224x1_0_0_4) : (⟨S36864x224x8, .i32⟩ : BufTy).Contents (Elt F) → (⟨S36864x224x1, .i32⟩ : BufTy).Contents (Elt F)),
    StableHlo.reshape main_v142 main_v143 (rfl : (.i32 : EltTy) = .i32) shapeCasts_S36864x224x1_S36864x224,
    StableHlo.nullary main_c_29 (constantI S_ 32 16#32),
    StableHlo.unary main_c_29 main_v144 (broadcastInDim S36864x224 ![] bcast_S_S36864x224 : (⟨S_, .i32⟩ : BufTy).Contents (Elt F) → (⟨S36864x224, .i32⟩ : BufTy).Contents (Elt F)),
    StableHlo.binary main_v143 main_v144 main_v145 (Host.shli : (⟨S36864x224, .i32⟩ : BufTy).Contents (Elt F) → (⟨S36864x224, .i32⟩ : BufTy).Contents (Elt F) → (⟨S36864x224, .i32⟩ : BufTy).Contents (Elt F)),
    StableHlo.binary main_v141 main_v145 main_v146 (ori : (⟨S36864x224, .i32⟩ : BufTy).Contents (Elt F) → (⟨S36864x224, .i32⟩ : BufTy).Contents (Elt F) → (⟨S36864x224, .i32⟩ : BufTy).Contents (Elt F)),
    StableHlo.unary main_v120 main_v147 ((extractStridedSlice S36864x224x1 ![0, 0, 5] · slices_S36864x224x8_S36864x224x1_0_0_5) : (⟨S36864x224x8, .i32⟩ : BufTy).Contents (Elt F) → (⟨S36864x224x1, .i32⟩ : BufTy).Contents (Elt F)),
    StableHlo.reshape main_v147 main_v148 (rfl : (.i32 : EltTy) = .i32) shapeCasts_S36864x224x1_S36864x224,
    StableHlo.nullary main_c_30 (constantI S_ 32 20#32),
    StableHlo.unary main_c_30 main_v149 (broadcastInDim S36864x224 ![] bcast_S_S36864x224 : (⟨S_, .i32⟩ : BufTy).Contents (Elt F) → (⟨S36864x224, .i32⟩ : BufTy).Contents (Elt F)),
    StableHlo.binary main_v148 main_v149 main_v150 (Host.shli : (⟨S36864x224, .i32⟩ : BufTy).Contents (Elt F) → (⟨S36864x224, .i32⟩ : BufTy).Contents (Elt F) → (⟨S36864x224, .i32⟩ : BufTy).Contents (Elt F)),
    StableHlo.binary main_v146 main_v150 main_v151 (ori : (⟨S36864x224, .i32⟩ : BufTy).Contents (Elt F) → (⟨S36864x224, .i32⟩ : BufTy).Contents (Elt F) → (⟨S36864x224, .i32⟩ : BufTy).Contents (Elt F)),
    StableHlo.unary main_v120 main_v152 ((extractStridedSlice S36864x224x1 ![0, 0, 6] · slices_S36864x224x8_S36864x224x1_0_0_6) : (⟨S36864x224x8, .i32⟩ : BufTy).Contents (Elt F) → (⟨S36864x224x1, .i32⟩ : BufTy).Contents (Elt F)),
    StableHlo.reshape main_v152 main_v153 (rfl : (.i32 : EltTy) = .i32) shapeCasts_S36864x224x1_S36864x224,
    StableHlo.nullary main_c_31 (constantI S_ 32 24#32),
    StableHlo.unary main_c_31 main_v154 (broadcastInDim S36864x224 ![] bcast_S_S36864x224 : (⟨S_, .i32⟩ : BufTy).Contents (Elt F) → (⟨S36864x224, .i32⟩ : BufTy).Contents (Elt F)),
    StableHlo.binary main_v153 main_v154 main_v155 (Host.shli : (⟨S36864x224, .i32⟩ : BufTy).Contents (Elt F) → (⟨S36864x224, .i32⟩ : BufTy).Contents (Elt F) → (⟨S36864x224, .i32⟩ : BufTy).Contents (Elt F)),
    StableHlo.binary main_v151 main_v155 main_v156 (ori : (⟨S36864x224, .i32⟩ : BufTy).Contents (Elt F) → (⟨S36864x224, .i32⟩ : BufTy).Contents (Elt F) → (⟨S36864x224, .i32⟩ : BufTy).Contents (Elt F)),
    StableHlo.unary main_v120 main_v157 ((extractStridedSlice S36864x224x1 ![0, 0, 7] · slices_S36864x224x8_S36864x224x1_0_0_7) : (⟨S36864x224x8, .i32⟩ : BufTy).Contents (Elt F) → (⟨S36864x224x1, .i32⟩ : BufTy).Contents (Elt F)),
    StableHlo.reshape main_v157 main_v158 (rfl : (.i32 : EltTy) = .i32) shapeCasts_S36864x224x1_S36864x224,
    StableHlo.nullary main_c_32 (constantI S_ 32 28#32),
    StableHlo.unary main_c_32 main_v159 (broadcastInDim S36864x224 ![] bcast_S_S36864x224 : (⟨S_, .i32⟩ : BufTy).Contents (Elt F) → (⟨S36864x224, .i32⟩ : BufTy).Contents (Elt F)),
    StableHlo.binary main_v158 main_v159 main_v160 (Host.shli : (⟨S36864x224, .i32⟩ : BufTy).Contents (Elt F) → (⟨S36864x224, .i32⟩ : BufTy).Contents (Elt F) → (⟨S36864x224, .i32⟩ : BufTy).Contents (Elt F)),
    StableHlo.binary main_v156 main_v160 main_v161 (ori : (⟨S36864x224, .i32⟩ : BufTy).Contents (Elt F) → (⟨S36864x224, .i32⟩ : BufTy).Contents (Elt F) → (⟨S36864x224, .i32⟩ : BufTy).Contents (Elt F)),
    StableHlo.unary main_v161 main_v162 (id : (⟨S36864x224, .i32⟩ : BufTy).Contents (Elt F) → (⟨S36864x224, .i32⟩ : BufTy).Contents (Elt F)),
    StableHlo.unary main_v115 main_v163 ((extf .f32 · bitsLt_bf16_f32) : (⟨S36864x3584, .bf16⟩ : BufTy).Contents (Elt F) → (⟨S36864x3584, .f32⟩ : BufTy).Contents (Elt F)),
    StableHlo.unary main_v163 main_v164 (Host.absf : (⟨S36864x3584, .f32⟩ : BufTy).Contents (Elt F) → (⟨S36864x3584, .f32⟩ : BufTy).Contents (Elt F)) ]

/-- The host lines of the largest kept magnitude. -/
abbrev opsD2 : List (HloOp τ sig (Elt F)) :=
  [ StableHlo.nullary main_cst (constant S_ .f32 0xFF800000#32),
    StableHlo.binary main_v164 main_cst main_v165 ((fun x v => Host.reduce FloatOps.maximumf x v reducesTo_S36864x3584_S36864_d1 h_S_) : (⟨S36864x3584, .f32⟩ : BufTy).Contents (Elt F) → (⟨S_, .f32⟩ : BufTy).Contents (Elt F) → (⟨S36864, .f32⟩ : BufTy).Contents (Elt F)),
    StableHlo.unary main_v165 main_v166 (broadcastInDim S36864x1 ![0] bcast_S36864_S36864x1_0 : (⟨S36864, .f32⟩ : BufTy).Contents (Elt F) → (⟨S36864x1, .f32⟩ : BufTy).Contents (Elt F)) ]

/-- The host lines of the exponent. -/
abbrev opsD3 : List (HloOp τ sig (Elt F)) :=
  [ StableHlo.nullary main_cst_33 (constant S_ .f32 0x3B124925#32),
    StableHlo.unary main_cst_33 main_v167 (broadcastInDim S36864x1 ![] bcast_S_S36864x1 : (⟨S_, .f32⟩ : BufTy).Contents (Elt F) → (⟨S36864x1, .f32⟩ : BufTy).Contents (Elt F)),
    StableHlo.binary main_v166 main_v167 main_v168 (mulf : (⟨S36864x1, .f32⟩ : BufTy).Contents (Elt F) → (⟨S36864x1, .f32⟩ : BufTy).Contents (Elt F) → (⟨S36864x1, .f32⟩ : BufTy).Contents (Elt F)),
    StableHlo.unary main_v168 main_v169 (Host.log : (⟨S36864x1, .f32⟩ : BufTy).Contents (Elt F) → (⟨S36864x1, .f32⟩ : BufTy).Contents (Elt F)),
    StableHlo.nullary main_cst_34 (constant S_ .f32 0x40000000#32),
    StableHlo.unary main_cst_34 main_v170 (broadcastInDim S36864x1 ![] bcast_S_S36864x1 : (⟨S_, .f32⟩ : BufTy).Contents (Elt F) → (⟨S36864x1, .f32⟩ : BufTy).Contents (Elt F)),
    StableHlo.unary main_v170 main_v171 (Host.log : (⟨S36864x1, .f32⟩ : BufTy).Contents (Elt F) → (⟨S36864x1, .f32⟩ : BufTy).Contents (Elt F)),
    StableHlo.binary main_v169 main_v171 main_v172 (Host.divf : (⟨S36864x1, .f32⟩ : BufTy).Contents (Elt F) → (⟨S36864x1, .f32⟩ : BufTy).Contents (Elt F) → (⟨S36864x1, .f32⟩ : BufTy).Contents (Elt F)),
    StableHlo.unary main_v172 main_v173 (Host.floor : (⟨S36864x1, .f32⟩ : BufTy).Contents (Elt F) → (⟨S36864x1, .f32⟩ : BufTy).Contents (Elt F)),
    StableHlo.nullary main_cst_35 (constant S_ .f32 0x3F800000#32),
    StableHlo.unary main_cst_35 main_v174 (broadcastInDim S36864x1 ![] bcast_S_S36864x1 : (⟨S_, .f32⟩ : BufTy).Contents (Elt F) → (⟨S36864x1, .f32⟩ : BufTy).Contents (Elt F)),
    StableHlo.binary main_v173 main_v174 main_v175 (addf : (⟨S36864x1, .f32⟩ : BufTy).Contents (Elt F) → (⟨S36864x1, .f32⟩ : BufTy).Contents (Elt F) → (⟨S36864x1, .f32⟩ : BufTy).Contents (Elt F)),
    StableHlo.nullary main_cst_36 (constant S_ .f32 0x00000000#32),
    StableHlo.unary main_cst_36 main_v176 (broadcastInDim S36864x1 ![] bcast_S_S36864x1 : (⟨S_, .f32⟩ : BufTy).Contents (Elt F) → (⟨S36864x1, .f32⟩ : BufTy).Contents (Elt F)),
    StableHlo.binary main_v166 main_v176 main_v177 (cmpf .oeq : (⟨S36864x1, .f32⟩ : BufTy).Contents (Elt F) → (⟨S36864x1, .f32⟩ : BufTy).Contents (Elt F) → (⟨S36864x1, .i1⟩ : BufTy).Contents (Elt F)),
    StableHlo.nullary main_cst_37 (constant S_ .f32 0x00000000#32) ]

theorem opsD_eq : (hostOps0_24 : List (HloOp τ sig (Elt F))) = opsD0 ++ (opsD1 ++ (opsD2 ++ opsD3)) := rfl

end

variable (U : Valuation τ sig (Elt Ideal))

theorem D0_lo (R : Fin 36864) (g : Fin 1792) (z : Fin 1) :
    StableHlo.after opsD0 U (Proc.devRef .tc main_v112) (ix3 R g z) = U (Proc.devRef .tc main_v102) (ix2 R g) := by
  after_reads_at

theorem D0_hi (R : Fin 36864) (g : Fin 1792) (z : Fin 1) :
    StableHlo.after opsD0 U (Proc.devRef .tc main_v113) (ix3 R g z) = U (Proc.devRef .tc main_v111) (ix2 R g) := by
  after_reads_at

theorem D0_89 (R : Fin 36864) (g : Fin 1792) :
    StableHlo.after opsD0 U (Proc.devRef .tc main_v89) (ix2 R g) = U (Proc.devRef .tc main_v89) (ix2 R g) := by
  after_reads_at

theorem D0_93 (R : Fin 36864) (g : Fin 1792) :
    StableHlo.after opsD0 U (Proc.devRef .tc main_v93) (ix2 R g) = U (Proc.devRef .tc main_v93) (ix2 R g) := by
  after_reads_at

/-- A product of extended reals. -/
abbrev emul (a b : EReal) : EReal := a * b

/-- The kept pairs, laid along a row. -/
def pairs (R : Fin 36864) (y : Fin 3584) : EReal :=
  if h : y.val % 2 < 1 then U (Proc.devRef .tc main_v112) (ix3 R (⟨y.val / 2, by omega⟩ : Fin 1792) (⟨y.val % 2, h⟩ : Fin 1))
  else U (Proc.devRef .tc main_v113) (ix3 R (⟨y.val / 2, by omega⟩ : Fin 1792) (⟨y.val % 2 - 1, by omega⟩ : Fin 1))

theorem kept_at (R : Fin 36864) (y : Fin 3584) : StableHlo.after opsD1 U (Proc.devRef .tc main_v163) (ix2 R y) = pairs U R y := by
  after_reads_at
  rfl

theorem mag_at (R : Fin 36864) (y : Fin 3584) : StableHlo.after opsD1 U (Proc.devRef .tc main_v164) (ix2 R y) = mag (pairs U R y) := by
  after_reads_at
  rfl

/-- One group's code among the words. -/
def cod (R : Fin 36864) (g : Fin 1792) : BitVec 32 :=
  IntOp.ori (U (Proc.devRef .tc main_v89) (ix2 R g)) (IntOp.shli .host (U (Proc.devRef .tc main_v93) (ix2 R g)) 2#32)

/-- A word, by its first places. -/
def wordUp (R : Fin 36864) (n : Fin 224) : ℕ → BitVec 32
  | 0 => 0#32
  | j + 1 => IntOp.ori (wordUp R n j) (IntOp.shli .host (if h : n.val * 8 + j < 1792 then cod U R ⟨n.val * 8 + j, h⟩ else 0#32) (BitVec.ofNat 32 (4 * j)))

theorem word_at (R : Fin 36864) (n : Fin 224) : StableHlo.after opsD1 U (Proc.devRef .tc main_v162) (ix2 R n) = wordUp U R n 8 := by
  after_reads_at
  simp only [id]
  pointwise
  simp only [wordUp]
  have h : ∀ j, j < 8 → n.val * 8 + j < 1792 := fun j hj => by omega
  simp only [dif_pos (h 0 (by omega)), dif_pos (h 1 (by omega)), dif_pos (h 2 (by omega)), dif_pos (h 3 (by omega)),
    dif_pos (h 4 (by omega)), dif_pos (h 5 (by omega)), dif_pos (h 6 (by omega)), dif_pos (h 7 (by omega))]
  rfl

theorem top_at (R : Fin 36864) (z : Fin 1) : StableHlo.after opsD2 U (Proc.devRef .tc main_v166) (ix2 R z)
    = Finset.fold max (Ideal.ofBits FTy.f32 0xFF800000#32) (fun y : Fin 3584 => (U (Proc.devRef .tc main_v164) (ix2 R y) : EReal)) Finset.univ := by
  after_reads_at

theorem D2_162 (R : Fin 36864) (n : Fin 224) : StableHlo.after opsD2 U (Proc.devRef .tc main_v162) (ix2 R n) = U (Proc.devRef .tc main_v162) (ix2 R n) := by
  after_reads_at

theorem D2_163 (R : Fin 36864) (n : Fin 3584) : StableHlo.after opsD2 U (Proc.devRef .tc main_v163) (ix2 R n) = U (Proc.devRef .tc main_v163) (ix2 R n) := by
  after_reads_at

theorem D3_162 (R : Fin 36864) (n : Fin 224) : StableHlo.after opsD3 U (Proc.devRef .tc main_v162) (ix2 R n) = U (Proc.devRef .tc main_v162) (ix2 R n) := by
  after_reads_at

theorem D3_163 (R : Fin 36864) (n : Fin 3584) : StableHlo.after opsD3 U (Proc.devRef .tc main_v163) (ix2 R n) = U (Proc.devRef .tc main_v163) (ix2 R n) := by
  after_reads_at

/-- The exponent, before zero rows are set aside. -/
def expo (t : EReal) : EReal :=
  Ideal.liftRound Int.floor (Ideal.div (Ideal.log (t * Ideal.ofBits FTy.f32 0x3B124925#32)) (Ideal.log (Ideal.ofBits FTy.f32 0x40000000#32))) + 1

theorem expo_at (R : Fin 36864) (z : Fin 1) : StableHlo.after opsD3 U (Proc.devRef .tc main_v175) (ix2 R z) = expo (U (Proc.devRef .tc main_v166) (ix2 R z)) := by
  after_reads_at
  rfl

theorem zero_at (R : Fin 36864) (z : Fin 1) : StableHlo.after opsD3 U (Proc.devRef .tc main_v177) (ix2 R z)
    = BitVec.ofBool (decide (@Eq EReal (U (Proc.devRef .tc main_v166) (ix2 R z)) 0)) := by
  after_reads_at

theorem const_37 : StableHlo.after opsD3 U (Proc.devRef .tc main_cst_37) ix0 = (0 : EReal) := by
  after_reads_at

theorem keepE_162 (R : Fin 36864) (n : Fin 224) : StableHlo.after opsE U (Proc.devRef .tc main_v162) (ix2 R n) = U (Proc.devRef .tc main_v162) (ix2 R n) := by
  after_reads_at

/-- The exponent of a row. -/
def expoU (R : Fin 36864) : EReal := Scalar.select (U (Proc.devRef .tc main_v177) (ix2 R (0 : Fin 1))) (U (Proc.devRef .tc main_cst_37) ix0)
  (U (Proc.devRef .tc main_v175) (ix2 R (0 : Fin 1)))

theorem scale_at (R : Fin 36864) (z : Fin 1) : StableHlo.after opsE U (Proc.devRef .tc main_v180) (ix2 R z)
    = Ideal.pow (Ideal.ofBits FTy.f32 0x40000000#32) (expoU U R) := by
  obtain rfl : z = 0 := by omega
  after_reads_at
  rfl

theorem scaled_at (R : Fin 36864) (y : Fin 3584) : StableHlo.after opsE U (Proc.devRef .tc main_v184) (ix2 R y)
    = emul (U (Proc.devRef .tc main_v163) (ix2 R y)) (Ideal.pow (Ideal.ofBits FTy.f32 0x40000000#32) (-expoU U R)) := by
  after_reads_at
  rfl

end Cert.ReferenceIdeal.Hand
end
-- ==== Proof.RefRead.lean ====
/- The reference's results before the clip, as functions of its arguments. -/
module

public import proofs.«01_k».proof.Proof.RefStages2
public import Idealize.ShloMosaic.Lib.Pipeline.Frame

@[expose] public section

set_option maxRecDepth 16384
set_option maxHeartbeats 1000000

noncomputable section

namespace Cert.ReferenceIdeal.Hand

open Idealize.ShloMosaic Idealize.ShloMosaic.TcCoe
open Idealize.SL Idealize.SL.RA
open Cert.ReferenceIdeal.Gen Cert.Spec
open scoped Classical

variable (m : (ℓ : Loc nD τ sig) → Buf (Elt Ideal) ℓ) (c : Dev nD)

/-- The row `R` of the weights, by its number. -/
def Wrow (R k : ℕ) : EReal :=
  if h : R < 36864 ∧ k < 7168 then m ((c : Thread nD τ).loc main_arg0) (ix2 ⟨R, h.1⟩ ⟨k, h.2⟩) else 0

/-- The norms, by column number. -/
def Arow (k : ℕ) : EReal :=
  if h : k < 7168 then m ((c : Thread nD τ).loc main_arg1) (ix1 ⟨k, h⟩) else 0

theorem Wrow_of (R k : ℕ) (h : R < 36864 ∧ k < 7168) :
    Wrow m c R k = m ((c : Thread nD τ).loc main_arg0) (ix2 ⟨R, h.1⟩ ⟨k, h.2⟩) := dif_pos h

theorem Arow_of (k : ℕ) (h : k < 7168) : Arow m c k = m ((c : Thread nD τ).loc main_arg1) (ix1 ⟨k, h⟩) := dif_pos h

/-- The memory at launch, and after each stage of host lines. -/
def U0 : Valuation τ sig (Elt Ideal) := fun b => m (c, b)
def UA : Valuation τ sig (Elt Ideal) := StableHlo.after hostOps0 (U0 m c)
def UB : Valuation τ sig (Elt Ideal) := StableHlo.after opsB (UA m c)
def UC : Valuation τ sig (Elt Ideal) := StableHlo.after opsC (UB m c)
def UD0 : Valuation τ sig (Elt Ideal) := StableHlo.after opsD0 (UC m c)
def UD1 : Valuation τ sig (Elt Ideal) := StableHlo.after opsD1 (UD0 m c)
def UD2 : Valuation τ sig (Elt Ideal) := StableHlo.after opsD2 (UD1 m c)
def UD3 : Valuation τ sig (Elt Ideal) := StableHlo.after opsD3 (UD2 m c)

/-- The memory before the clip. -/
def V (b : Ref sig .tc) : (Proc.devRef .tc b : DevRef τ sig).ty.Contents (Elt Ideal) :=
  StableHlo.after opsE (UD3 m c) (Proc.devRef .tc b)

theorem V_eq (b : Ref sig .tc) : V m c b = StableHlo.after opsE (UD3 m c) (Proc.devRef .tc b) := rfl

/-- The memory at the end. -/
def UF : Valuation τ sig (Elt Ideal) := StableHlo.after opsF (StableHlo.after opsE (UD3 m c))

theorem UF_eq : StableHlo.after Cert.ReferenceIdeal.Value.ops (U0 m c) = UF m c := by
  have hl : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, opsF] : List (HloOp τ sig (Elt Ideal)))
      = hostOps0 ++ (opsB ++ (opsC ++ (opsD0 ++ (opsD1 ++ (opsD2 ++ (opsD3 ++ (opsE ++ opsF))))))) := rfl
  unfold UF UD3 UD2 UD1 UD0 UC UB UA
  rw [ops_eq, hl, StableHlo.after_append, StableHlo.after_append, StableHlo.after_append, StableHlo.after_append, StableHlo.after_append, StableHlo.after_append, StableHlo.after_append, StableHlo.after_append]

variable (R : Fin 36864)

theorem cnd_eq (g : Fin 1792) : cnd (U0 m c) R g = cand (Wrow m c R.val) g.val := by
  funext q
  have h : R.val < 36864 ∧ 4 * g.val + q.val < 7168 := ⟨R.isLt, by omega⟩
  unfold cnd cand
  rw [Wrow_of m c _ _ h]
  refine congrArg (fun i : Fin 7168 => (m ((c : Thread nD τ).loc main_arg0) (ix2 R i) : EReal)) (Fin.ext ?_)
  show g.val * 4 + q.val = 4 * g.val + q.val
  omega

theorem key_eq (g : Fin 1792) : key (U0 m c) R g = keys (Wrow m c R.val) (Arow m c) g.val := by
  funext q
  have h : 4 * g.val + q.val < 7168 := by omega
  unfold key keys
  rw [congrFun (cnd_eq m c R g) q]
  unfold cand
  rw [Arow_of m c _ h]
  refine congrArg (fun i : Fin 7168 => mag (Wrow m c R.val (4 * g.val + q.val)) * (m ((c : Thread nD τ).loc main_arg1) (ix1 i) : EReal)) (Fin.ext ?_)
  show g.val * 4 + q.val = 4 * g.val + q.val
  omega

theorem UB_89 (g : Fin 1792) : UB m c (Proc.devRef .tc main_v89) (ix2 R g) = first (keys (Wrow m c R.val) (Arow m c) g.val) := by
  refine (first_place (UA m c) R g).trans ?_
  unfold UA
  rw [flag_0, flag_1, flag_2, flag_3, const_7, const_8, key_eq]
  rfl

theorem UB_93 (g : Fin 1792) : UB m c (Proc.devRef .tc main_v93) (ix2 R g) = last (keys (Wrow m c R.val) (Arow m c) g.val) := by
  refine (last_place (UA m c) R g).trans ?_
  unfold UA
  rw [flag_0, flag_1, flag_2, flag_3, key_eq]
  rfl

theorem UB_3 (g : Fin 1792) : UB m c (Proc.devRef .tc main_v3) (ix2 R g) = cand (Wrow m c R.val) g.val 0 :=
  (keepB_0 (UA m c) R g).trans ((cand_0 (U0 m c) R g).trans (congrFun (cnd_eq m c R g) 0))
theorem UB_5 (g : Fin 1792) : UB m c (Proc.devRef .tc main_v5) (ix2 R g) = cand (Wrow m c R.val) g.val 1 :=
  (keepB_1 (UA m c) R g).trans ((cand_1 (U0 m c) R g).trans (congrFun (cnd_eq m c R g) 1))
theorem UB_7 (g : Fin 1792) : UB m c (Proc.devRef .tc main_v7) (ix2 R g) = cand (Wrow m c R.val) g.val 2 :=
  (keepB_2 (UA m c) R g).trans ((cand_2 (U0 m c) R g).trans (congrFun (cnd_eq m c R g) 2))
theorem UB_9 (g : Fin 1792) : UB m c (Proc.devRef .tc main_v9) (ix2 R g) = cand (Wrow m c R.val) g.val 3 :=
  (keepB_3 (UA m c) R g).trans ((cand_3 (U0 m c) R g).trans (congrFun (cnd_eq m c R g) 3))

theorem UC_102 (g : Fin 1792) : UC m c (Proc.devRef .tc main_v102) (ix2 R g) = keepLo (cand (Wrow m c R.val) g.val) (keys (Wrow m c R.val) (Arow m c) g.val) := by
  refine (pick_first (UB m c) R g).trans ?_
  rw [UB_89, UB_3, UB_5, UB_7, UB_9]
  exact first_pick _ _

theorem UC_111 (g : Fin 1792) : UC m c (Proc.devRef .tc main_v111) (ix2 R g) = keepHi (cand (Wrow m c R.val) g.val) (keys (Wrow m c R.val) (Arow m c) g.val) := by
  refine (pick_last (UB m c) R g).trans ?_
  rw [UB_93, UB_3, UB_5, UB_7, UB_9]
  exact last_pick _ _

theorem UD0_pairs (y : Fin 3584) : pairs (UD0 m c) R y = kept (Wrow m c R.val) (Arow m c) y.val := by
  unfold pairs kept pick
  by_cases h : y.val % 2 < 1
  · rw [dif_pos h, if_pos (by omega)]
    exact (D0_lo (UC m c) R _ _).trans (UC_102 m c R _)
  · rw [dif_neg h, if_neg (by omega)]
    exact (D0_hi (UC m c) R _ _).trans (UC_111 m c R _)

theorem UD0_cod (g : Fin 1792) : cod (UD0 m c) R g = BitVec.ofNat 32 (code (keys (Wrow m c R.val) (Arow m c) g.val)) := by
  unfold cod
  have h1 : UD0 m c (Proc.devRef .tc main_v89) (ix2 R g) = first (keys (Wrow m c R.val) (Arow m c) g.val) :=
    (D0_89 (UC m c) R g).trans ((keepC_89 (UB m c) R g).trans (UB_89 m c R g))
  have h2 : UD0 m c (Proc.devRef .tc main_v93) (ix2 R g) = last (keys (Wrow m c R.val) (Arow m c) g.val) :=
    (D0_93 (UC m c) R g).trans ((keepC_93 (UB m c) R g).trans (UB_93 m c R g))
  rw [h1, h2]
  exact first_last _

theorem UD0_word (n : Fin 224) (j : ℕ) (hj : j ≤ 8) : wordUp (UD0 m c) R n j = wordTo (Wrow m c R.val) (Arow m c) n.val j := by
  induction j with
  | zero => rfl
  | succ j ih =>
    have h : n.val * 8 + j < 1792 := by omega
    have e : n.val * 8 + j = 8 * n.val + j := by omega
    unfold wordUp wordTo
    rw [ih (by omega), dif_pos h, UD0_cod]
    dsimp only
    rw [e]
    exact congrArg (fun x => wordTo (Wrow m c R.val) (Arow m c) n.val j ||| x) (place_code ⟨_, code_lt _⟩ ⟨j, by omega⟩)

theorem UD1_162 (n : Fin 224) : UD1 m c (Proc.devRef .tc main_v162) (ix2 R n) = word (Wrow m c R.val) (Arow m c) n.val :=
  (word_at (UD0 m c) R n).trans (UD0_word m c R n 8 le_rfl)

theorem UD1_163 (y : Fin 3584) : UD1 m c (Proc.devRef .tc main_v163) (ix2 R y) = kept (Wrow m c R.val) (Arow m c) y.val :=
  (kept_at (UD0 m c) R y).trans (UD0_pairs m c R y)

theorem UD1_164 (y : Fin 3584) : UD1 m c (Proc.devRef .tc main_v164) (ix2 R y) = mag (kept (Wrow m c R.val) (Arow m c) y.val) :=
  (mag_at (UD0 m c) R y).trans (congrArg mag (UD0_pairs m c R y))

theorem bot_bits : Ideal.ofBits FTy.f32 0xFF800000#32 = ⊥ := by
  simp [Ideal.ofBits, Ideal.ieee, -EReal.coe_mul]

theorem UD2_166 (z : Fin 1) : UD2 m c (Proc.devRef .tc main_v166) (ix2 R z) = amax (Wrow m c R.val) (Arow m c) := by
  refine (top_at (UD1 m c) R z).trans ?_
  rw [bot_bits]
  unfold amax
  rw [← Finset.sup_univ_eq_iSup]
  unfold Finset.sup
  exact Finset.fold_congr fun y _ => UD1_164 m c R y

/-- The exponent of a row, from its largest kept magnitude. -/
def rexp (t : EReal) : EReal := if t = 0 then 0 else expo t

theorem UD3_expo : expoU (UD3 m c) R = rexp (amax (Wrow m c R.val) (Arow m c)) := by
  unfold expoU
  have h1 := (zero_at (UD2 m c) R 0).trans (by rw [UD2_166 m c R 0])
  have h2 : UD3 m c (Proc.devRef .tc main_cst_37) ix0 = (0 : EReal) := const_37 (UD2 m c)
  have h3 : UD3 m c (Proc.devRef .tc main_v175) (ix2 R (0 : Fin 1)) = expo (amax (Wrow m c R.val) (Arow m c)) :=
    (expo_at (UD2 m c) R 0).trans (congrArg expo (UD2_166 m c R 0))
  rw [h2, h3]
  refine (congrArg (fun b => Scalar.select b (0 : EReal) (expo (amax (Wrow m c R.val) (Arow m c)))) h1).trans ?_
  unfold rexp
  by_cases h : amax (Wrow m c R.val) (Arow m c) = 0
  · rw [if_pos h]; simp [h, Scalar.select]
  · rw [if_neg h]; simp [h, Scalar.select]

/-- The metadata. -/
theorem V_162 (n : Fin 224) : V m c main_v162 (ix2 R n) = word (Wrow m c R.val) (Arow m c) n.val := by
  rw [V_eq]
  exact (keepE_162 (UD3 m c) R n).trans ((D3_162 (UD2 m c) R n).trans ((D2_162 (UD1 m c) R n).trans (UD1_162 m c R n)))

/-- The scale. -/
theorem V_180 (z : Fin 1) : V m c main_v180 (ix2 R z)
    = Ideal.pow (Ideal.ofBits FTy.f32 0x40000000#32) (rexp (amax (Wrow m c R.val) (Arow m c))) := by
  rw [V_eq]
  exact (scale_at (UD3 m c) R z).trans (by rw [UD3_expo])

/-- The scaled values, before the clip. -/
theorem V_184 (y : Fin 3584) : V m c main_v184 (ix2 R y)
    = emul (kept (Wrow m c R.val) (Arow m c) y.val)
      (Ideal.pow (Ideal.ofBits FTy.f32 0x40000000#32) (-rexp (amax (Wrow m c R.val) (Arow m c)))) := by
  rw [V_eq]
  refine (scaled_at (UD3 m c) R y).trans ?_
  rw [UD3_expo]
  exact congrArg (fun x => emul x _) ((D3_163 (UD2 m c) R y).trans ((D2_163 (UD1 m c) R y).trans (UD1_163 m c R y)))

end Cert.ReferenceIdeal.Hand
end
-- ==== Proof.RefResults.lean ====
/- The reference's three results as functions of its arguments. -/
module

public import proofs.«01_k».proof.Proof.RefRead
public import proofs.«01_k».proof.Proof.Gen.ReferenceIdeal.Run
public import Idealize.ShloMosaic.Lib.Quiescent

@[expose] public section

set_option maxRecDepth 16384
set_option maxHeartbeats 1000000

noncomputable section

namespace Cert.ReferenceIdeal.Hand

open Idealize.ShloMosaic Idealize.ShloMosaic.TcCoe
open Idealize.SL Idealize.SL.RA
open Cert.ReferenceIdeal.Gen Cert.Spec

variable (m : (ℓ : Loc nD τ sig) → Buf (Elt Ideal) ℓ) (ρ : Dev nD → PrngReg)

/-- Two to the exponent of a row's largest kept magnitude, or to its opposite. -/
def two (e : EReal) : EReal := Ideal.pow (Ideal.ofBits FTy.f32 0x40000000#32) e

/-- The clip to the range of the format. -/
def clipR (v : EReal) : EReal := min (Ideal.ofBits .f32 0x43E00000#32) (max (Ideal.ofBits .f32 0xC3E00000#32) v)

/-- The values. -/
def RV (c : Dev nD) (y : S36864x3584.Idx) : EReal :=
  clipR (kept (Wrow m c (y 0).val) (Arow m c) (y 1).val * two (-rexp (amax (Wrow m c (y 0).val) (Arow m c))))

/-- The metadata. -/
def RM (c : Dev nD) (y : S36864x224.Idx) : BitVec 32 := word (Wrow m c (y 0).val) (Arow m c) (y 1).val

/-- The scales. -/
def RS (c : Dev nD) (y : S36864x1.Idx) : EReal := two (rexp (amax (Wrow m c (y 0).val) (Arow m c)))

variable (U : Valuation τ sig (Elt Ideal))

theorem clip_at (R : Fin 36864) (z : Fin 3584) :
    StableHlo.after opsF U (Proc.devRef .tc main_v186) (ix2 R z) = clipR (U (Proc.devRef .tc main_v184) (ix2 R z)) := by
  after_reads_at
  rfl

theorem keepF_162 (R : Fin 36864) (z : Fin 224) :
    StableHlo.after opsF U (Proc.devRef .tc main_v162) (ix2 R z) = U (Proc.devRef .tc main_v162) (ix2 R z) := by
  after_reads_at

theorem keepF_180 (R : Fin 36864) (z : Fin 1) :
    StableHlo.after opsF U (Proc.devRef .tc main_v180) (ix2 R z) = U (Proc.devRef .tc main_v180) (ix2 R z) := by
  after_reads_at

theorem UF_186 (c : Dev nD) : UF m c (Proc.devRef .tc main_v186) = RV m c := by
  funext i
  obtain ⟨R, z, rfl⟩ : ∃ (R : Fin 36864) (z : Fin 3584), i = ix2 R z := ⟨i 0, i 1, by ext k; fin_cases k <;> rfl⟩
  exact (clip_at _ R z).trans (congrArg clipR (V_184 m c R z))

theorem UF_162 (c : Dev nD) : UF m c (Proc.devRef .tc main_v162) = RM m c := by
  funext i
  obtain ⟨R, z, rfl⟩ : ∃ (R : Fin 36864) (z : Fin 224), i = ix2 R z := ⟨i 0, i 1, by ext k; fin_cases k <;> rfl⟩
  exact (keepF_162 _ R z).trans (V_162 m c R z)

theorem UF_180 (c : Dev nD) : UF m c (Proc.devRef .tc main_v180) = RS m c := by
  funext i
  obtain ⟨R, z, rfl⟩ : ∃ (R : Fin 36864) (z : Fin 1), i = ix2 R z := ⟨i 0, i 1, by ext k; fin_cases k <;> rfl⟩
  exact (keepF_180 _ R z).trans (V_180 m c R z)

/-- The run ends with every buffer at the last stage's memory. -/
theorem run_all : θ_run defs (onTc (τ := τ) (main (F := Ideal))) ⟨m, fun _ => 0, ρ⟩ (fun r => ∀ c : Dev nD, ∀ b : Ref sig .tc,
      r.2.mem ((c.tc : Thread nD τ).loc b) = StableHlo.after Cert.ReferenceIdeal.Value.ops (U0 m c) (Proc.devRef .tc b)) :=
  StableHlo.run_seq Cert.ReferenceIdeal.Value.scopedRefs_eq Cert.ReferenceIdeal.Value.scopedSems_eq defs main
    (fun _ => Cert.ReferenceIdeal.Value.ops) Cert.ReferenceIdeal.Value.main_eq (fun _ => Cert.ReferenceIdeal.Value.ops_sub) m ρ
    fun _ => Cert.ReferenceIdeal.Value.ops_fresh

/-- The run and its results. -/
theorem results : θ_run defs (onTc (τ := τ) (main (F := Ideal))) ⟨m, fun _ => 0, ρ⟩ (fun r => ∀ c : Dev nD,
      r.2.mem ((c.tc : Thread nD τ).loc main_v186) = RV m c
      ∧ r.2.mem ((c.tc : Thread nD τ).loc main_v162) = RM m c
      ∧ r.2.mem ((c.tc : Thread nD τ).loc main_v180) = RS m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_, ?_, ?_⟩) (run_all m ρ)
  · exact (h c main_v186).trans ((congrFun (UF_eq m c) _).trans (UF_186 m c))
  · exact (h c main_v162).trans ((congrFun (UF_eq m c) _).trans (UF_162 m c))
  · exact (h c main_v180).trans ((congrFun (UF_eq m c) _).trans (UF_180 m c))
  · exact (h c main_arg0).trans ((congrFun (Cert.ReferenceIdeal.Value.after_ops (U0 m c)) _).trans (Cert.ReferenceIdeal.Value.val4_main_arg0 (U0 m c)))
  · exact (h c main_arg1).trans ((congrFun (Cert.ReferenceIdeal.Value.after_ops (U0 m c)) _).trans (Cert.ReferenceIdeal.Value.val4_main_arg1 (U0 m c)))

/-- The run leaves the arguments as they were, and every counter at zero: the program has none. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2, sem_eq_zero_of_no_sems rfl r.2⟩) (results m ρ)

end Cert.ReferenceIdeal.Hand
end
-- ==== Proof.ScaleEq.lean ====
/- The scale: the binary search for the biased exponent of a number gives the same power of two as
the floor of its logarithm. -/
module

public import proofs.«01_k».proof.Proof.Scale
public import proofs.«01_k».proof.Proof.RefRead

@[expose] public section

set_option maxRecDepth 16384
set_option maxHeartbeats 1000000

noncomputable section

namespace Cert.ScaleEq

open Idealize.ShloMosaic
open Cert.KernelIdeal.Hand (stepB search3 search4 searchRest kexp expOf kE kscaleOf kinvOf c448)
open Cert.ReferenceIdeal.Hand (rexp expo)

/-- The 32-bit float whose exponent field is a number and whose other bits are zero. -/
def field (k : ℕ) : EReal := Ideal.ofBits .f32 (IntOp.shli .vector (BitVec.ofNat 32 k) 23#32)

theorem field_bits : ∀ k : Fin 256,
    ((IntOp.shli .vector (BitVec.ofNat 32 k.val) 23#32).extractLsb' (8 + 23) 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

theorem field_zero : field 0 = 0 := by
  have h := field_bits 0
  unfold field
  simp only [Ideal.ofBits, Ideal.ieee]
  have e : ((0 : Fin 256).val) = 0 := rfl
  rw [e] at h
  rw [h.1, h.2.1, h.2.2]
  simp

theorem field_top : field 255 = ⊤ := by
  have h := field_bits 255
  unfold field
  simp only [Ideal.ofBits, Ideal.ieee]
  have e : ((255 : Fin 256).val) = 255 := rfl
  rw [e] at h
  rw [h.1, h.2.1, h.2.2]
  simp

theorem field_pow (k : ℕ) (h0 : 0 < k) (h1 : k < 255) : field k = ((2 : ℝ) ^ ((k : ℤ) - 127) : ℝ) := by
  have h := field_bits ⟨k, by omega⟩
  dsimp only at h
  unfold field
  simp only [Ideal.ofBits, Ideal.ieee]
  rw [h.1, h.2.1, h.2.2]
  rw [if_neg (by omega), if_neg (by omega)]
  refine congrArg (fun x : ℝ => (x : EReal)) ?_
  have e : (k : ℤ) - 127 = 23 + ((k : ℤ) - (2 ^ (8 - 1) - 1) - (23 : ℕ)) := by norm_num
  rw [e, zpow_add₀ (by norm_num : (2 : ℝ) ≠ 0)]
  norm_num

/-- A number's biased exponent: zero, or the binade it lies in. -/
def Lies (y : EReal) (N : ℕ) : Prop :=
  (y = 0 ∧ N = 0) ∨ ∃ r : ℝ, y = r ∧ 1 ≤ N ∧ N ≤ 246 ∧ (2 : ℝ) ^ ((N : ℤ) - 127) ≤ r ∧ r < (2 : ℝ) ^ ((N : ℤ) - 126)

theorem Lies.le {y : EReal} {N : ℕ} (h : Lies y N) : N ≤ 246 := by
  rcases h with ⟨_, h⟩ | ⟨r, _, _, h, _⟩ <;> omega

theorem field_le {y : EReal} {N : ℕ} (h : Lies y N) (k : ℕ) (hk : k ≤ 255) : field k ≤ y ↔ k ≤ N := by
  rcases h with ⟨rfl, rfl⟩ | ⟨r, rfl, h1, h2, h3, h4⟩
  · rcases Nat.eq_zero_or_pos k with rfl | hp
    · simp [field_zero]
    · refine ⟨fun h => absurd h ?_, fun h => by omega⟩
      rcases Nat.lt_or_ge k 255 with hk' | hk'
      · rw [field_pow k hp hk', not_le]
        exact EReal.coe_pos.2 (by positivity)
      · obtain rfl : k = 255 := by omega
        rw [field_top]; simp
  · have hr : 0 < r := lt_of_lt_of_le (by positivity) h3
    rcases Nat.eq_zero_or_pos k with rfl | hp
    · rw [field_zero]
      exact ⟨fun _ => Nat.zero_le _, fun _ => EReal.coe_nonneg.2 hr.le⟩
    rcases Nat.lt_or_ge k 255 with hk' | hk'
    · rw [field_pow k hp hk', EReal.coe_le_coe_iff]
      constructor
      · intro h
        have := lt_of_le_of_lt h h4
        have := (zpow_lt_zpow_iff_right₀ (by norm_num : (1 : ℝ) < 2)).1 this
        omega
      · intro h
        exact le_trans (zpow_le_zpow_right₀ (by norm_num : (1 : ℝ) ≤ 2) (by omega)) h3
    · obtain rfl : k = 255 := by omega
      rw [field_top]
      refine ⟨fun h => ?_, fun h => by omega⟩
      exact absurd (top_le_iff.1 h) (EReal.coe_ne_top r)

/-- The search's step on numbers. -/
def up (N b k : ℕ) : ℕ := if k + b ≤ N then k + b else k

theorem up_le {N b k : ℕ} (h : k ≤ N) : up N b k ≤ N := by unfold up; split <;> omega

theorem stepB_up {y : EReal} {N : ℕ} (h : Lies y N) (b k : ℕ) (hk : k + b ≤ 255) :
    stepB (BitVec.ofNat 32 b) y (BitVec.ofNat 32 k) = BitVec.ofNat 32 (up N b k) := by
  have e : IntOp.addi (BitVec.ofNat 32 k) (BitVec.ofNat 32 b) = BitVec.ofNat 32 (k + b) := by
    unfold IntOp.addi; rw [BitVec.ofNat_add]
  have hf := field_le h (k + b) hk
  unfold field at hf
  unfold stepB up
  rw [e]
  by_cases hN : k + b ≤ N
  · rw [if_pos hN, if_pos (hf.2 hN)]
  · rw [if_neg hN, if_neg (fun h => hN (hf.1 h))]

/-- The whole search on numbers. -/
def ups (N : ℕ) : ℕ := up N 1 (up N 2 (up N 4 (up N 8 (up N 16 (up N 32 (up N 64 (up N 128 0)))))))

theorem ups_eq : ∀ N : Fin 247, ups N.val = N.val := by decide +kernel

theorem kexp_eq {y : EReal} {N : ℕ} (h : Lies y N) : kexp y = BitVec.ofNat 32 N := by
  have hN := h.le
  have b1 : up N 128 0 ≤ 128 := by unfold up; split <;> omega
  have b2 : up N 64 (up N 128 0) ≤ 128 + 64 := by generalize up N 128 0 = x at *; unfold up; split <;> omega
  have b3 : up N 32 (up N 64 (up N 128 0)) ≤ 128 + 64 + 32 := by
    generalize up N 64 (up N 128 0) = x at *; unfold up; split <;> omega
  have b4 : up N 16 (up N 32 (up N 64 (up N 128 0))) ≤ 128 + 64 + 32 + 16 := by
    generalize up N 32 (up N 64 (up N 128 0)) = x at *; unfold up; split <;> omega
  have b5 : up N 8 (up N 16 (up N 32 (up N 64 (up N 128 0)))) ≤ 128 + 64 + 32 + 16 + 8 := by
    generalize up N 16 (up N 32 (up N 64 (up N 128 0))) = x at *; unfold up; split <;> omega
  have b6 : up N 4 (up N 8 (up N 16 (up N 32 (up N 64 (up N 128 0))))) ≤ 128 + 64 + 32 + 16 + 8 + 4 := by
    generalize up N 8 (up N 16 (up N 32 (up N 64 (up N 128 0)))) = x at *; unfold up; split <;> omega
  have b7 : up N 2 (up N 4 (up N 8 (up N 16 (up N 32 (up N 64 (up N 128 0)))))) ≤ 128 + 64 + 32 + 16 + 8 + 4 + 2 := by
    generalize up N 4 (up N 8 (up N 16 (up N 32 (up N 64 (up N 128 0))))) = x at *; unfold up; split <;> omega
  unfold kexp searchRest search4 search3
  rw [stepB_up h 128 0 (by omega), stepB_up h 64 _ (by omega), stepB_up h 32 _ (by omega), stepB_up h 16 _ (by omega),
    stepB_up h 8 _ (by omega), stepB_up h 4 _ (by omega), stepB_up h 2 _ (by omega), stepB_up h 1 _ (by omega)]
  exact congrArg (BitVec.ofNat 32) (ups_eq ⟨N, by omega⟩)

theorem scale_bits : ∀ N : Fin 247,
    IntOp.addi (expOf (BitVec.ofNat 32 N.val)) 127#32 = BitVec.ofNat 32 (if N.val = 0 then 127 else N.val + 1)
    ∧ IntOp.subi 127#32 (expOf (BitVec.ofNat 32 N.val)) = BitVec.ofNat 32 (if N.val = 0 then 127 else 253 - N.val) := by
  decide +kernel

/-- The exponent of the scale of a biased exponent. -/
def expN (N : ℕ) : ℤ := if N = 0 then 0 else (N : ℤ) - 126

theorem kscale_eq {y : EReal} {N : ℕ} (h : Lies y N) : kscaleOf (kE y) = ((2 : ℝ) ^ expN N : ℝ) := by
  have hN := h.le
  have hb := (scale_bits ⟨N, by omega⟩).1
  dsimp only at hb
  unfold kscaleOf kE
  rw [kexp_eq h, hb]
  show field _ = _
  unfold expN
  by_cases h0 : N = 0
  · rw [if_pos h0, if_pos h0, field_pow 127 (by omega) (by omega)]; norm_num
  · rw [if_neg h0, if_neg h0, field_pow _ (by omega) (by omega)]
    refine congrArg (fun e : ℤ => (((2 : ℝ) ^ e : ℝ) : EReal)) ?_
    push_cast; ring

theorem kinv_eq {y : EReal} {N : ℕ} (h : Lies y N) : kinvOf (kE y) = ((2 : ℝ) ^ (-expN N) : ℝ) := by
  have hN := h.le
  have hb := (scale_bits ⟨N, by omega⟩).2
  dsimp only at hb
  unfold kinvOf kE
  rw [kexp_eq h, hb]
  show field _ = _
  unfold expN
  by_cases h0 : N = 0
  · rw [if_pos h0, if_pos h0, field_pow 127 (by omega) (by omega)]; norm_num
  · rw [if_neg h0, if_neg h0, field_pow _ (by omega) (by omega)]
    refine congrArg (fun e : ℤ => (((2 : ℝ) ^ e : ℝ) : EReal)) ?_
    omega

theorem c448_val : c448 = ((9586981 * (2 : ℝ) ^ (-32 : ℤ) : ℝ) : EReal) := by
  unfold c448
  simp [Ideal.ofBits, Ideal.ieee, -EReal.coe_mul]

theorem two_val : Ideal.ofBits FTy.f32 0x40000000#32 = ((2 : ℝ) : EReal) := by
  simp [Ideal.ofBits, Ideal.ieee, -EReal.coe_mul]
  norm_num

theorem lo_val : Ideal.ofBits FTy.bf16 0x04E0#16 = ((7 * (2 : ℝ) ^ (-120 : ℤ) : ℝ) : EReal) := by
  simp [Ideal.ofBits, Ideal.ieee, -EReal.coe_mul]
  norm_num

theorem hi_val : Ideal.ofBits FTy.bf16 0x7F7F#16 = ((255 * (2 : ℝ) ^ (120 : ℤ) : ℝ) : EReal) := by
  simp [Ideal.ofBits, Ideal.ieee, -EReal.coe_mul]

/-- A magnitude the precondition admits. -/
def Normal (t : EReal) : Prop := t = 0 ∨ (Ideal.ofBits FTy.bf16 0x04E0#16 ≤ t ∧ t ≤ Ideal.ofBits FTy.bf16 0x7F7F#16)

theorem rexp_eq {t : EReal} (h : Normal t) : ∃ N, Lies (t * c448) N ∧ rexp t = ((expN N : ℝ) : EReal) := by
  rcases h with rfl | ⟨h1, h2⟩
  · exact ⟨0, Or.inl ⟨by simp, rfl⟩, by simp [rexp, expN]⟩
  rw [lo_val] at h1
  rw [hi_val] at h2
  have ht : t ≠ ⊤ := fun h => by rw [h, top_le_iff] at h2; exact EReal.coe_ne_top _ h2
  have hb : t ≠ ⊥ := fun h => by rw [h, le_bot_iff] at h1; exact EReal.coe_ne_bot _ h1
  lift t to ℝ using ⟨ht, hb⟩
  rw [EReal.coe_le_coe_iff] at h1 h2
  have hy : (t : EReal) * c448 = ((t * (9586981 * (2 : ℝ) ^ (-32 : ℤ)) : ℝ) : EReal) := by
    rw [c448_val, ← EReal.coe_mul]
  have ht0 : 0 < t := lt_of_lt_of_le (by positivity) h1
  set r : ℝ := t * (9586981 * (2 : ℝ) ^ (-32 : ℤ)) with hr
  have hr0 : 0 < r := by positivity
  have hl : (2 : ℝ) ^ (-126 : ℤ) ≤ r := by
    refine le_trans ?_ (mul_le_mul_of_nonneg_right h1 (by positivity))
    norm_num
  have hu : r < (2 : ℝ) ^ (120 : ℤ) := by
    refine lt_of_le_of_lt (mul_le_mul_of_nonneg_right h2 (by positivity)) ?_
    norm_num
  have lp : 0 < Real.log 2 := Real.log_pos (by norm_num)
  set E : ℤ := ⌊Real.log r / Real.log 2⌋ with hE
  have g1 : (2 : ℝ) ^ E ≤ r := by
    rw [← Real.log_le_log_iff (by positivity) hr0, Real.log_zpow, ← le_div_iff₀ lp]
    exact Int.floor_le _
  have g2 : r < (2 : ℝ) ^ (E + 1) := by
    rw [← Real.log_lt_log_iff hr0 (by positivity), Real.log_zpow, ← div_lt_iff₀ lp]
    push_cast
    exact Int.lt_floor_add_one _
  have k1 : -126 ≤ E := by
    have := (zpow_lt_zpow_iff_right₀ (by norm_num : (1 : ℝ) < 2)).1 (lt_of_le_of_lt hl g2)
    omega
  have k2 : E < 120 := (zpow_lt_zpow_iff_right₀ (by norm_num : (1 : ℝ) < 2)).1 (lt_of_le_of_lt g1 hu)
  refine ⟨(E + 127).toNat, Or.inr ⟨r, hy, by omega, by omega, ?_, ?_⟩, ?_⟩
  · have : (((E + 127).toNat : ℤ)) - 127 = E := by omega
    rw [this]; exact g1
  · have : (((E + 127).toNat : ℤ)) - 126 = E + 1 := by omega
    rw [this]; exact g2
  · have e0 : ((t : ℝ) : EReal) ≠ 0 := by exact_mod_cast ht0.ne'
    have hN : expN (E + 127).toNat = E + 1 := by
      unfold expN; rw [if_neg (by omega)]; omega
    rw [hN]
    unfold rexp
    rw [if_neg e0]
    unfold expo
    have hc : ((t : ℝ) : EReal) * Ideal.ofBits FTy.f32 0x3B124925#32 = ((r : ℝ) : EReal) := hy
    rw [hc, two_val]
    have l1 : Ideal.log ((r : ℝ) : EReal) = ((Real.log r : ℝ) : EReal) := by
      show (if r ≤ 0 then (⊥ : EReal) else _) = _
      rw [if_neg (not_le.2 hr0)]
    have l2 : Ideal.log ((2 : ℝ) : EReal) = ((Real.log 2 : ℝ) : EReal) := by
      show (if (2 : ℝ) ≤ 0 then (⊥ : EReal) else _) = _
      rw [if_neg (by norm_num)]
    have l20 : Real.log 2 ≠ 0 := (Real.log_pos (by norm_num)).ne'
    have hd : Ideal.div ((Real.log r : ℝ) : EReal) ((Real.log 2 : ℝ) : EReal) = ((Real.log r / Real.log 2 : ℝ) : EReal) := by
      unfold Ideal.div
      rw [if_neg (by exact_mod_cast l20), ← EReal.coe_inv, ← EReal.coe_mul]
      rfl
    rw [l1, l2, hd]
    show (((⌊Real.log r / Real.log 2⌋ : ℤ) : ℝ) : EReal) + 1 = _
    rw [← hE]
    push_cast
    rfl

theorem pow_two (e : ℤ) : Ideal.pow (Ideal.ofBits FTy.f32 0x40000000#32) ((e : ℝ) : EReal) = (((2 : ℝ) ^ e : ℝ) : EReal) := by
  rw [two_val]
  show ((Real.rpow 2 (e : ℝ) : ℝ) : EReal) = _
  exact congrArg (fun x : ℝ => (x : EReal)) (Real.rpow_intCast 2 e)

/-- The two scales agree. -/
theorem scale_eq {t : EReal} (h : Normal t) :
    kscaleOf (kE (t * c448)) = Ideal.pow (Ideal.ofBits FTy.f32 0x40000000#32) (rexp t) := by
  obtain ⟨N, hN, he⟩ := rexp_eq h
  rw [he, pow_two, kscale_eq hN]

/-- The two inverse scales agree. -/
theorem inv_eq {t : EReal} (h : Normal t) :
    kinvOf (kE (t * c448)) = Ideal.pow (Ideal.ofBits FTy.f32 0x40000000#32) (-rexp t) := by
  obtain ⟨N, hN, he⟩ := rexp_eq h
  have : -((expN N : ℝ) : EReal) = (((-expN N : ℤ) : ℝ) : EReal) := by push_cast; rfl
  rw [he, this, pow_two, kinv_eq hN]

end Cert.ScaleEq
end
-- ==== Proof.Normal.lean ====
/- The precondition, read at an element of the weights, and at the largest kept magnitude of a row. -/
module

public import proofs.«01_k».proof.Proof.ScaleEq
public import proofs.«01_k».proof.Proof.HostPrefix
public import proofs.«01_k».proof.Proof.Gen.Pre_weights_normal
public import Idealize.ShloMosaic.Lib.ReduceAll
public import proofs.«01_k».proof.Defs

@[expose] public section

set_option maxRecDepth 16384
set_option maxHeartbeats 1000000

noncomputable section

namespace Cert.ScaleEq

open Idealize.ShloMosaic Idealize.ShloMosaic.TcCoe
open Cert.KernelIdeal.Hand Cert.Spec
open scoped Classical

/-- One element's test. -/
theorem test_normal (w : EReal)
    (h : IntOp.ori (Ideal.cmp .oeq (mag w) (Ideal.ofBits .bf16 0x0000#16))
      (IntOp.andi (Ideal.cmp .oge (mag w) (Ideal.ofBits .bf16 0x04E0#16)) (Ideal.cmp .ole (mag w) (Ideal.ofBits .bf16 0x7F7F#16))) = 1#1) :
    Normal (mag w) := by
  have z : Ideal.ofBits FTy.bf16 0x0000#16 = 0 := by simp [Ideal.ofBits, Ideal.ieee]
  rw [z] at h
  unfold Normal
  by_cases h0 : mag w = 0
  · exact Or.inl h0
  · right
    by_cases h1 : Ideal.ofBits FTy.bf16 0x04E0#16 ≤ mag w <;> by_cases h2 : mag w ≤ Ideal.ofBits FTy.bf16 0x7F7F#16
    · exact ⟨h1, h2⟩
    all_goals simp [Ideal.cmp, h0, h1, h2, IntOp.ori, IntOp.andi] at h

theorem pre_normal (m : (ℓ : Loc Cert.KernelIdeal.nD Cert.KernelIdeal.τ Cert.KernelIdeal.sig) → Buf (Elt Ideal) ℓ)
    (h : Pre_KernelIdeal_weights_normal m) (c : Dev Cert.KernelIdeal.nD) (R k : ℕ) : Normal (mag (Wrow m c R k)) := by
  by_cases hk : R < 36864 ∧ k < 7168
  · rw [Wrow_of m c R k hk]
    have h1 := congrFun (h c) ix0
    unfold Cert.Pre_weights_normal.fn at h1
    dsimp only at h1
    haveI : Subsingleton Cert.Pre_weights_normal.S_.Idx := ⟨fun a b => funext fun i => i.elim0⟩
    have h2 := Host.reduce_andi_all _ _ _ _ _ h1 (ix2 ⟨R, hk.1⟩ ⟨k, hk.2⟩)
    exact test_normal _ h2
  · unfold Wrow
    rw [dif_neg hk]
    left
    simp [mag]

theorem kept_from (W A : ℕ → EReal) (y : ℕ) : ∃ k, kept W A y = W k := by
  unfold kept pick keepLo keepHi cand
  repeat' split
  all_goals exact ⟨_, rfl⟩

theorem amax_normal (W A : ℕ → EReal) (h : ∀ k, Normal (mag (W k))) : Normal (amax W A) := by
  unfold amax
  obtain ⟨i, hi⟩ := exists_eq_ciSup_of_finite (f := fun c : Fin 3584 => mag (kept W A c.val))
  rw [← hi]
  obtain ⟨k, hk⟩ := kept_from W A i.val
  rw [hk]
  exact h k

end Cert.ScaleEq
end
-- ==== Proof.Algebraic.lean ====
/- The idealized kernel and the idealized reference have equal results. -/
module

public import proofs.«01_k».proof.Proof.KernelIdealResults
public import proofs.«01_k».proof.Proof.RefResults
public import proofs.«01_k».proof.Proof.Normal
public import proofs.«01_k».proof.Proof.Gen.KernelIdeal
public import proofs.«01_k».proof.Proof.Gen.ReferenceIdeal

@[expose] public section

set_option maxRecDepth 16384
set_option maxHeartbeats 1000000

noncomputable section

namespace Cert.Algebraic

open Idealize.ShloMosaic Idealize.ShloMosaic.TcCoe
open Cert.Spec Cert.ScaleEq

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs start from the same arguments. -/
def Same : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)

variable {m m'}

theorem row_eq (h : Same m m') (c : Dev Cert.KernelIdeal.nD) (R : ℕ) :
    Cert.ReferenceIdeal.Hand.Wrow m' c R = Cert.KernelIdeal.Hand.Wrow m c R := by
  funext k
  by_cases hk : R < 36864 ∧ k < 7168
  · rw [Cert.ReferenceIdeal.Hand.Wrow_of m' c R k hk, Cert.KernelIdeal.Hand.Wrow_of m c R k hk]
    exact congrFun (h c).1 _
  · unfold Cert.ReferenceIdeal.Hand.Wrow Cert.KernelIdeal.Hand.Wrow
    rw [dif_neg hk, dif_neg hk]

theorem norms_eq (h : Same m m') (c : Dev Cert.KernelIdeal.nD) :
    Cert.ReferenceIdeal.Hand.Arow m' c = Cert.KernelIdeal.Hand.Arow m c := by
  funext k
  by_cases hk : k < 7168
  · rw [Cert.ReferenceIdeal.Hand.Arow_of m' c k hk, Cert.KernelIdeal.Hand.Arow_of m c k hk]
    exact congrFun (h c).2 _
  · unfold Cert.ReferenceIdeal.Hand.Arow Cert.KernelIdeal.Hand.Arow
    rw [dif_neg hk, dif_neg hk]

theorem top_bits : Ideal.ofBits FTy.f32 0x43E00000#32 = Ideal.ofBits FTy.bf16 0x43E0#16 := by
  simp [Ideal.ofBits, Ideal.ieee, -EReal.coe_mul]; norm_num

theorem bottom_bits : Ideal.ofBits FTy.f32 0xC3E00000#32 = Ideal.ofBits FTy.bf16 0xC3E0#16 := by
  simp [Ideal.ofBits, Ideal.ieee, -EReal.coe_mul]; norm_num

theorem values_eq (hp : Pre_KernelIdeal_weights_normal m) (h : Same m m') (c : Dev Cert.KernelIdeal.nD) :
    Cert.ReferenceIdeal.Hand.RV m' c = Cert.KernelIdeal.HandV.KV m c := by
  funext y
  unfold Cert.ReferenceIdeal.Hand.RV Cert.KernelIdeal.HandV.KV Cert.ReferenceIdeal.Hand.clipR Cert.KernelIdeal.Hand.clip
    Cert.KernelIdeal.Hand.rowE Cert.ReferenceIdeal.Hand.two
  rw [row_eq h, norms_eq h, top_bits, bottom_bits, inv_eq (amax_normal _ _ fun k => pre_normal m hp c _ k)]

theorem metadata_eq (h : Same m m') (c : Dev Cert.KernelIdeal.nD) :
    Cert.ReferenceIdeal.Hand.RM m' c = Cert.KernelIdeal.HandV.KM m c := by
  funext y
  unfold Cert.ReferenceIdeal.Hand.RM Cert.KernelIdeal.HandV.KM
  rw [row_eq h, norms_eq h]

theorem scales_eq (hp : Pre_KernelIdeal_weights_normal m) (h : Same m m') (c : Dev Cert.KernelIdeal.nD) :
    Cert.ReferenceIdeal.Hand.RS m' c = Cert.KernelIdeal.HandV.KS m c := by
  funext y
  unfold Cert.ReferenceIdeal.Hand.RS Cert.KernelIdeal.HandV.KS Cert.KernelIdeal.Hand.rowE Cert.ReferenceIdeal.Hand.two
  rw [row_eq h, norms_eq h, scale_eq (amax_normal _ _ fun k => pre_normal m hp c _ k)]

/-- All three results agree. -/
theorem algebraic : Cert.algebraic_KernelIdeal_ReferenceIdeal_pre_weights_normal := by
  intro m g m' g' hp h
  refine ⟨fun c => Cert.KernelIdeal.HandV.KV m c, fun c => Cert.KernelIdeal.HandV.KM m c, fun c => Cert.KernelIdeal.HandV.KS m c,
    Cert.KernelIdeal.HandV.results m g, ?_⟩
  refine (θ_run _ _ _).mono (fun r k c => ⟨?_, ?_, ?_, (k c).2.2.2.1, (k c).2.2.2.2⟩) (Cert.ReferenceIdeal.Hand.results m' g')
  · exact (k c).1.trans (values_eq hp h c)
  · exact (k c).2.1.trans (metadata_eq h c)
  · exact (k c).2.2.1.trans (scales_eq hp h c)

end Cert.Algebraic
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.Algebraic
public import Idealize.ShloMosaic.Lib.Bf16Pair
public import Idealize.ShloMosaic.Lib.Bf16PairInverse
public import proofs.«01_k».proof.Proof.Gen.Pre_weights_normal
public import Idealize.ShloMosaic.Adequacy
public import Idealize.ShloMosaic.Init

@[expose] public section

noncomputable section

namespace Cert.Proof

open Idealize.ShloMosaic Idealize.SL.Sem Cert.Kernel

/-- The frames, the idealization's side conditions, and the equality of all three results. -/
theorem claim : Cert.Claim := ⟨Cert.Kernel.Gen.facts, Cert.KernelIdeal.Gen.facts, Cert.ReferenceIdeal.Gen.facts,
  Cert.Pre_weights_normal.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Hand.frame m ρ,
  fun m ρ _ => Cert.ReferenceIdeal.Hand.frame m ρ,
  ⟨IdealRules.bf16_pair.bufferStatement _ _, IdealRules.bf16_pair.packStatement _,
    IdealRules.bf16_pair.statement _ _, IdealRules.bf16_pair.statement _ _, IdealRules.bf16_pair.statement _ _,
    IdealRules.bf16_pair.statement _ _⟩,
  Cert.Algebraic.algebraic⟩

end Cert.Proof

end
